-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admitted_KernelIdeal [hPre_admitted_KernelIdeal : Cert.Pre_admitted_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_admitted_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_admitted_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_admitted_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admitted_ReferenceIdeal [hPre_admitted_ReferenceIdeal : Cert.Pre_admitted_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admitted_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_admitted_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_admitted_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_admitted_KernelIdeal [hKernelIdeal : Cert.KernelIdeal.Facts] [hPre_admitted_KernelIdeal : Cert.Pre_admitted_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admitted_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_admitted_ReferenceIdeal [hReferenceIdeal : Cert.ReferenceIdeal.Facts] [hPre_admitted_ReferenceIdeal : Cert.Pre_admitted_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admitted_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_admitted_KernelIdeal [hKernelIdeal : Cert.KernelIdeal.Facts] [hReferenceIdeal : Cert.ReferenceIdeal.Facts] [hPre_admitted_KernelIdeal : Cert.Pre_admitted_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admitted_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_admitted_KernelIdeal : Cert.Pre_admitted_KernelIdeal.Facts) (hPre_admitted_ReferenceIdeal : Cert.Pre_admitted_ReferenceIdeal.Facts),
    quiescent_Kernel (hKernel := hKernel)
    ∧ quiescent_KernelIdeal (hKernelIdeal := hKernelIdeal)
    ∧ quiescent_KernelIdeal_pre_admitted_KernelIdeal (hKernelIdeal := hKernelIdeal) (hPre_admitted_KernelIdeal := hPre_admitted_KernelIdeal)
    ∧ quiescent_ReferenceIdeal (hReferenceIdeal := hReferenceIdeal)
    ∧ quiescent_ReferenceIdeal_pre_admitted_ReferenceIdeal (hReferenceIdeal := hReferenceIdeal) (hPre_admitted_ReferenceIdeal := hPre_admitted_ReferenceIdeal)
    ∧ preserves_Kernel_KernelIdeal
    ∧ algebraic_KernelIdeal_ReferenceIdeal_pre_admitted_KernelIdeal (hKernelIdeal := hKernelIdeal) (hReferenceIdeal := hReferenceIdeal) (hPre_admitted_KernelIdeal := hPre_admitted_KernelIdeal)
-- ==== Pre_admitted_KernelIdeal.lean ====
abbrev S2048x1024 : Shape := ⟨2, ![2048, 1024]⟩
abbrev S1024x64 : Shape := ⟨2, ![1024, 64]⟩
abbrev S2048x2 : Shape := ⟨2, ![2048, 2]⟩
abbrev S8x1024x1024 : Shape := ⟨3, ![8, 1024, 1024]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S_ : Shape := ⟨0, ![]⟩

class Facts : Prop where
  bcast_S64_S1x64_1 : S64.BroadcastsInDim S1x64 (![1] : Fin 1 → Fin S1x64.rank)
  slices_S2048x2_S2048x1_0_0 : S2048x2.Slices ![0, 0] S2048x1
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  slices_S2048x2_S2048x1_0_1 : S2048x2.Slices ![0, 1] S2048x1
  natLt_1_32 : 1 < 32
  reducesTo_S2048x64_S64_d0 : S2048x64.ReducesTo [0] S64
  h_S_ : 0 < S_.numel
  bcast_S_S64 : S_.BroadcastsInDim S64 (![] : Fin 0 → Fin S64.rank)
  bcast_S_S2048x1024 : S_.BroadcastsInDim S2048x1024 (![] : Fin 0 → Fin S2048x1024.rank)
  bcast_S_S1024x64 : S_.BroadcastsInDim S1024x64 (![] : Fin 0 → Fin S1024x64.rank)

variable [Facts]

def fn_part1 {F : FTy → Type} [FloatOps F] (main_v14 : IVec S64 1) (main_v17 : IVec S2048x1024 1) (main_v18 : FVec F S1024x64 .f32) (main_v19 : FVec F S1024x64 .f32) : IVec S64 1 × IVec S2048x1024 1 × IVec S1024x64 1 :=
  let main_v20 : IVec S1024x64 1 := cmpf .olt main_v18 main_v19
  (main_v14, main_v17, main_v20)

def fn {F : FTy → Type} [FloatOps F] (main_arg0 : FVec F S2048x1024 .f32) (main_arg1 : FVec F S1024x64 .f32) (main_arg2 : IVec S2048x2 32) (main_arg3 : FVec F S8x1024x1024 .f32) : IVec S64 1 × IVec S2048x1024 1 × IVec S1024x64 1 :=
  let main_v0 : IVec S64 32 := iotaInDim S64 32 0
  let main_v1 : IVec S1x64 32 := broadcastInDim S1x64 ![1] bcast_S64_S1x64_1 main_v0
  let main_v2 : IVec S2048x1 32 := (extractStridedSlice S2048x1 ![0, 0] · slices_S2048x2_S2048x1_0_0) main_arg2
  let main_v3 : IVec S2048x64 32 := broadcastInDim S2048x64 ![0, 1] bcast_S2048x1_S2048x64_0_1 main_v2
  let main_v4 : IVec S2048x64 32 := broadcastInDim S2048x64 ![0, 1] bcast_S1x64_S2048x64_0_1 main_v1
  let main_v5 : IVec S2048x64 1 := cmpi .eq main_v3 main_v4
  let main_v6 : IVec S2048x1 32 := (extractStridedSlice S2048x1 ![0, 1] · slices_S2048x2_S2048x1_0_1) main_arg2
  let main_v7 : IVec S2048x64 32 := broadcastInDim S2048x64 ![0, 1] bcast_S2048x1_S2048x64_0_1 main_v6
  let main_v8 : IVec S2048x64 32 := broadcastInDim S2048x64 ![0, 1] bcast_S1x64_S2048x64_0_1 main_v1
  let main_v9 : IVec S2048x64 1 := cmpi .eq main_v7 main_v8
  let main_v10 : IVec S2048x64 1 := ori main_v5 main_v9
  let main_v11 : IVec S2048x64 32 := (extui 32 · natLt_1_32) main_v10
  let main_c : IVec S_ 32 := constantI S_ 32 0#32
  let main_v12 : IVec S64 32 := (fun x v => Host.reduce IntOp.addi x v reducesTo_S2048x64_S64_d0 h_S_) main_v11 main_c
  let main_c_0 : IVec S_ 32 := constantI S_ 32 128#32
  let main_v13 : IVec S64 32 := broadcastInDim S64 ![] bcast_S_S64 main_c_0
  let main_v14 : IVec S64 1 := cmpi .sle main_v12 main_v13
  let main_v15 : FVec F S2048x1024 .f32 := Host.absf main_arg0
  let main_cst : FVec F S_ .f32 := constant S_ .f32 0x7F800000#32
  let main_v16 : FVec F S2048x1024 .f32 := broadcastInDim S2048x1024 ![] bcast_S_S2048x1024 main_cst
  let main_v17 : IVec S2048x1024 1 := cmpf .olt main_v15 main_v16
  let main_v18 : FVec F S1024x64 .f32 := Host.absf main_arg1
  let main_cst_1 : FVec F S_ .f32 := constant S_ .f32 0x7F800000#32
  let main_v19 : FVec F S1024x64 .f32 := broadcastInDim S1024x64 ![] bcast_S_S1024x64 main_cst_1
  fn_part1 (F := F) main_v14 main_v17 main_v18 main_v19
-- ==== Pre_admitted_ReferenceIdeal.lean ====
abbrev S2048x1024 : Shape := ⟨2, ![2048, 1024]⟩
abbrev S1024x64 : Shape := ⟨2, ![1024, 64]⟩
abbrev S2048x2 : Shape := ⟨2, ![2048, 2]⟩
abbrev S64x1024x1024 : Shape := ⟨3, ![64, 1024, 1024]⟩
abbrev S64 : Shape := ⟨1, ![64]⟩
abbrev S1x64 : Shape := ⟨2, ![1, 64]⟩
abbrev S2048x1 : Shape := ⟨2, ![2048, 1]⟩
abbrev S2048x64 : Shape := ⟨2, ![2048, 64]⟩
abbrev S_ : Shape := ⟨0, ![]⟩

class Facts : Prop where
  bcast_S64_S1x64_1 : S64.BroadcastsInDim S1x64 (![1] : Fin 1 → Fin S1x64.rank)
  slices_S2048x2_S2048x1_0_0 : S2048x2.Slices ![0, 0] S2048x1
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  slices_S2048x2_S2048x1_0_1 : S2048x2.Slices ![0, 1] S2048x1
  natLt_1_32 : 1 < 32
  reducesTo_S2048x64_S64_d0 : S2048x64.ReducesTo [0] S64
  h_S_ : 0 < S_.numel
  bcast_S_S64 : S_.BroadcastsInDim S64 (![] : Fin 0 → Fin S64.rank)
  bcast_S_S2048x1024 : S_.BroadcastsInDim S2048x1024 (![] : Fin 0 → Fin S2048x1024.rank)
  bcast_S_S1024x64 : S_.BroadcastsInDim S1024x64 (![] : Fin 0 → Fin S1024x64.rank)

variable [Facts]

def fn_part1 {F : FTy → Type} [FloatOps F] (main_v14 : IVec S64 1) (main_v17 : IVec S2048x1024 1) (main_v18 : FVec F S1024x64 .f32) (main_v19 : FVec F S1024x64 .f32) : IVec S64 1 × IVec S2048x1024 1 × IVec S1024x64 1 :=
  let main_v20 : IVec S1024x64 1 := cmpf .olt main_v18 main_v19
  (main_v14, main_v17, main_v20)

def fn {F : FTy → Type} [FloatOps F] (main_arg0 : FVec F S2048x1024 .f32) (main_arg1 : FVec F S1024x64 .f32) (main_arg2 : IVec S2048x2 32) (main_arg3 : FVec F S64x1024x1024 .f32) : IVec S64 1 × IVec S2048x1024 1 × IVec S1024x64 1 :=
  let main_v0 : IVec S64 32 := iotaInDim S64 32 0
  let main_v1 : IVec S1x64 32 := broadcastInDim S1x64 ![1] bcast_S64_S1x64_1 main_v0
  let main_v2 : IVec S2048x1 32 := (extractStridedSlice S2048x1 ![0, 0] · slices_S2048x2_S2048x1_0_0) main_arg2
  let main_v3 : IVec S2048x64 32 := broadcastInDim S2048x64 ![0, 1] bcast_S2048x1_S2048x64_0_1 main_v2
  let main_v4 : IVec S2048x64 32 := broadcastInDim S2048x64 ![0, 1] bcast_S1x64_S2048x64_0_1 main_v1
  let main_v5 : IVec S2048x64 1 := cmpi .eq main_v3 main_v4
  let main_v6 : IVec S2048x1 32 := (extractStridedSlice S2048x1 ![0, 1] · slices_S2048x2_S2048x1_0_1) main_arg2
  let main_v7 : IVec S2048x64 32 := broadcastInDim S2048x64 ![0, 1] bcast_S2048x1_S2048x64_0_1 main_v6
  let main_v8 : IVec S2048x64 32 := broadcastInDim S2048x64 ![0, 1] bcast_S1x64_S2048x64_0_1 main_v1
  let main_v9 : IVec S2048x64 1 := cmpi .eq main_v7 main_v8
  let main_v10 : IVec S2048x64 1 := ori main_v5 main_v9
  let main_v11 : IVec S2048x64 32 := (extui 32 · natLt_1_32) main_v10
  let main_c : IVec S_ 32 := constantI S_ 32 0#32
  let main_v12 : IVec S64 32 := (fun x v => Host.reduce IntOp.addi x v reducesTo_S2048x64_S64_d0 h_S_) main_v11 main_c
  let main_c_0 : IVec S_ 32 := constantI S_ 32 128#32
  let main_v13 : IVec S64 32 := broadcastInDim S64 ![] bcast_S_S64 main_c_0
  let main_v14 : IVec S64 1 := cmpi .sle main_v12 main_v13
  let main_v15 : FVec F S2048x1024 .f32 := Host.absf main_arg0
  let main_cst : FVec F S_ .f32 := constant S_ .f32 0x7F800000#32
  let main_v16 : FVec F S2048x1024 .f32 := broadcastInDim S2048x1024 ![] bcast_S_S2048x1024 main_cst
  let main_v17 : IVec S2048x1024 1 := cmpf .olt main_v15 main_v16
  let main_v18 : FVec F S1024x64 .f32 := Host.absf main_arg1
  let main_cst_1 : FVec F S_ .f32 := constant S_ .f32 0x7F800000#32
  let main_v19 : FVec F S1024x64 .f32 := broadcastInDim S1024x64 ![] bcast_S_S1024x64 main_cst_1
  fn_part1 (F := F) main_v14 main_v17 main_v18 main_v19
-- ==== Kernel.lean ====
abbrev S2048x1024 : Shape := ⟨2, ![2048, 1024]⟩
abbrev S1024x64 : Shape := ⟨2, ![1024, 64]⟩
abbrev S2048x2 : Shape := ⟨2, ![2048, 2]⟩
abbrev S8x1024x1024 : Shape := ⟨3, ![8, 1024, 1024]⟩
abbrev S1024x1024 : Shape := ⟨2, ![1024, 1024]⟩
abbrev S6x1024x1024 : Shape := ⟨3, ![6, 1024, 1024]⟩
abbrev S6 : Shape := ⟨1, ![6]⟩
abbrev S352x1024 : Shape := ⟨2, ![352, 1024]⟩
abbrev S320x1024 : Shape := ⟨2, ![320, 1024]⟩
abbrev S1296x1024 : Shape := ⟨2, ![1296, 1024]⟩
abbrev S1184x1024 : Shape := ⟨2, ![1184, 1024]⟩
abbrev S18 : Shape := ⟨1, ![18]⟩
abbrev S1 : Shape := ⟨1, ![1]⟩
abbrev S_ : Shape := ⟨0, ![]⟩
abbrev S1x1024x1024 : Shape := ⟨3, ![1, 1024, 1024]⟩
abbrev S2048x64 : Shape := ⟨2, ![2048, 64]⟩
abbrev S2048 : Shape := ⟨1, ![2048]⟩
abbrev S2048x1 : Shape := ⟨2, ![2048, 1]⟩
abbrev S2048x8 : Shape := ⟨2, ![2048, 8]⟩
abbrev S512x2048 : Shape := ⟨2, ![512, 2048]⟩
abbrev S512x8 : Shape := ⟨2, ![512, 8]⟩
abbrev S512x8x1 : Shape := ⟨3, ![512, 8, 1]⟩
abbrev S512x8x128 : Shape := ⟨3, ![512, 8, 128]⟩
abbrev S512x1024 : Shape := ⟨2, ![512, 1024]⟩
abbrev S128x1024 : Shape := ⟨2, ![128, 1024]⟩
abbrev S176x1024 : Shape := ⟨2, ![176, 1024]⟩
abbrev S160x1024 : Shape := ⟨2, ![160, 1024]⟩
abbrev S88x1024 : Shape := ⟨2, ![88, 1024]⟩
abbrev S80x1024 : Shape := ⟨2, ![80, 1024]⟩

abbrev nBuf : Space → Nat
  | .hbm => 5
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S8x1024x1024, .f32⟩
  | .hbm, ⟨4, _⟩ => ⟨S2048x1024, .f32⟩
  | .local _ .vmem, ⟨0, _⟩ => ⟨S2048x1024, .f32⟩
  | .local _ .vmem, ⟨1, _⟩ => ⟨S1024x64, .f32⟩
  | .local _ .vmem, ⟨2, _⟩ => ⟨S2048x2, .i32⟩
  | .local _ .vmem, ⟨3, _⟩ => ⟨S2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S6x1024x1024, .f32⟩
  | .local _ .vmem, ⟨10, _⟩ => ⟨S352x1024, .bf16⟩
  | .local _ .vmem, ⟨11, _⟩ => ⟨S352x1024, .bf16⟩
  | .local _ .vmem, ⟨12, _⟩ => ⟨S320x1024, .bf16⟩
  | .local _ .vmem, ⟨13, _⟩ => ⟨S1296x1024, .bf16⟩
  | .local _ .vmem, ⟨14, _⟩ => ⟨S1296x1024, .bf16⟩
  | .local _ .vmem, ⟨15, _⟩ => ⟨S1184x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_48 : BitVec 32 := 1#32
  let v51 : BitVec 32 := Scalar.muli v11 c1_i32_48
  let v52 : BitVec 32 := Scalar.addi c0_i32_49 v51
  v52.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_51 : BitVec 32 := 1#32
  let v53 : BitVec 32 := Scalar.muli v12 c1_i32_51
  let v54 : BitVec 32 := Scalar.addi c0_i32_52 v53
  v54.toNat
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_54 : BitVec 32 := 1#32
  let v55 : BitVec 32 := Scalar.muli v13 c1_i32_54
  let v56 : BitVec 32 := Scalar.addi c0_i32_55 v55
  v56.toNat
def k0_off1 (d0 : Dev nD) : Fin 2 → Nat :=
  let c0_i32_243 : BitVec 32 := 0#32
  let c1_i32_242 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let v413 : BitVec 32 := Scalar.subi c1_i32_242 v6
  let c352_i32 : BitVec 32 := 352#32
  let v414 : BitVec 32 := Scalar.muli v413 c352_i32
  let v415 : BitVec 32 := Scalar.addi c0_i32_243 v414
  let v416 : Index := Scalar.indexCast v415
  let c0_244 : Index := 0#32
  ![v416.toNat, 0]
def k0_dev4 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_252 : BitVec 32 := 1#32
  let v424 : BitVec 32 := Scalar.muli v11 c1_i32_252
  let v425 : BitVec 32 := Scalar.addi c0_i32_253 v424
  v425.toNat
def k0_off2 (d0 : Dev nD) : Fin 2 → Nat :=
  let c704_i32 : BitVec 32 := 704#32
  let c1_i32_260 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let v434 : BitVec 32 := Scalar.subi c1_i32_260 v8
  let c352_i32_261 : BitVec 32 := 352#32
  let v435 : BitVec 32 := Scalar.muli v434 c352_i32_261
  let v436 : BitVec 32 := Scalar.addi c704_i32 v435
  let v437 : Index := Scalar.indexCast v436
  let c0_262 : Index := 0#32
  ![v437.toNat, 0]
def k0_dev5 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_270 : BitVec 32 := 1#32
  let v445 : BitVec 32 := Scalar.muli v12 c1_i32_270
  let v446 : BitVec 32 := Scalar.addi c0_i32_271 v445
  v446.toNat
def k0_off3 (d0 : Dev nD) : Fin 2 → Nat :=
  let c1408_i32 : BitVec 32 := 1408#32
  let c1_i32_278 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let v455 : BitVec 32 := Scalar.subi c1_i32_278 v10
  let c320_i32 : BitVec 32 := 320#32
  let v456 : BitVec 32 := Scalar.muli v455 c320_i32
  let v457 : BitVec 32 := Scalar.addi c1408_i32 v456
  let v458 : Index := Scalar.indexCast v457
  let c0_279 : Index := 0#32
  ![v458.toNat, 0]
def k0_dev6 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_286 : BitVec 32 := 1#32
  let v466 : BitVec 32 := Scalar.muli v13 c1_i32_286
  let v467 : BitVec 32 := Scalar.addi c0_i32_287 v466
  v467.toNat
def k0_off4 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let v476 : Index := Scalar.indexCast v433
  let c0_294 : Index := 0#32
  ![v476.toNat, 0]
def k0_off5 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let v482 : Index := Scalar.indexCast v454
  let c0_299 : Index := 0#32
  ![v482.toNat, 0]
def k0_off6 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let v488 : Index := Scalar.indexCast v475
  let c0_304 : Index := 0#32
  ![v488.toNat, 0]
def k0_off7 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_328 : BitVec 32 := 1#32
  let c1_i32_3 : BitVec 32 := 1#32
  let v7 : BitVec 32 := Scalar.shrsi v5 c1_i32_3
  let c1_i32_4 : BitVec 32 := 1#32
  let v8 : BitVec 32 := Scalar.andi v7 c1_i32_4
  let v512 : BitVec 32 := Scalar.subi c1_i32_328 v8
  let c176_i32 : BitVec 32 := 176#32
  let v513 : BitVec 32 := Scalar.muli v512 c176_i32
  let v514 : BitVec 32 := Scalar.addi v433 v513
  let v515 : Index := Scalar.indexCast v514
  let c0_329 : Index := 0#32
  ![v515.toNat, 0]
def k0_dev7 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_334 : BitVec 32 := 1#32
  let v522 : BitVec 32 := Scalar.muli v12 c1_i32_334
  let v523 : BitVec 32 := Scalar.addi c0_i32_335 v522
  v523.toNat
def k0_off8 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c1_i32_360 : BitVec 32 := 1#32
  let c2_i32 : BitVec 32 := 2#32
  let v9 : BitVec 32 := Scalar.shrsi v5 c2_i32
  let c1_i32_5 : BitVec 32 := 1#32
  let v10 : BitVec 32 := Scalar.andi v9 c1_i32_5
  let v550 : BitVec 32 := Scalar.subi c1_i32_360 v10
  let c176_i32_361 : BitVec 32 := 176#32
  let v551 : BitVec 32 := Scalar.muli v550 c176_i32_361
  let v552 : BitVec 32 := Scalar.addi v454 v551
  let v553 : Index := Scalar.indexCast v552
  let c0_362 : Index := 0#32
  ![v553.toNat, 0]
def k0_dev8 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_367 : BitVec 32 := 1#32
  let v560 : BitVec 32 := Scalar.muli v13 c1_i32_367
  let v561 : BitVec 32 := Scalar.addi c0_i32_368 v560
  v561.toNat
def k0_off9 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_393 : BitVec 32 := 1#32
  let c1_i32_2 : BitVec 32 := 1#32
  let v6 : BitVec 32 := Scalar.andi v5 c1_i32_2
  let v588 : BitVec 32 := Scalar.subi c1_i32_393 v6
  let c160_i32 : BitVec 32 := 160#32
  let v589 : BitVec 32 := Scalar.muli v588 c160_i32
  let v590 : BitVec 32 := Scalar.addi v475 v589
  let v591 : Index := Scalar.indexCast v590
  let c0_394 : Index := 0#32
  ![v591.toNat, 0]
def k0_dev9 (d0 : Dev nD) : Nat :=
  let c0_i32_399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_398 : BitVec 32 := 1#32
  let v598 : BitVec 32 := Scalar.muli v11 c1_i32_398
  let v599 : BitVec 32 := Scalar.addi c0_i32_399 v598
  v599.toNat
def k0_off10 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_3 : BitVec 32 := 1#32
  let v7 : BitVec 32 := Scalar.shrsi v5 c1_i32_3
  let c1_i32_4 : BitVec 32 := 1#32
  let v8 : BitVec 32 := Scalar.andi v7 c1_i32_4
  let c176_i32_340 : BitVec 32 := 176#32
  let v530 : BitVec 32 := Scalar.muli v8 c176_i32_340
  let v531 : BitVec 32 := Scalar.addi v433 v530
  let v620 : Index := Scalar.indexCast v531
  let c0_421 : Index := 0#32
  ![v620.toNat, 0]
def k0_off11 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_3 : BitVec 32 := 1#32
  let v7 : BitVec 32 := Scalar.shrsi v5 c1_i32_3
  let c1_i32_4 : BitVec 32 := 1#32
  let v8 : BitVec 32 := Scalar.andi v7 c1_i32_4
  let c176_i32_340 : BitVec 32 := 176#32
  let v530 : BitVec 32 := Scalar.muli v8 c176_i32_340
  let v531 : BitVec 32 := Scalar.addi v433 v530
  let c1_i32_423 : BitVec 32 := 1#32
  let c2_i32 : BitVec 32 := 2#32
  let v9 : BitVec 32 := Scalar.shrsi v5 c2_i32
  let c1_i32_5 : BitVec 32 := 1#32
  let v10 : BitVec 32 := Scalar.andi v9 c1_i32_5
  let v626 : BitVec 32 := Scalar.subi c1_i32_423 v10
  let c88_i32 : BitVec 32 := 88#32
  let v627 : BitVec 32 := Scalar.muli v626 c88_i32
  let v628 : BitVec 32 := Scalar.addi v531 v627
  let v629 : Index := Scalar.indexCast v628
  let c0_424 : Index := 0#32
  ![v629.toNat, 0]
def k0_dev10 (d0 : Dev nD) : Nat :=
  let c0_i32_430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_429 : BitVec 32 := 1#32
  let v636 : BitVec 32 := Scalar.muli v13 c1_i32_429
  let v637 : BitVec 32 := Scalar.addi c0_i32_430 v636
  v637.toNat
def k0_off12 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c2_i32 : BitVec 32 := 2#32
  let v9 : BitVec 32 := Scalar.shrsi v5 c2_i32
  let c1_i32_5 : BitVec 32 := 1#32
  let v10 : BitVec 32 := Scalar.andi v9 c1_i32_5
  let c176_i32_373 : BitVec 32 := 176#32
  let v568 : BitVec 32 := Scalar.muli v10 c176_i32_373
  let v569 : BitVec 32 := Scalar.addi v454 v568
  let v658 : Index := Scalar.indexCast v569
  let c0_452 : Index := 0#32
  ![v658.toNat, 0]
def k0_off13 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c2_i32 : BitVec 32 := 2#32
  let v9 : BitVec 32 := Scalar.shrsi v5 c2_i32
  let c1_i32_5 : BitVec 32 := 1#32
  let v10 : BitVec 32 := Scalar.andi v9 c1_i32_5
  let c176_i32_373 : BitVec 32 := 176#32
  let v568 : BitVec 32 := Scalar.muli v10 c176_i32_373
  let v569 : BitVec 32 := Scalar.addi v454 v568
  let c1_i32_454 : BitVec 32 := 1#32
  let c1_i32_2 : BitVec 32 := 1#32
  let v6 : BitVec 32 := Scalar.andi v5 c1_i32_2
  let v664 : BitVec 32 := Scalar.subi c1_i32_454 v6
  let c88_i32_455 : BitVec 32 := 88#32
  let v665 : BitVec 32 := Scalar.muli v664 c88_i32_455
  let v666 : BitVec 32 := Scalar.addi v569 v665
  let v667 : Index := Scalar.indexCast v666
  let c0_456 : Index := 0#32
  ![v667.toNat, 0]
def k0_dev11 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_461 : BitVec 32 := 1#32
  let v674 : BitVec 32 := Scalar.muli v11 c1_i32_461
  let v675 : BitVec 32 := Scalar.addi c0_i32_462 v674
  v675.toNat
def k0_off14 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_2 : BitVec 32 := 1#32
  let v6 : BitVec 32 := Scalar.andi v5 c1_i32_2
  let c160_i32_404 : BitVec 32 := 160#32
  let v606 : BitVec 32 := Scalar.muli v6 c160_i32_404
  let v607 : BitVec 32 := Scalar.addi v475 v606
  let v696 : Index := Scalar.indexCast v607
  let c0_484 : Index := 0#32
  ![v696.toNat, 0]
def k0_off15 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_2 : BitVec 32 := 1#32
  let v6 : BitVec 32 := Scalar.andi v5 c1_i32_2
  let c160_i32_404 : BitVec 32 := 160#32
  let v606 : BitVec 32 := Scalar.muli v6 c160_i32_404
  let v607 : BitVec 32 := Scalar.addi v475 v606
  let c1_i32_486 : BitVec 32 := 1#32
  let c1_i32_3 : BitVec 32 := 1#32
  let v7 : BitVec 32 := Scalar.shrsi v5 c1_i32_3
  let c1_i32_4 : BitVec 32 := 1#32
  let v8 : BitVec 32 := Scalar.andi v7 c1_i32_4
  let v702 : BitVec 32 := Scalar.subi c1_i32_486 v8
  let c80_i32 : BitVec 32 := 80#32
  let v703 : BitVec 32 := Scalar.muli v702 c80_i32
  let v704 : BitVec 32 := Scalar.addi v607 v703
  let v705 : Index := Scalar.indexCast v704
  let c0_487 : Index := 0#32
  ![v705.toNat, 0]
def k0_dev12 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_491 : BitVec 32 := 1#32
  let v712 : BitVec 32 := Scalar.muli v12 c1_i32_491
  let v713 : BitVec 32 := Scalar.addi c0_i32_492 v712
  v713.toNat
def k0_off16 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_3 : BitVec 32 := 1#32
  let v7 : BitVec 32 := Scalar.shrsi v5 c1_i32_3
  let c1_i32_4 : BitVec 32 := 1#32
  let v8 : BitVec 32 := Scalar.andi v7 c1_i32_4
  let c176_i32_340 : BitVec 32 := 176#32
  let v530 : BitVec 32 := Scalar.muli v8 c176_i32_340
  let v531 : BitVec 32 := Scalar.addi v433 v530
  let c2_i32 : BitVec 32 := 2#32
  let v9 : BitVec 32 := Scalar.shrsi v5 c2_i32
  let c1_i32_5 : BitVec 32 := 1#32
  let v10 : BitVec 32 := Scalar.andi v9 c1_i32_5
  let c88_i32_434 : BitVec 32 := 88#32
  let v644 : BitVec 32 := Scalar.muli v10 c88_i32_434
  let v645 : BitVec 32 := Scalar.addi v531 v644
  let v734 : Index := Scalar.indexCast v645
  let c0_513 : Index := 0#32
  ![v734.toNat, 0]
def k0_dev13 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_521 : BitVec 32 := 1#32
  let v749 : BitVec 32 := Scalar.muli v13 c1_i32_521
  let v750 : BitVec 32 := Scalar.addi c0_i32_522 v749
  v750.toNat
def k0_off17 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c2_i32 : BitVec 32 := 2#32
  let v9 : BitVec 32 := Scalar.shrsi v5 c2_i32
  let c1_i32_5 : BitVec 32 := 1#32
  let v10 : BitVec 32 := Scalar.andi v9 c1_i32_5
  let c176_i32_373 : BitVec 32 := 176#32
  let v568 : BitVec 32 := Scalar.muli v10 c176_i32_373
  let v569 : BitVec 32 := Scalar.addi v454 v568
  let c1_i32_2 : BitVec 32 := 1#32
  let v6 : BitVec 32 := Scalar.andi v5 c1_i32_2
  let c88_i32_467 : BitVec 32 := 88#32
  let v682 : BitVec 32 := Scalar.muli v6 c88_i32_467
  let v683 : BitVec 32 := Scalar.addi v569 v682
  let v772 : Index := Scalar.indexCast v683
  let c0_545 : Index := 0#32
  ![v772.toNat, 0]
def k0_dev14 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_552 : BitVec 32 := 1#32
  let v787 : BitVec 32 := Scalar.muli v11 c1_i32_552
  let v788 : BitVec 32 := Scalar.addi c0_i32_553 v787
  v788.toNat
def k0_off18 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_2 : BitVec 32 := 1#32
  let v6 : BitVec 32 := Scalar.andi v5 c1_i32_2
  let c160_i32_404 : BitVec 32 := 160#32
  let v606 : BitVec 32 := Scalar.muli v6 c160_i32_404
  let v607 : BitVec 32 := Scalar.addi v475 v606
  let c1_i32_3 : BitVec 32 := 1#32
  let v7 : BitVec 32 := Scalar.shrsi v5 c1_i32_3
  let c1_i32_4 : BitVec 32 := 1#32
  let v8 : BitVec 32 := Scalar.andi v7 c1_i32_4
  let c80_i32_496 : BitVec 32 := 80#32
  let v720 : BitVec 32 := Scalar.muli v8 c80_i32_496
  let v721 : BitVec 32 := Scalar.addi v607 v720
  let v810 : Index := Scalar.indexCast v721
  let c0_576 : Index := 0#32
  ![v810.toNat, 0]
def k0_dev15 (d0 : Dev nD) : Nat :=
  let c0_i32_584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_583 : BitVec 32 := 1#32
  let v825 : BitVec 32 := Scalar.muli v12 c1_i32_583
  let v826 : BitVec 32 := Scalar.addi c0_i32_584 v825
  v826.toNat
def k0_off19 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_3 : BitVec 32 := 1#32
  let v7 : BitVec 32 := Scalar.shrsi v5 c1_i32_3
  let c1_i32_4 : BitVec 32 := 1#32
  let v8 : BitVec 32 := Scalar.andi v7 c1_i32_4
  let c176_i32_340 : BitVec 32 := 176#32
  let v530 : BitVec 32 := Scalar.muli v8 c176_i32_340
  let v531 : BitVec 32 := Scalar.addi v433 v530
  let c2_i32 : BitVec 32 := 2#32
  let v9 : BitVec 32 := Scalar.shrsi v5 c2_i32
  let c1_i32_5 : BitVec 32 := 1#32
  let v10 : BitVec 32 := Scalar.andi v9 c1_i32_5
  let c88_i32_434 : BitVec 32 := 88#32
  let v644 : BitVec 32 := Scalar.muli v10 c88_i32_434
  let v645 : BitVec 32 := Scalar.addi v531 v644
  let c88_i32_515 : BitVec 32 := 88#32
  let v740 : BitVec 32 := Scalar.muli v10 c88_i32_515
  let v741 : BitVec 32 := Scalar.subi v645 v740
  let c1_i32_526 : BitVec 32 := 1#32
  let v757 : BitVec 32 := Scalar.subi c1_i32_526 v10
  let c88_i32_527 : BitVec 32 := 88#32
  let v758 : BitVec 32 := Scalar.muli v757 c88_i32_527
  let v759 : BitVec 32 := Scalar.addi v741 v758
  let v848 : Index := Scalar.indexCast v759
  let c0_606 : Index := 0#32
  ![v848.toNat, 0]
def k0_off20 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_3 : BitVec 32 := 1#32
  let v7 : BitVec 32 := Scalar.shrsi v5 c1_i32_3
  let c1_i32_4 : BitVec 32 := 1#32
  let v8 : BitVec 32 := Scalar.andi v7 c1_i32_4
  let c176_i32_340 : BitVec 32 := 176#32
  let v530 : BitVec 32 := Scalar.muli v8 c176_i32_340
  let v531 : BitVec 32 := Scalar.addi v433 v530
  let c2_i32 : BitVec 32 := 2#32
  let v9 : BitVec 32 := Scalar.shrsi v5 c2_i32
  let c1_i32_5 : BitVec 32 := 1#32
  let v10 : BitVec 32 := Scalar.andi v9 c1_i32_5
  let c88_i32_434 : BitVec 32 := 88#32
  let v644 : BitVec 32 := Scalar.muli v10 c88_i32_434
  let v645 : BitVec 32 := Scalar.addi v531 v644
  let c88_i32_515 : BitVec 32 := 88#32
  let v740 : BitVec 32 := Scalar.muli v10 c88_i32_515
  let v741 : BitVec 32 := Scalar.subi v645 v740
  let v852 : Index := Scalar.indexCast v741
  let c0_608 : Index := 0#32
  ![v852.toNat, 0]
def k0_dev16 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_613 : BitVec 32 := 1#32
  let v859 : BitVec 32 := Scalar.muli v12 c1_i32_613
  let v860 : BitVec 32 := Scalar.addi c0_i32_614 v859
  v860.toNat
def k0_off21 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c2_i32 : BitVec 32 := 2#32
  let v9 : BitVec 32 := Scalar.shrsi v5 c2_i32
  let c1_i32_5 : BitVec 32 := 1#32
  let v10 : BitVec 32 := Scalar.andi v9 c1_i32_5
  let c176_i32_373 : BitVec 32 := 176#32
  let v568 : BitVec 32 := Scalar.muli v10 c176_i32_373
  let v569 : BitVec 32 := Scalar.addi v454 v568
  let c1_i32_2 : BitVec 32 := 1#32
  let v6 : BitVec 32 := Scalar.andi v5 c1_i32_2
  let c88_i32_467 : BitVec 32 := 88#32
  let v682 : BitVec 32 := Scalar.muli v6 c88_i32_467
  let v683 : BitVec 32 := Scalar.addi v569 v682
  let c88_i32_547 : BitVec 32 := 88#32
  let v778 : BitVec 32 := Scalar.muli v6 c88_i32_547
  let v779 : BitVec 32 := Scalar.subi v683 v778
  let c1_i32_558 : BitVec 32 := 1#32
  let v795 : BitVec 32 := Scalar.subi c1_i32_558 v6
  let c88_i32_559 : BitVec 32 := 88#32
  let v796 : BitVec 32 := Scalar.muli v795 c88_i32_559
  let v797 : BitVec 32 := Scalar.addi v779 v796
  let v882 : Index := Scalar.indexCast v797
  let c0_637 : Index := 0#32
  ![v882.toNat, 0]
def k0_off22 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c2_i32 : BitVec 32 := 2#32
  let v9 : BitVec 32 := Scalar.shrsi v5 c2_i32
  let c1_i32_5 : BitVec 32 := 1#32
  let v10 : BitVec 32 := Scalar.andi v9 c1_i32_5
  let c176_i32_373 : BitVec 32 := 176#32
  let v568 : BitVec 32 := Scalar.muli v10 c176_i32_373
  let v569 : BitVec 32 := Scalar.addi v454 v568
  let c1_i32_2 : BitVec 32 := 1#32
  let v6 : BitVec 32 := Scalar.andi v5 c1_i32_2
  let c88_i32_467 : BitVec 32 := 88#32
  let v682 : BitVec 32 := Scalar.muli v6 c88_i32_467
  let v683 : BitVec 32 := Scalar.addi v569 v682
  let c88_i32_547 : BitVec 32 := 88#32
  let v778 : BitVec 32 := Scalar.muli v6 c88_i32_547
  let v779 : BitVec 32 := Scalar.subi v683 v778
  let v886 : Index := Scalar.indexCast v779
  let c0_639 : Index := 0#32
  ![v886.toNat, 0]
def k0_dev17 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_643 : BitVec 32 := 1#32
  let v893 : BitVec 32 := Scalar.muli v13 c1_i32_643
  let v894 : BitVec 32 := Scalar.addi c0_i32_644 v893
  v894.toNat
def k0_off23 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_2 : BitVec 32 := 1#32
  let v6 : BitVec 32 := Scalar.andi v5 c1_i32_2
  let c160_i32_404 : BitVec 32 := 160#32
  let v606 : BitVec 32 := Scalar.muli v6 c160_i32_404
  let v607 : BitVec 32 := Scalar.addi v475 v606
  let c1_i32_3 : BitVec 32 := 1#32
  let v7 : BitVec 32 := Scalar.shrsi v5 c1_i32_3
  let c1_i32_4 : BitVec 32 := 1#32
  let v8 : BitVec 32 := Scalar.andi v7 c1_i32_4
  let c80_i32_496 : BitVec 32 := 80#32
  let v720 : BitVec 32 := Scalar.muli v8 c80_i32_496
  let v721 : BitVec 32 := Scalar.addi v607 v720
  let c80_i32_578 : BitVec 32 := 80#32
  let v816 : BitVec 32 := Scalar.muli v8 c80_i32_578
  let v817 : BitVec 32 := Scalar.subi v721 v816
  let c1_i32_588 : BitVec 32 := 1#32
  let v833 : BitVec 32 := Scalar.subi c1_i32_588 v8
  let c80_i32_589 : BitVec 32 := 80#32
  let v834 : BitVec 32 := Scalar.muli v833 c80_i32_589
  let v835 : BitVec 32 := Scalar.addi v817 v834
  let v916 : Index := Scalar.indexCast v835
  let c0_667 : Index := 0#32
  ![v916.toNat, 0]
def k0_off24 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_2 : BitVec 32 := 1#32
  let v6 : BitVec 32 := Scalar.andi v5 c1_i32_2
  let c160_i32_404 : BitVec 32 := 160#32
  let v606 : BitVec 32 := Scalar.muli v6 c160_i32_404
  let v607 : BitVec 32 := Scalar.addi v475 v606
  let c1_i32_3 : BitVec 32 := 1#32
  let v7 : BitVec 32 := Scalar.shrsi v5 c1_i32_3
  let c1_i32_4 : BitVec 32 := 1#32
  let v8 : BitVec 32 := Scalar.andi v7 c1_i32_4
  let c80_i32_496 : BitVec 32 := 80#32
  let v720 : BitVec 32 := Scalar.muli v8 c80_i32_496
  let v721 : BitVec 32 := Scalar.addi v607 v720
  let c80_i32_578 : BitVec 32 := 80#32
  let v816 : BitVec 32 := Scalar.muli v8 c80_i32_578
  let v817 : BitVec 32 := Scalar.subi v721 v816
  let v920 : Index := Scalar.indexCast v817
  let c0_669 : Index := 0#32
  ![v920.toNat, 0]
def k0_dev18 (d0 : Dev nD) : Nat :=
  let c0_i32_674 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_673 : BitVec 32 := 1#32
  let v927 : BitVec 32 := Scalar.muli v11 c1_i32_673
  let v928 : BitVec 32 := Scalar.addi c0_i32_674 v927
  v928.toNat
def k0_off25 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_3 : BitVec 32 := 1#32
  let v7 : BitVec 32 := Scalar.shrsi v5 c1_i32_3
  let c1_i32_4 : BitVec 32 := 1#32
  let v8 : BitVec 32 := Scalar.andi v7 c1_i32_4
  let c176_i32_340 : BitVec 32 := 176#32
  let v530 : BitVec 32 := Scalar.muli v8 c176_i32_340
  let v531 : BitVec 32 := Scalar.addi v433 v530
  let c2_i32 : BitVec 32 := 2#32
  let v9 : BitVec 32 := Scalar.shrsi v5 c2_i32
  let c1_i32_5 : BitVec 32 := 1#32
  let v10 : BitVec 32 := Scalar.andi v9 c1_i32_5
  let c88_i32_434 : BitVec 32 := 88#32
  let v644 : BitVec 32 := Scalar.muli v10 c88_i32_434
  let v645 : BitVec 32 := Scalar.addi v531 v644
  let c88_i32_515 : BitVec 32 := 88#32
  let v740 : BitVec 32 := Scalar.muli v10 c88_i32_515
  let v741 : BitVec 32 := Scalar.subi v645 v740
  let c176_i32_607 : BitVec 32 := 176#32
  let v850 : BitVec 32 := Scalar.muli v8 c176_i32_607
  let v851 : BitVec 32 := Scalar.subi v741 v850
  let c1_i32_618 : BitVec 32 := 1#32
  let v867 : BitVec 32 := Scalar.subi c1_i32_618 v8
  let c176_i32_619 : BitVec 32 := 176#32
  let v868 : BitVec 32 := Scalar.muli v867 c176_i32_619
  let v869 : BitVec 32 := Scalar.addi v851 v868
  let v950 : Index := Scalar.indexCast v869
  let c0_696 : Index := 0#32
  ![v950.toNat, 0]
def k0_off26 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_3 : BitVec 32 := 1#32
  let v7 : BitVec 32 := Scalar.shrsi v5 c1_i32_3
  let c1_i32_4 : BitVec 32 := 1#32
  let v8 : BitVec 32 := Scalar.andi v7 c1_i32_4
  let c176_i32_340 : BitVec 32 := 176#32
  let v530 : BitVec 32 := Scalar.muli v8 c176_i32_340
  let v531 : BitVec 32 := Scalar.addi v433 v530
  let c2_i32 : BitVec 32 := 2#32
  let v9 : BitVec 32 := Scalar.shrsi v5 c2_i32
  let c1_i32_5 : BitVec 32 := 1#32
  let v10 : BitVec 32 := Scalar.andi v9 c1_i32_5
  let c88_i32_434 : BitVec 32 := 88#32
  let v644 : BitVec 32 := Scalar.muli v10 c88_i32_434
  let v645 : BitVec 32 := Scalar.addi v531 v644
  let c88_i32_515 : BitVec 32 := 88#32
  let v740 : BitVec 32 := Scalar.muli v10 c88_i32_515
  let v741 : BitVec 32 := Scalar.subi v645 v740
  let c176_i32_607 : BitVec 32 := 176#32
  let v850 : BitVec 32 := Scalar.muli v8 c176_i32_607
  let v851 : BitVec 32 := Scalar.subi v741 v850
  let v954 : Index := Scalar.indexCast v851
  let c0_698 : Index := 0#32
  ![v954.toNat, 0]
def k0_dev19 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v11 : BitVec 32 := Scalar.xori v2 c1_i32_6
  let c1_i32_703 : BitVec 32 := 1#32
  let v961 : BitVec 32 := Scalar.muli v11 c1_i32_703
  let v962 : BitVec 32 := Scalar.addi c0_i32_704 v961
  v962.toNat
def k0_off27 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c2_i32 : BitVec 32 := 2#32
  let v9 : BitVec 32 := Scalar.shrsi v5 c2_i32
  let c1_i32_5 : BitVec 32 := 1#32
  let v10 : BitVec 32 := Scalar.andi v9 c1_i32_5
  let c176_i32_373 : BitVec 32 := 176#32
  let v568 : BitVec 32 := Scalar.muli v10 c176_i32_373
  let v569 : BitVec 32 := Scalar.addi v454 v568
  let c1_i32_2 : BitVec 32 := 1#32
  let v6 : BitVec 32 := Scalar.andi v5 c1_i32_2
  let c88_i32_467 : BitVec 32 := 88#32
  let v682 : BitVec 32 := Scalar.muli v6 c88_i32_467
  let v683 : BitVec 32 := Scalar.addi v569 v682
  let c88_i32_547 : BitVec 32 := 88#32
  let v778 : BitVec 32 := Scalar.muli v6 c88_i32_547
  let v779 : BitVec 32 := Scalar.subi v683 v778
  let c176_i32_638 : BitVec 32 := 176#32
  let v884 : BitVec 32 := Scalar.muli v10 c176_i32_638
  let v885 : BitVec 32 := Scalar.subi v779 v884
  let c1_i32_649 : BitVec 32 := 1#32
  let v901 : BitVec 32 := Scalar.subi c1_i32_649 v10
  let c176_i32_650 : BitVec 32 := 176#32
  let v902 : BitVec 32 := Scalar.muli v901 c176_i32_650
  let v903 : BitVec 32 := Scalar.addi v885 v902
  let v984 : Index := Scalar.indexCast v903
  let c0_727 : Index := 0#32
  ![v984.toNat, 0]
def k0_off28 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c2_i32 : BitVec 32 := 2#32
  let v9 : BitVec 32 := Scalar.shrsi v5 c2_i32
  let c1_i32_5 : BitVec 32 := 1#32
  let v10 : BitVec 32 := Scalar.andi v9 c1_i32_5
  let c176_i32_373 : BitVec 32 := 176#32
  let v568 : BitVec 32 := Scalar.muli v10 c176_i32_373
  let v569 : BitVec 32 := Scalar.addi v454 v568
  let c1_i32_2 : BitVec 32 := 1#32
  let v6 : BitVec 32 := Scalar.andi v5 c1_i32_2
  let c88_i32_467 : BitVec 32 := 88#32
  let v682 : BitVec 32 := Scalar.muli v6 c88_i32_467
  let v683 : BitVec 32 := Scalar.addi v569 v682
  let c88_i32_547 : BitVec 32 := 88#32
  let v778 : BitVec 32 := Scalar.muli v6 c88_i32_547
  let v779 : BitVec 32 := Scalar.subi v683 v778
  let c176_i32_638 : BitVec 32 := 176#32
  let v884 : BitVec 32 := Scalar.muli v10 c176_i32_638
  let v885 : BitVec 32 := Scalar.subi v779 v884
  let v988 : Index := Scalar.indexCast v885
  let c0_729 : Index := 0#32
  ![v988.toNat, 0]
def k0_dev20 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.xori v2 c3_i32
  let c1_i32_733 : BitVec 32 := 1#32
  let v995 : BitVec 32 := Scalar.muli v12 c1_i32_733
  let v996 : BitVec 32 := Scalar.addi c0_i32_734 v995
  v996.toNat
def k0_off29 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_2 : BitVec 32 := 1#32
  let v6 : BitVec 32 := Scalar.andi v5 c1_i32_2
  let c160_i32_404 : BitVec 32 := 160#32
  let v606 : BitVec 32 := Scalar.muli v6 c160_i32_404
  let v607 : BitVec 32 := Scalar.addi v475 v606
  let c1_i32_3 : BitVec 32 := 1#32
  let v7 : BitVec 32 := Scalar.shrsi v5 c1_i32_3
  let c1_i32_4 : BitVec 32 := 1#32
  let v8 : BitVec 32 := Scalar.andi v7 c1_i32_4
  let c80_i32_496 : BitVec 32 := 80#32
  let v720 : BitVec 32 := Scalar.muli v8 c80_i32_496
  let v721 : BitVec 32 := Scalar.addi v607 v720
  let c80_i32_578 : BitVec 32 := 80#32
  let v816 : BitVec 32 := Scalar.muli v8 c80_i32_578
  let v817 : BitVec 32 := Scalar.subi v721 v816
  let c160_i32_668 : BitVec 32 := 160#32
  let v918 : BitVec 32 := Scalar.muli v6 c160_i32_668
  let v919 : BitVec 32 := Scalar.subi v817 v918
  let c1_i32_678 : BitVec 32 := 1#32
  let v935 : BitVec 32 := Scalar.subi c1_i32_678 v6
  let c160_i32_679 : BitVec 32 := 160#32
  let v936 : BitVec 32 := Scalar.muli v935 c160_i32_679
  let v937 : BitVec 32 := Scalar.addi v919 v936
  let v1018 : Index := Scalar.indexCast v937
  let c0_758 : Index := 0#32
  ![v1018.toNat, 0]
def k0_off30 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_2 : BitVec 32 := 1#32
  let v6 : BitVec 32 := Scalar.andi v5 c1_i32_2
  let c160_i32_404 : BitVec 32 := 160#32
  let v606 : BitVec 32 := Scalar.muli v6 c160_i32_404
  let v607 : BitVec 32 := Scalar.addi v475 v606
  let c1_i32_3 : BitVec 32 := 1#32
  let v7 : BitVec 32 := Scalar.shrsi v5 c1_i32_3
  let c1_i32_4 : BitVec 32 := 1#32
  let v8 : BitVec 32 := Scalar.andi v7 c1_i32_4
  let c80_i32_496 : BitVec 32 := 80#32
  let v720 : BitVec 32 := Scalar.muli v8 c80_i32_496
  let v721 : BitVec 32 := Scalar.addi v607 v720
  let c80_i32_578 : BitVec 32 := 80#32
  let v816 : BitVec 32 := Scalar.muli v8 c80_i32_578
  let v817 : BitVec 32 := Scalar.subi v721 v816
  let c160_i32_668 : BitVec 32 := 160#32
  let v918 : BitVec 32 := Scalar.muli v6 c160_i32_668
  let v919 : BitVec 32 := Scalar.subi v817 v918
  let v1022 : Index := Scalar.indexCast v919
  let c0_760 : Index := 0#32
  ![v1022.toNat, 0]
def k0_dev21 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_764 : BitVec 32 := 1#32
  let v1029 : BitVec 32 := Scalar.muli v13 c1_i32_764
  let v1030 : BitVec 32 := Scalar.addi c0_i32_765 v1029
  v1030.toNat
def k0_off31 (d0 : Dev nD) : Fin 2 → Nat :=
  let c0_i32_259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v6 : BitVec 32 := Scalar.andi v5 c1_i32_2
  let c352_i32_258 : BitVec 32 := 352#32
  let v432 : BitVec 32 := Scalar.muli v6 c352_i32_258
  let v433 : BitVec 32 := Scalar.addi c0_i32_259 v432
  let c1_i32_3 : BitVec 32 := 1#32
  let v7 : BitVec 32 := Scalar.shrsi v5 c1_i32_3
  let c1_i32_4 : BitVec 32 := 1#32
  let v8 : BitVec 32 := Scalar.andi v7 c1_i32_4
  let c176_i32_340 : BitVec 32 := 176#32
  let v530 : BitVec 32 := Scalar.muli v8 c176_i32_340
  let v531 : BitVec 32 := Scalar.addi v433 v530
  let c2_i32 : BitVec 32 := 2#32
  let v9 : BitVec 32 := Scalar.shrsi v5 c2_i32
  let c1_i32_5 : BitVec 32 := 1#32
  let v10 : BitVec 32 := Scalar.andi v9 c1_i32_5
  let c88_i32_434 : BitVec 32 := 88#32
  let v644 : BitVec 32 := Scalar.muli v10 c88_i32_434
  let v645 : BitVec 32 := Scalar.addi v531 v644
  let c88_i32_515 : BitVec 32 := 88#32
  let v740 : BitVec 32 := Scalar.muli v10 c88_i32_515
  let v741 : BitVec 32 := Scalar.subi v645 v740
  let c176_i32_607 : BitVec 32 := 176#32
  let v850 : BitVec 32 := Scalar.muli v8 c176_i32_607
  let v851 : BitVec 32 := Scalar.subi v741 v850
  let c352_i32_697 : BitVec 32 := 352#32
  let v952 : BitVec 32 := Scalar.muli v6 c352_i32_697
  let v953 : BitVec 32 := Scalar.subi v851 v952
  let c1_i32_708 : BitVec 32 := 1#32
  let v969 : BitVec 32 := Scalar.subi c1_i32_708 v6
  let c352_i32_709 : BitVec 32 := 352#32
  let v970 : BitVec 32 := Scalar.muli v969 c352_i32_709
  let v971 : BitVec 32 := Scalar.addi v953 v970
  let v1052 : Index := Scalar.indexCast v971
  let c0_788 : Index := 0#32
  ![v1052.toNat, 0]
def k0_off32 (d0 : Dev nD) : Fin 2 → Nat :=
  let c704_i32_277 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3 : BitVec 32 := 1#32
  let v7 : BitVec 32 := Scalar.shrsi v5 c1_i32_3
  let c1_i32_4 : BitVec 32 := 1#32
  let v8 : BitVec 32 := Scalar.andi v7 c1_i32_4
  let c352_i32_276 : BitVec 32 := 352#32
  let v453 : BitVec 32 := Scalar.muli v8 c352_i32_276
  let v454 : BitVec 32 := Scalar.addi c704_i32_277 v453
  let c2_i32 : BitVec 32 := 2#32
  let v9 : BitVec 32 := Scalar.shrsi v5 c2_i32
  let c1_i32_5 : BitVec 32 := 1#32
  let v10 : BitVec 32 := Scalar.andi v9 c1_i32_5
  let c176_i32_373 : BitVec 32 := 176#32
  let v568 : BitVec 32 := Scalar.muli v10 c176_i32_373
  let v569 : BitVec 32 := Scalar.addi v454 v568
  let c1_i32_2 : BitVec 32 := 1#32
  let v6 : BitVec 32 := Scalar.andi v5 c1_i32_2
  let c88_i32_467 : BitVec 32 := 88#32
  let v682 : BitVec 32 := Scalar.muli v6 c88_i32_467
  let v683 : BitVec 32 := Scalar.addi v569 v682
  let c88_i32_547 : BitVec 32 := 88#32
  let v778 : BitVec 32 := Scalar.muli v6 c88_i32_547
  let v779 : BitVec 32 := Scalar.subi v683 v778
  let c176_i32_638 : BitVec 32 := 176#32
  let v884 : BitVec 32 := Scalar.muli v10 c176_i32_638
  let v885 : BitVec 32 := Scalar.subi v779 v884
  let c352_i32_728 : BitVec 32 := 352#32
  let v986 : BitVec 32 := Scalar.muli v8 c352_i32_728
  let v987 : BitVec 32 := Scalar.subi v885 v986
  let c1_i32_739 : BitVec 32 := 1#32
  let v1003 : BitVec 32 := Scalar.subi c1_i32_739 v8
  let c352_i32_740 : BitVec 32 := 352#32
  let v1004 : BitVec 32 := Scalar.muli v1003 c352_i32_740
  let v1005 : BitVec 32 := Scalar.addi v987 v1004
  let v1066 : Index := Scalar.indexCast v1005
  let c0_806 : Index := 0#32
  ![v1066.toNat, 0]
def k0_off33 (d0 : Dev nD) : Fin 2 → Nat :=
  let c1408_i32_293 : BitVec 32 := 1408#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v9 : BitVec 32 := Scalar.shrsi v5 c2_i32
  let c1_i32_5 : BitVec 32 := 1#32
  let v10 : BitVec 32 := Scalar.andi v9 c1_i32_5
  let c320_i32_292 : BitVec 32 := 320#32
  let v474 : BitVec 32 := Scalar.muli v10 c320_i32_292
  let v475 : BitVec 32 := Scalar.addi c1408_i32_293 v474
  let c1_i32_2 : BitVec 32 := 1#32
  let v6 : BitVec 32 := Scalar.andi v5 c1_i32_2
  let c160_i32_404 : BitVec 32 := 160#32
  let v606 : BitVec 32 := Scalar.muli v6 c160_i32_404
  let v607 : BitVec 32 := Scalar.addi v475 v606
  let c1_i32_3 : BitVec 32 := 1#32
  let v7 : BitVec 32 := Scalar.shrsi v5 c1_i32_3
  let c1_i32_4 : BitVec 32 := 1#32
  let v8 : BitVec 32 := Scalar.andi v7 c1_i32_4
  let c80_i32_496 : BitVec 32 := 80#32
  let v720 : BitVec 32 := Scalar.muli v8 c80_i32_496
  let v721 : BitVec 32 := Scalar.addi v607 v720
  let c80_i32_578 : BitVec 32 := 80#32
  let v816 : BitVec 32 := Scalar.muli v8 c80_i32_578
  let v817 : BitVec 32 := Scalar.subi v721 v816
  let c160_i32_668 : BitVec 32 := 160#32
  let v918 : BitVec 32 := Scalar.muli v6 c160_i32_668
  let v919 : BitVec 32 := Scalar.subi v817 v918
  let c320_i32_759 : BitVec 32 := 320#32
  let v1020 : BitVec 32 := Scalar.muli v10 c320_i32_759
  let v1021 : BitVec 32 := Scalar.subi v919 v1020
  let c1_i32_769 : BitVec 32 := 1#32
  let v1037 : BitVec 32 := Scalar.subi c1_i32_769 v10
  let c320_i32_770 : BitVec 32 := 320#32
  let v1038 : BitVec 32 := Scalar.muli v1037 c320_i32_770
  let v1039 : BitVec 32 := Scalar.addi v1021 v1038
  let v1080 : Index := Scalar.indexCast v1039
  let c0_823 : Index := 0#32
  ![v1080.toNat, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x1024 : Shape := ⟨2, ![2048, 1024]⟩
abbrev S1024x64 : Shape := ⟨2, ![1024, 64]⟩
abbrev S2048x2 : Shape := ⟨2, ![2048, 2]⟩
abbrev S64x1024x1024 : Shape := ⟨3, ![64, 1024, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S2048x64x1024 : Shape := ⟨3, ![2048, 64, 1024]⟩
abbrev S2048x64x1 : Shape := ⟨3, ![2048, 64, 1]⟩

abbrev nBuf : Space → Nat
  | .hbm => 71
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x64, .f32⟩
  | .hbm, ⟨2, _⟩ => ⟨S2048x2, .i32⟩
  | .hbm, ⟨3, _⟩ => ⟨S64x1024x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048x1, .i32⟩
  | .hbm, ⟨17, _⟩ => ⟨S2048x1, .i32⟩
  | .hbm, ⟨18, _⟩ => ⟨S64, .i32⟩
  | .hbm, ⟨19, _⟩ => ⟨S1x64, .i32⟩
  | .hbm, ⟨20, _⟩ => ⟨S2048x64, .i32⟩
  | .hbm, ⟨21, _⟩ => ⟨S2048x64, .i32⟩
  | .hbm, ⟨22, _⟩ => ⟨S2048x64, .i1⟩
  | .hbm, ⟨23, _⟩ => ⟨S_, .f32⟩
  | .hbm, ⟨24, _⟩ => ⟨S_, .f32⟩
  | .hbm, ⟨25, _⟩ => ⟨S2048x64, .f32⟩
  | .hbm, ⟨26, _⟩ => ⟨S2048x64, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x64, .i32⟩
  | .hbm, ⟨31, _⟩ => ⟨S2048x64, .i32⟩
  | .hbm, ⟨32, _⟩ => ⟨S2048x64, .i1⟩
  | .hbm, ⟨33, _⟩ => ⟨S_, .f32⟩
  | .hbm, ⟨34, _⟩ => ⟨S_, .f32⟩
  | .hbm, ⟨35, _⟩ => ⟨S2048x64, .f32⟩
  | .hbm, ⟨36, _⟩ => ⟨S2048x64, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1, .f32⟩
  | .hbm, ⟨41, _⟩ => ⟨S2048x64x1024, .f32⟩
  | .hbm, ⟨42, _⟩ => ⟨S2048x64, .i32⟩
  | .hbm, ⟨43, _⟩ => ⟨S2048x64, .i32⟩
  | .hbm, ⟨44, _⟩ => ⟨S2048x64, .i1⟩
  | .hbm, ⟨45, _⟩ => ⟨S2048x64x1, .i1⟩
  | .hbm, ⟨46, _⟩ => ⟨S_, .f32⟩
  | .hbm, ⟨47, _⟩ => ⟨S_, .f32⟩
  | .hbm, ⟨48, _⟩ => ⟨S2048x64x1024, .i1⟩
  | .hbm, ⟨49, _⟩ => ⟨S2048x64x1024, .f32⟩
  | .hbm, ⟨50, _⟩ => ⟨S2048x64x1024, .f32⟩
  | .hbm, ⟨51, _⟩ => ⟨S_, .f32⟩
  | .hbm, ⟨52, _⟩ => ⟨S2048x1024, .f32⟩
  | .hbm, ⟨53, _⟩ => ⟨S2048x64, .i32⟩
  | .hbm, ⟨54, _⟩ => ⟨S2048x64, .i32⟩
  | .hbm, ⟨55, _⟩ => ⟨S2048x64, .i1⟩
  | .hbm, ⟨56, _⟩ => ⟨S2048x64x1, .i1⟩
  | .hbm, ⟨57, _⟩ => ⟨S_, .f32⟩
  | .hbm, ⟨58, _⟩ => ⟨S_, .f32⟩
  | .hbm, ⟨59, _⟩ => ⟨S2048x64x1024, .i1⟩
  | .hbm, ⟨60, _⟩ => ⟨S2048x64x1024, .f32⟩
  | .hbm, ⟨61, _⟩ => ⟨S2048x64x1024, .f32⟩
  | .hbm, ⟨62, _⟩ => ⟨S_, .f32⟩
  | .hbm, ⟨63, _⟩ => ⟨S2048x1024, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== Proof.KernelIdealTables.lean ====
/-
# The exchange's tables

Step `p = 3 k + t` of the exchange moves, for part `t` of the token rows, the `k`-th transfer: which rows of the send
and landing buffers it uses, which semaphores, and which device it goes to.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Neighbours -/

set_option backward.proofsInPublic true in
/-- The partner of device `c` along axis `a`: the device whose number differs by the axis's bits. -/
def ax (a : Fin 3) (c : Dev nD) : Dev nD := ⟨(c.val ^^^ (![1, 3, 4] : Fin 3 → ℕ) a) % 8, Nat.mod_lt _ (by decide)⟩

theorem ax_ax (a : Fin 3) (c : Dev nD) : ax a (ax a c) = c := by revert a c; decide

/-- Partnership along an axis, as a permutation of the devices. -/
def axE (a : Fin 3) : Dev nD ≃ Dev nD := ⟨ax a, ax a, ax_ax a, ax_ax a⟩

/-- The axis of step `p`'s transfer. -/
def axis (p : Fin 18) : Fin 3 := (![0, 1, 2, 1, 2, 0, 2, 0, 1, 2, 0, 1, 1, 2, 0, 0, 1, 2] : Fin 18 → Fin 3) p

/-- The device step `p` of device `c` sends to, and hears from. -/
def par (p : Fin 18) (c : Dev nD) : Dev nD := ax (axis p) c

theorem par_par (p : Fin 18) (c : Dev nD) : par p (par p c) = c := ax_ax _ _

def parE (p : Fin 18) : Dev nD ≃ Dev nD := axE (axis p)

theorem dev1_eq (c : Dev nD) : (⟨k0_dev1 c, k0_dev1_lt c⟩ : Dev nD) = ax 0 c := by revert c; decide
theorem dev2_eq (c : Dev nD) : (⟨k0_dev2 c, k0_dev2_lt c⟩ : Dev nD) = ax 1 c := by revert c; decide
theorem dev3_eq (c : Dev nD) : (⟨k0_dev3 c, k0_dev3_lt c⟩ : Dev nD) = ax 2 c := by revert c; decide
theorem dev4_eq (c : Dev nD) : (⟨k0_dev4 c, k0_dev4_lt c⟩ : Dev nD) = par 0 c := by revert c; decide
theorem dev5_eq (c : Dev nD) : (⟨k0_dev5 c, k0_dev5_lt c⟩ : Dev nD) = par 1 c := by revert c; decide
theorem dev6_eq (c : Dev nD) : (⟨k0_dev6 c, k0_dev6_lt c⟩ : Dev nD) = par 2 c := by revert c; decide
theorem dev7_eq (c : Dev nD) : (⟨k0_dev7 c, k0_dev7_lt c⟩ : Dev nD) = par 3 c := by revert c; decide
theorem dev8_eq (c : Dev nD) : (⟨k0_dev8 c, k0_dev8_lt c⟩ : Dev nD) = par 4 c := by revert c; decide
theorem dev9_eq (c : Dev nD) : (⟨k0_dev9 c, k0_dev9_lt c⟩ : Dev nD) = par 5 c := by revert c; decide
theorem dev10_eq (c : Dev nD) : (⟨k0_dev10 c, k0_dev10_lt c⟩ : Dev nD) = par 6 c := by revert c; decide
theorem dev11_eq (c : Dev nD) : (⟨k0_dev11 c, k0_dev11_lt c⟩ : Dev nD) = par 7 c := by revert c; decide
theorem dev12_eq (c : Dev nD) : (⟨k0_dev12 c, k0_dev12_lt c⟩ : Dev nD) = par 8 c := by revert c; decide
theorem dev13_eq (c : Dev nD) : (⟨k0_dev13 c, k0_dev13_lt c⟩ : Dev nD) = par 9 c := by revert c; decide
theorem dev14_eq (c : Dev nD) : (⟨k0_dev14 c, k0_dev14_lt c⟩ : Dev nD) = par 10 c := by revert c; decide
theorem dev15_eq (c : Dev nD) : (⟨k0_dev15 c, k0_dev15_lt c⟩ : Dev nD) = par 11 c := by revert c; decide
theorem dev16_eq (c : Dev nD) : (⟨k0_dev16 c, k0_dev16_lt c⟩ : Dev nD) = par 12 c := by revert c; decide
theorem dev17_eq (c : Dev nD) : (⟨k0_dev17 c, k0_dev17_lt c⟩ : Dev nD) = par 13 c := by revert c; decide
theorem dev18_eq (c : Dev nD) : (⟨k0_dev18 c, k0_dev18_lt c⟩ : Dev nD) = par 14 c := by revert c; decide
theorem dev19_eq (c : Dev nD) : (⟨k0_dev19 c, k0_dev19_lt c⟩ : Dev nD) = par 15 c := by revert c; decide
theorem dev20_eq (c : Dev nD) : (⟨k0_dev20 c, k0_dev20_lt c⟩ : Dev nD) = par 16 c := by revert c; decide
theorem dev21_eq (c : Dev nD) : (⟨k0_dev21 c, k0_dev21_lt c⟩ : Dev nD) = par 17 c := by revert c; decide

/-! ## The transfers' buffers -/

/-- The part of the rows step `p` is about. -/
def tt (p : Fin 18) : Fin 3 := (![0, 1, 2, 0, 1, 2, 0, 1, 2, 0, 1, 2, 0, 1, 2, 0, 1, 2] : Fin 18 → Fin 3) p
/-- How many rows step `p` moves. -/
def nr (p : Fin 18) : ℕ := (![352, 352, 320, 176, 176, 160, 88, 88, 80, 88, 88, 80, 176, 176, 160, 352, 352, 320] : Fin 18 → ℕ) p
/-- The first row of its landing region. -/
def ro (p : Fin 18) : ℕ := (![0, 0, 0, 352, 352, 320, 528, 528, 480, 624, 624, 560, 720, 720, 640, 896, 896, 800] : Fin 18 → ℕ) p

abbrev shp (p : Fin 18) : Shape := ⟨2, ![nr p, 1024]⟩

abbrev sbS (t : Fin 3) : Shape := ⟨2, ![(![352, 352, 320] : Fin 3 → ℕ) t, 1024]⟩
abbrev rbS (t : Fin 3) : Shape := ⟨2, ![(![1296, 1296, 1184] : Fin 3 → ℕ) t, 1024]⟩

/-- The send buffer and the landing buffer of part `t`, whole. -/
def sbW : (t : Fin 3) → Memref sig .tc .vmem (sbS t) .bf16
  | 0 => Memref.whole cc0_scratch7 | 1 => Memref.whole cc0_scratch8 | 2 => Memref.whole cc0_scratch9
def rbW : (t : Fin 3) → Memref sig .tc .vmem (rbS t) .bf16
  | 0 => Memref.whole cc0_scratch10 | 1 => Memref.whole cc0_scratch11 | 2 => Memref.whole cc0_scratch12

theorem sb_inb (p : Fin 18) : ∀ a, (![0, 0] : Fin 2 → ℕ) a + (shp p).size a ≤ (sbS (tt p)).size a := by revert p; decide
theorem rb_inb (p : Fin 18) : ∀ a, (![ro p, 0] : Fin 2 → ℕ) a + (shp p).size a ≤ (rbS (tt p)).size a := by revert p; decide

/-- What step `p` sends from, and where it lands. -/
def sbM (p : Fin 18) : Memref sig .tc .vmem (shp p) .bf16 :=
  (sbW (tt p)).slice (Rect.unit (s := sbS (tt p)) ![0, 0] (shp p).size (sb_inb p)) (fun _ => rfl)
def rbM (p : Fin 18) : Memref sig .tc .vmem (shp p) .bf16 :=
  (rbW (tt p)).slice (Rect.unit (s := rbS (tt p)) ![ro p, 0] (shp p).size (rb_inb p)) (fun _ => rfl)

/-! ## The weight slots and the expert slices -/

theorem slot_inb (e : Fin 6) : ∀ a, (![e.val, 0, 0] : Fin 3 → ℕ) a + S1x1024x1024.size a ≤ S6x1024x1024.size a := by revert e; decide
theorem slice_inb (j : Fin 8) : ∀ a, (![j.val, 0, 0] : Fin 3 → ℕ) a + S1x1024x1024.size a ≤ S8x1024x1024.size a := by revert j; decide

def slotM (e : Fin 6) : Memref sig .tc .vmem S1024x1024 .f32 :=
  ((Memref.whole cc0_scratch5).slice (Rect.unit (s := S6x1024x1024) ![e.val, 0, 0] S1x1024x1024.size (slot_inb e)) (fun _ => rfl)).squeeze S1024x1024
    squeezes_S1x1024x1024_S1024x1024
def sliceM (j : Fin 8) : Memref sig .tc .hbm S1024x1024 .f32 :=
  ((Memref.whole main_arg3).slice (Rect.unit (s := S8x1024x1024) ![j.val, 0, 0] S1x1024x1024.size (slice_inb j)) (fun _ => rfl)).squeeze S1024x1024
    squeezes_S1x1024x1024_S1024x1024

/-! ## The semaphores -/

/-- The runtime's barrier semaphore. -/
abbrev barS : Sem sig := (SemArray.scalar (sig.barrier 0 rfl) : Sems sig S_).sem

set_option backward.proofsInPublic true in
def wIx (e : Fin 6) : DmaSem sig := (⟨4 + e.val, by omega⟩ : Fin 46)
set_option backward.proofsInPublic true in
def sIx (p : Fin 18) : DmaSem sig := (⟨10 + (p.val % 3 * 6 + p.val / 3), by omega⟩ : Fin 46)
set_option backward.proofsInPublic true in
def rIx (p : Fin 18) : DmaSem sig := (⟨28 + (p.val % 3 * 6 + p.val / 3), by omega⟩ : Fin 46)

/-- The protocol's cells on one device: the barrier, the six weight slots, the eighteen sends, the eighteen receives. -/
abbrev CI : Type := Unit ⊕ (Fin 6 ⊕ (Fin 18 ⊕ Fin 18))

def csem : CI → SemLoc sig
  | .inl _ => .reg barS
  | .inr (.inl e) => .dma (wIx e)
  | .inr (.inr (.inl p)) => .dma (sIx p)
  | .inr (.inr (.inr p)) => .dma (rIx p)

set_option backward.proofsInPublic true in
/-- The step whose semaphore is the `i`-th. -/
def stepOf (i : ℕ) : Fin 18 := ⟨(3 * (i % 6) + i / 6) % 18, Nat.mod_lt _ (by decide)⟩

set_option backward.proofsInPublic true in
/-- Which of the protocol's cells a semaphore is. -/
def kindOf : SemLoc sig → Option CI
  | .reg s => if s = barS then some (.inl ()) else none
  | .dma q =>
    if (q : Fin 46).val < 4 then none
    else if (q : Fin 46).val < 10 then some (.inr (.inl ⟨((q : Fin 46).val - 4) % 6, Nat.mod_lt _ (by decide)⟩))
    else if (q : Fin 46).val < 28 then some (.inr (.inr (.inl (stepOf ((q : Fin 46).val - 10)))))
    else some (.inr (.inr (.inr (stepOf ((q : Fin 46).val - 28)))))

theorem kindOf_csem (k : CI) : kindOf (csem k) = some k := by revert k; decide

theorem csem_injective : Function.Injective csem := fun a b h => by
  have := congrArg kindOf h; rw [kindOf_csem, kindOf_csem] at this; exact Option.some.inj this

abbrev kcell (c : Dev nD) (k : CI) : GSem nD τ sig := ((c : Thread nD τ), csem k)
abbrev barCell (c : Dev nD) : GSem nD τ sig := kcell c (.inl ())
abbrev wCell (c : Dev nD) (e : Fin 6) : GSem nD τ sig := kcell c (.inr (.inl e))
abbrev sCell (c : Dev nD) (p : Fin 18) : GSem nD τ sig := kcell c (.inr (.inr (.inl p)))
abbrev rCell (c : Dev nD) (p : Fin 18) : GSem nD τ sig := kcell c (.inr (.inr (.inr p)))

/-! ## The credits -/

abbrev NW : ℕ := (slotM 0).view.dmaCredit
def NP (p : Fin 18) : ℕ := (rbM p).view.dmaCredit

theorem NW_pos : 0 < NW := View.dmaCredit_pos _ (by decide)
theorem NP_pos (p : Fin 18) : 0 < NP p := View.dmaCredit_pos _ (by revert p; decide)

theorem credit_slot (e : Fin 6) : (slotM e).view.dmaCredit = NW := by revert e; decide
theorem credit_sb (p : Fin 18) : (sbM p).view.dmaCredit = NP p := by revert p; decide

end Cert.KernelIdeal.Moe

end
-- ==== Proof.KernelIdealProtocol.lean ====
/-
# The protocol

Every device signals its three partners, then waits for its own three signals; a signal carries the sender's landing
regions for the steps along that axis. Then eighteen transfers, each to the step's partner. A landing carries what was
sent; what is known of it is a relation `Sent`, kept by the steps of the accumulator relation `Out`.
-/
module

public import proofs.«01_k».proof.Proof.KernelIdealTables

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## What the body computes on one device, from its arguments -/

abbrev xM : Memref sig .tc .vmem S2048x1024 .f32 := Memref.whole cc0_stg0_0
abbrev rwM : Memref sig .tc .vmem S1024x64 .f32 := Memref.whole cc0_stg1_0
abbrev ixM : Memref sig .tc .vmem S2048x2 .i32 := Memref.whole cc0_stg2_0
abbrev outM : Memref sig .tc .vmem S2048x1024 .f32 := Memref.whole cc0_stg3_0
abbrev xbM : Memref sig .tc .vmem S2048x1024 .bf16 := Memref.whole cc0_scratch0
abbrev ohsM : Memref sig .tc .vmem S2048x1024 .bf16 := Memref.whole cc0_scratch1
abbrev ohuM : Memref sig .tc .vmem S2048x1024 .bf16 := Memref.whole cc0_scratch2
abbrev gxM : Memref sig .tc .vmem S1024x1024 .bf16 := Memref.whole cc0_scratch3
abbrev hsM : Memref sig .tc .vmem S1024x1024 .bf16 := Memref.whole cc0_scratch4
abbrev wbM : Memref sig .tc .vmem S6x1024x1024 .f32 := Memref.whole cc0_scratch5
abbrev wM : Memref sig .tc .hbm S8x1024x1024 .f32 := Memref.whole main_arg3

/-- Contents of the arguments on one device. -/
abbrev XB (F : FTy → Type) := Vec F S2048x1024 .f32
abbrev RB (F : FTy → Type) := Vec F S1024x64 .f32
abbrev IB (F : FTy → Type) := Vec F S2048x2 .i32
abbrev WB (F : FTy → Type) := Vec F S8x1024x1024 .f32

section Local

variable (c : Dev nD) (X : XB F) (R : RB F) (I : IB F) (W : WB F)

def wd : BitVec 32 := Scalar.remsi (Scalar.divsi (Dev.word c) 1#32) 8#32

abbrev col0 : Vec F S2048x1 .i32 := ixM.view.readAt (Elt F) (Rect.unit (s := S2048x2) ![0, 0] S2048x1.size inb_S2048x2_S2048x1_0_0).toLoadRect I
abbrev col1 : Vec F S2048x1 .i32 := ixM.view.readAt (Elt F) (Rect.unit (s := S2048x2) ![0, 1] S2048x1.size inb_S2048x2_S2048x1_0_1).toLoadRect I

def io0 : IVec S512x2048 32 := iota .tc S512x2048 32 [0] iota_S512x2048_d0_w32

abbrev zf : F .f32 := FloatOps.ofBits .f32 0x00000000#32

def g110 : FVec F S2048x8 .f32 := k0_pay7 (wd c) (k0_pay2 X R) (k0_pay3 (col0 I)) (k0_pay4 (col1 I)) (k0_pay5 X R (col0 I)) (k0_pay6 (col1 I)) zf
def g115 : FVec F S2048x8 .bf16 := k0_pay8 (wd c) (k0_pay2 X R) (k0_pay3 (col0 I)) (k0_pay4 (col1 I)) (k0_pay5 X R (col0 I)) (k0_pay6 (col1 I)) zf
def g124 : FVec F S512x8 .f32 := k0_pay9 (wd c) (k0_pay2 X R) (k0_pay3 (col0 I)) (k0_pay4 (col1 I)) (k0_pay5 X R (col0 I)) (k0_pay6 (col1 I)) zf
def g133 : FVec F S512x8 .f32 := k0_pay10 (wd c) (k0_pay2 X R) (k0_pay3 (col0 I)) (k0_pay4 (col1 I)) (k0_pay5 X R (col0 I)) (k0_pay6 (col1 I)) zf
abbrev g153 : IVec S2048x8 32 := k0_pay12 (g115 c X R I) (g124 c X R I) (g133 c X R I) io0 k0_pay11

abbrev rb0 : Rect S2048x1024 := Rect.unit (s := S2048x1024) ![0, 0] S512x1024.size inb_S2048x1024_S512x1024_0_0
abbrev rb1 : Rect S2048x1024 := Rect.unit (s := S2048x1024) ![512, 0] S512x1024.size inb_S2048x1024_S512x1024_512_0
abbrev rb2 : Rect S2048x1024 := Rect.unit (s := S2048x1024) ![1024, 0] S512x1024.size inb_S2048x1024_S512x1024_1024_0
abbrev rb3 : Rect S2048x1024 := Rect.unit (s := S2048x1024) ![1536, 0] S512x1024.size inb_S2048x1024_S512x1024_1536_0

/-- The two one-hot matrices, block of rows by block of rows over earlier contents. -/
abbrev ohu0 (f : Vec F S2048x1024 .bf16) : Vec F S2048x1024 .bf16 :=
  (ohuM.access rb0).write (Elt F) f (k0_pay15 (g110 c X R I) (g115 c X R I) (g124 c X R I) (g133 c X R I) io0 k0_pay11) Finset.univ
abbrev ohu1 (f : Vec F S2048x1024 .bf16) : Vec F S2048x1024 .bf16 :=
  (ohuM.access rb1).write (Elt F) (ohu0 c X R I f) (k0_pay20 (g110 c X R I) (g153 c X R I)) Finset.univ
abbrev ohu2 (f : Vec F S2048x1024 .bf16) : Vec F S2048x1024 .bf16 :=
  (ohuM.access rb2).write (Elt F) (ohu1 c X R I f) (k0_pay26 (k0_pay22 (g110 c X R I)) (k0_pay23 (g153 c X R I)) k0_pay24) Finset.univ
abbrev ohu3 (f : Vec F S2048x1024 .bf16) : Vec F S2048x1024 .bf16 :=
  (ohuM.access rb3).write (Elt F) (ohu2 c X R I f) (k0_pay30 (g110 c X R I) (g153 c X R I)) Finset.univ
abbrev ohs0 (f : Vec F S2048x1024 .bf16) : Vec F S2048x1024 .bf16 :=
  (ohsM.access rb0).write (Elt F) f (k0_pay17 (k0_pay16 (g110 c X R I) (g115 c X R I) (g124 c X R I) (g133 c X R I) io0 k0_pay11)) Finset.univ
abbrev ohs1 (f : Vec F S2048x1024 .bf16) : Vec F S2048x1024 .bf16 :=
  (ohsM.access rb1).write (Elt F) (ohs0 c X R I f) (k0_pay21 (g110 c X R I) (g153 c X R I)) Finset.univ
abbrev ohs2 (f : Vec F S2048x1024 .bf16) : Vec F S2048x1024 .bf16 :=
  (ohsM.access rb2).write (Elt F) (ohs1 c X R I f) (k0_pay27 (k0_pay22 (g110 c X R I)) (k0_pay23 (g153 c X R I)) k0_pay24) Finset.univ
abbrev ohs3 (f : Vec F S2048x1024 .bf16) : Vec F S2048x1024 .bf16 :=
  (ohsM.access rb3).write (Elt F) (ohs2 c X R I f) (k0_pay32 (k0_pay31 (g110 c X R I) (g153 c X R I))) Finset.univ

/-- The gathered rows: eight groups of 128. -/
abbrev gx (f : Vec F S2048x1024 .bf16) : Vec F S1024x1024 .bf16 := k0_pay33 (ohs3 c X R I f) (k0_pay1 X)

/-- The `j`-th expert's matrix. -/
def wj (j : Fin 8) : Vec F S1x1024x1024 .f32 :=
  wM.view.readAt (Elt F) (Rect.unit (s := S8x1024x1024) ![j.val, 0, 0] S1x1024x1024.size (slice_inb j)).toLoadRect W

abbrev rh0 : Rect S1024x1024 := Rect.unit (s := S1024x1024) ![0, 0] S128x1024.size inb_S1024x1024_S128x1024_0_0
abbrev rh1 : Rect S1024x1024 := Rect.unit (s := S1024x1024) ![128, 0] S128x1024.size inb_S1024x1024_S128x1024_128_0
abbrev rh2 : Rect S1024x1024 := Rect.unit (s := S1024x1024) ![256, 0] S128x1024.size inb_S1024x1024_S128x1024_256_0
abbrev rh3 : Rect S1024x1024 := Rect.unit (s := S1024x1024) ![384, 0] S128x1024.size inb_S1024x1024_S128x1024_384_0
abbrev rh4 : Rect S1024x1024 := Rect.unit (s := S1024x1024) ![512, 0] S128x1024.size inb_S1024x1024_S128x1024_512_0
abbrev rh5 : Rect S1024x1024 := Rect.unit (s := S1024x1024) ![640, 0] S128x1024.size inb_S1024x1024_S128x1024_640_0
abbrev rh6 : Rect S1024x1024 := Rect.unit (s := S1024x1024) ![768, 0] S128x1024.size inb_S1024x1024_S128x1024_768_0
abbrev rh7 : Rect S1024x1024 := Rect.unit (s := S1024x1024) ![896, 0] S128x1024.size inb_S1024x1024_S128x1024_896_0

/-- The experts' results, group by group over earlier contents. -/
abbrev hs0 (G f : Vec F S1024x1024 .bf16) : Vec F S1024x1024 .bf16 := (hsM.access rh0).write (Elt F) f (k0_pay34 (wj W 0) (gxM.view.readAt (Elt F) rh0.toLoadRect G)) Finset.univ
abbrev hs1 (G f : Vec F S1024x1024 .bf16) : Vec F S1024x1024 .bf16 := (hsM.access rh1).write (Elt F) (hs0 W G f) (k0_pay35 (wj W 1) (gxM.view.readAt (Elt F) rh1.toLoadRect G)) Finset.univ
abbrev hs2 (G f : Vec F S1024x1024 .bf16) : Vec F S1024x1024 .bf16 := (hsM.access rh2).write (Elt F) (hs1 W G f) (k0_pay36 (wj W 2) (gxM.view.readAt (Elt F) rh2.toLoadRect G)) Finset.univ
abbrev hs3 (G f : Vec F S1024x1024 .bf16) : Vec F S1024x1024 .bf16 := (hsM.access rh3).write (Elt F) (hs2 W G f) (k0_pay37 (wj W 3) (gxM.view.readAt (Elt F) rh3.toLoadRect G)) Finset.univ
abbrev hs4 (G f : Vec F S1024x1024 .bf16) : Vec F S1024x1024 .bf16 := (hsM.access rh4).write (Elt F) (hs3 W G f) (k0_pay38 (wj W 4) (gxM.view.readAt (Elt F) rh4.toLoadRect G)) Finset.univ
abbrev hs5 (G f : Vec F S1024x1024 .bf16) : Vec F S1024x1024 .bf16 := (hsM.access rh5).write (Elt F) (hs4 W G f) (k0_pay39 (wj W 5) (gxM.view.readAt (Elt F) rh5.toLoadRect G)) Finset.univ
abbrev hs6 (G f : Vec F S1024x1024 .bf16) : Vec F S1024x1024 .bf16 := (hsM.access rh6).write (Elt F) (hs5 W G f) (k0_pay40 (wj W 6) (gxM.view.readAt (Elt F) rh6.toLoadRect G)) Finset.univ
abbrev hs7 (G f : Vec F S1024x1024 .bf16) : Vec F S1024x1024 .bf16 :=
  (hsM.access rh7).write (Elt F) (hs6 W G f) (k0_pay42 (k0_pay41 (wj W 7) (gxM.view.readAt (Elt F) rh7.toLoadRect G))) Finset.univ

/-- What the local phase leaves: the scatter matrix and the experts' results, over whatever the buffers held before. -/
def LocalOK (fo : Vec F S2048x1024 .bf16) (fh : Vec F S1024x1024 .bf16) : Prop :=
  ∃ f₁ f₂ f₃, fo = ohu3 c X R I f₁ ∧ fh = hs7 W (gx c X R I f₂) f₃

end Local

/-! ## The accumulator's rows -/

/-- Where step `p` accumulates, and where it sends from. -/
def ooff (p : Fin 18) : Dev nD → Fin 2 → ℕ :=
  (![k0_off4, k0_off5, k0_off6, k0_off10, k0_off12, k0_off14, k0_off16, k0_off17, k0_off18, k0_off19, k0_off21, k0_off23, k0_off25, k0_off27, k0_off29,
    k0_off31, k0_off32, k0_off33] : Fin 18 → Dev nD → Fin 2 → ℕ) p
def soff (p : Fin 18) : Dev nD → Fin 2 → ℕ :=
  (![k0_off1, k0_off2, k0_off3, k0_off7, k0_off8, k0_off9, k0_off11, k0_off13, k0_off15, k0_off16, k0_off17, k0_off18, k0_off20, k0_off22, k0_off24,
    k0_off26, k0_off28, k0_off30] : Fin 18 → Dev nD → Fin 2 → ℕ) p

theorem ooff_inb (p : Fin 18) (c : Dev nD) : ∀ a, ooff p c a + (shp p).size a ≤ S2048x1024.size a := by revert p c; decide +kernel
theorem soff_inb (p : Fin 18) (c : Dev nD) : ∀ a, soff p c a + (shp p).size a ≤ S2048x1024.size a := by revert p c; decide +kernel

abbrev orect (p : Fin 18) (c : Dev nD) : Rect S2048x1024 := Rect.unit (s := S2048x1024) (ooff p c) (shp p).size (ooff_inb p c)
abbrev srect (p : Fin 18) (c : Dev nD) : Rect S2048x1024 := Rect.unit (s := S2048x1024) (soff p c) (shp p).size (soff_inb p c)

theorem shp_casts (p : Fin 18) : (shp p).ShapeCasts (shp p) := by revert p; decide

/-- A step of the summing half: what was there plus what arrived. -/
def accAdd (p : Fin 18) (v : FVec F (shp p) .bf16) (r : FVec F (shp p) .f32) : FVec F (shp p) .f32 :=
  addf (shapeCast (shp p) r (shp_casts p)) (extf .f32 v bitsLt_bf16_f32)
/-- A step of the gathering half: what arrived. -/
def accSet (p : Fin 18) (v : FVec F (shp p) .bf16) : FVec F (shp p) .f32 := extf .f32 v bitsLt_bf16_f32
/-- What is sent of what is there. -/
def sendV (p : Fin 18) (r : FVec F (shp p) .f32) : FVec F (shp p) .bf16 :=
  shapeCast (shp p) (truncf .bf16 (shapeCast (shp p) r (shp_casts p)) bitsLt_bf16_f32) (shp_casts p)

/-- A relation on what the exchange sends and accumulates, kept by its steps. `Sent p c v`: in step `p` device `c` may
    send `v`. `Out n c f`: after `n` steps device `c`'s result buffer may hold `f`. -/
structure Spec (m : (ℓ : Loc nD τ sig) → Buf (Elt F) ℓ) where
  Sent : (p : Fin 18) → Dev nD → FVec F (shp p) .bf16 → Prop
  Out : ℕ → Dev nD → Vec F S2048x1024 .f32 → Prop
  sent0 : ∀ c fo fh, LocalOK c (m ((c : Thread nD τ).loc main_arg0)) (m ((c : Thread nD τ).loc main_arg1)) (m ((c : Thread nD τ).loc main_arg2)) (m ((c : Thread nD τ).loc main_arg3)) fo fh →
    Sent 0 c (k0_pay43 (ohuM.view.readAt (Elt F) (srect 0 c).toLoadRect fo) fh)
  sent1 : ∀ c fo fh, LocalOK c (m ((c : Thread nD τ).loc main_arg0)) (m ((c : Thread nD τ).loc main_arg1)) (m ((c : Thread nD τ).loc main_arg2)) (m ((c : Thread nD τ).loc main_arg3)) fo fh →
    Sent 1 c (k0_pay45 (k0_pay44 (ohuM.view.readAt (Elt F) (srect 1 c).toLoadRect fo) fh))
  sent2 : ∀ c fo fh, LocalOK c (m ((c : Thread nD τ).loc main_arg0)) (m ((c : Thread nD τ).loc main_arg1)) (m ((c : Thread nD τ).loc main_arg2)) (m ((c : Thread nD τ).loc main_arg3)) fo fh →
    Sent 2 c (k0_pay46 (ohuM.view.readAt (Elt F) (srect 2 c).toLoadRect fo) fh)
  init : ∀ c fo fh f, LocalOK c (m ((c : Thread nD τ).loc main_arg0)) (m ((c : Thread nD τ).loc main_arg1)) (m ((c : Thread nD τ).loc main_arg2)) (m ((c : Thread nD τ).loc main_arg3)) fo fh →
    Out 0 c ((outM.access (orect 2 c)).write (Elt F) ((outM.access (orect 1 c)).write (Elt F) ((outM.access (orect 0 c)).write (Elt F) f
      (k0_pay47 (ohuM.view.readAt (Elt F) (orect 0 c).toLoadRect fo) fh) Finset.univ)
      (k0_pay48 (ohuM.view.readAt (Elt F) (orect 1 c).toLoadRect fo) fh) Finset.univ)
      (k0_pay49 (ohuM.view.readAt (Elt F) (orect 2 c).toLoadRect fo) fh) Finset.univ)
  add : ∀ (p : Fin 18), p.val < 9 → ∀ c f v, Out p.val c f → Sent p (par p c) v →
    Out (p.val + 1) c ((outM.access (orect p c)).write (Elt F) f (accAdd p v (outM.view.readAt (Elt F) (orect p c).toLoadRect f)) Finset.univ)
  set : ∀ (p : Fin 18), 9 ≤ p.val → ∀ c f v, Out p.val c f → Sent p (par p c) v →
    Out (p.val + 1) c ((outM.access (orect p c)).write (Elt F) f (accSet p v) Finset.univ)
  send : ∀ (p : Fin 18), 3 ≤ p.val → ∀ c f, Out (p.val - 2) c f → Sent p c (sendV p (outM.view.readAt (Elt F) (srect p c).toLoadRect f))

/-- The relation that says nothing. -/
def Spec.any (m : (ℓ : Loc nD τ sig) → Buf (Elt F) ℓ) : Spec m where
  Sent _ _ _ := True
  Out _ _ _ := True
  sent0 _ _ _ _ := trivial
  sent1 _ _ _ _ := trivial
  sent2 _ _ _ _ := trivial
  init _ _ _ _ _ := trivial
  add _ _ _ _ _ _ _ := trivial
  set _ _ _ _ _ _ _ := trivial
  send _ _ _ _ _ := trivial

/-! ## Resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Step `p`'s landing region on device `e`, at any contents. -/
def landing (p : Fin 18) (e : Dev nD) : sProp 𝕄 :=
  iprop(∃ f, (rbM p).view.loc (e : Thread nD τ) ↦[(rbM p).view.set]{fullShare} f)

/-- The steps along axis `a`. -/
def onAxis (a : Fin 3) (k : Fin 6) : Fin 18 :=
  (![![0, 5, 7, 10, 14, 15], ![1, 3, 8, 11, 12, 16], ![2, 4, 6, 9, 13, 17]] : Fin 3 → Fin 6 → Fin 18) a k

def barPay (a : Fin 3) (c : Dev nD) : sProp 𝕄 := bigSep Finset.univ fun k : Fin 6 => landing (onAxis a k) (ax a c)
def sendPay (p : Fin 18) (c : Dev nD) : sProp 𝕄 :=
  iprop(∃ f, (sbM p).view.loc (c : Thread nD τ) ↦[(sbM p).view.set]{fullShare} f)

/-- The weight loads, by expert: which slot, which round of the slot's semaphore. -/
def jslot (j : Fin 8) : Fin 6 := (![0, 1, 2, 3, 4, 5, 0, 1] : Fin 8 → Fin 6) j
def jround (j : Fin 8) : ℕ := (![0, 0, 0, 0, 0, 0, 1, 1] : Fin 8 → ℕ) j
set_option backward.proofsInPublic true in
def jobOf (e : Fin 6) (r : ℕ) : Fin 8 := ⟨(e.val + 6 * r) % 8, Nat.mod_lt _ (by decide)⟩
theorem jobOf_slot (j : Fin 8) : jobOf (jslot j) (jround j) = j := by revert j; decide

variable {m : (ℓ : Loc nD τ sig) → Buf (Elt F) ℓ} (Sp : Spec m)

def recvPay (p : Fin 18) (c : Dev nD) : sProp 𝕄 :=
  iprop(∃ f, ⌜Sp.Sent p (par p c) ((rbM p).view.read (Elt F) f)⌝ ∗ (rbM p).view.loc (c : Thread nD τ) ↦[(rbM p).view.set]{fullShare} f)

variable (m) in
/-- Expert `j`'s slice of the weights. -/
def sliceP (j : Fin 8) (c : Dev nD) : sProp 𝕄 :=
  ((sliceM j).view.loc (c : Thread nD τ) ↦[(sliceM j).view.set]{fullShare} m ((c : Thread nD τ).loc main_arg3))

def slotP (e : Fin 6) (c : Dev nD) : sProp 𝕄 :=
  iprop(∃ f, (slotM e).view.loc (c : Thread nD τ) ↦[(slotM e).view.set]{fullShare} f)

variable (m) in
/-- A slot holding expert `j`'s matrix. -/
def loaded (e : Fin 6) (j : Fin 8) (c : Dev nD) : sProp 𝕄 :=
  iprop(∃ f, ⌜(slotM e).view.read (Elt F) f = (sliceM j).view.read (Elt F) (m ((c : Thread nD τ).loc main_arg3))⌝
    ∗ (slotM e).view.loc (c : Thread nD τ) ↦[(slotM e).view.set]{fullShare} f)

variable (m) in
def wPay (e : Fin 6) (r : ℕ) (c : Dev nD) : sProp 𝕄 := iprop(loaded m e (jobOf e r) c ∗ sliceP m (jobOf e r) c)

theorem pt_st (ℓ : Loc nD τ sig) (J : Finset (Idx ℓ)) (q : PosShare TreeShare) (f : Buf (Elt F) ℓ) : BI.Storable (upEmb : UEmb _ 𝕄) (ℓ ↦[J]{q} f) := inferInstance

instance landing_st (p : Fin 18) (e : Dev nD) : BI.Storable (upEmb : UEmb _ 𝕄) (landing (F := F) p e) := by unfold landing; infer_instance
instance barPay_st (a : Fin 3) (e : Dev nD) : BI.Storable (upEmb : UEmb _ 𝕄) (barPay (F := F) a e) := by unfold barPay; infer_instance
instance sendPay_st (p : Fin 18) (e : Dev nD) : BI.Storable (upEmb : UEmb _ 𝕄) (sendPay (F := F) p e) := by unfold sendPay; infer_instance
instance recvPay_st (p : Fin 18) (e : Dev nD) : BI.Storable (upEmb : UEmb _ 𝕄) (recvPay Sp p e) := by unfold recvPay; infer_instance
instance loaded_st (e : Fin 6) (j : Fin 8) (c : Dev nD) : BI.Storable (upEmb : UEmb _ 𝕄) (loaded m e j c) := by unfold loaded; infer_instance
instance sliceP_st (j : Fin 8) (c : Dev nD) : BI.Storable (upEmb : UEmb _ 𝕄) (sliceP m j c) := pt_st _ _ _ _
instance wPay_st (e : Fin 6) (r : ℕ) (c : Dev nD) : BI.Storable (upEmb : UEmb _ 𝕄) (wPay m e r c) := by unfold wPay; infer_instance

/-! ## The schedule -/

def dutiesK : Option CI → ℕ → Finset (Fin 3)
  | some (.inl _), r => if r = 0 then Finset.univ else ∅
  | some (.inr (.inl e)), r => if r = 0 ∨ (r = 1 ∧ e.val < 2) then {0} else ∅
  | some (.inr (.inr _)), r => if r = 0 then {0} else ∅
  | none, _ => ∅

def amountK : Option CI → ℕ
  | some (.inl _) => 1
  | some (.inr (.inl _)) => NW
  | some (.inr (.inr (.inl p))) => NP p
  | some (.inr (.inr (.inr p))) => NP p
  | none => 1

def payK (c : Dev nD) : Option CI → ℕ → Fin 3 → sProp 𝕄
  | some (.inl _), _, a => barPay a c
  | some (.inr (.inl e)), r, _ => wPay m e r c
  | some (.inr (.inr (.inl p))), _, _ => sendPay p c
  | some (.inr (.inr (.inr p))), _, _ => recvPay Sp p c
  | none, _, _ => iprop(emp)

theorem amountK_pos (k : Option CI) : 0 < amountK k := by
  rcases k with _ | _ | _ | _ | _
  · exact Nat.one_pos
  · exact Nat.one_pos
  · exact NW_pos
  · exact NP_pos _
  · exact NP_pos _

def rd : Rounds.Schedule (GSem nD τ sig) (Fin 3) 𝕄 where
  duties g r := if g.1.2 = .tc then dutiesK (kindOf g.2) r else ∅
  unitless _ := False
  amount g _ _ := amountK (kindOf g.2)
  payload g r d := payK Sp g.1.1 (kindOf g.2) r d
  amount_pos g _ _ _ := amountK_pos _

instance rd_st (g : GSem nD τ sig) (r : ℕ) (d : Fin 3) : BI.Storable (upEmb : UEmb _ 𝕄) ((rd Sp).payload g r d) := by
  show BI.Storable upEmb (payK Sp g.1.1 (kindOf g.2) r d)
  unfold payK
  split <;> infer_instance

section Sched

variable (c : Dev nD)

theorem duties_k (k : CI) (r : ℕ) : (rd Sp).duties (kcell c k) r = dutiesK (some k) r := by
  show (if ((c : Thread nD τ)).2 = .tc then dutiesK (kindOf (csem k)) r else ∅) = _
  rw [kindOf_csem]; exact if_pos rfl
theorem amount_k (k : CI) (r : ℕ) (d : Fin 3) : (rd Sp).amount (kcell c k) r d = amountK (some k) := by
  show amountK (kindOf (csem k)) = _; rw [kindOf_csem]
theorem payload_k (k : CI) (r : ℕ) (d : Fin 3) : (rd Sp).payload (kcell c k) r d = payK Sp c (some k) r d := by
  show payK Sp c (kindOf (csem k)) r d = _; rw [kindOf_csem]

theorem duties_later (k : CI) (n : ℕ) (hn : ∀ r, n ≤ r → dutiesK (some k) r = ∅) : ∀ r, n ≤ r → (rd Sp).duties (kcell c k) r = ∅ :=
  fun r hr => (duties_k Sp c k r).trans (hn r hr)

theorem expect_one (k : CI) (r : ℕ) (h : dutiesK (some k) r = {0}) : (rd Sp).expect (kcell c k) r = amountK (some k) := by
  unfold Schedule.expect Schedule.amountOf
  rw [duties_k, h, Finset.sum_singleton, amount_k]
theorem expect_bar : (rd Sp).expect (barCell c) 0 = 3 := by
  unfold Schedule.expect Schedule.amountOf
  rw [duties_k, Finset.sum_congr rfl fun d _ => amount_k Sp c _ 0 d]; rfl

theorem rest_one (k : CI) (r : ℕ) (h : dutiesK (some k) r = {0}) :
    bigSep ((rd Sp).duties (kcell c k) r \ ∅) (fun d => (rd Sp).payload (kcell c k) r d) = payK Sp c (some k) r 0 := by
  rw [Finset.sdiff_empty, duties_k, h, bigSep_singleton, payload_k]
theorem rest_bar :
    bigSep ((rd Sp).duties (barCell c) 0 \ ∅) (fun d => (rd Sp).payload (barCell c) 0 d) = iprop(barPay 0 c ∗ barPay 1 c ∗ barPay 2 c) := by
  rw [Finset.sdiff_empty, duties_k, show dutiesK (some (.inl ())) 0 = Finset.univ from rfl, bigSep_univ_eq_bigSepL [0, 1, 2] (by decide) (by decide),
    bigSepL_cons_cons, bigSepL_cons_cons, bigSepL_singleton, payload_k, payload_k, payload_k]
  rfl

end Sched

/-! ## What is owed; the levels -/

/-- From step `n` on device `c` owes each step's partner that step's landing. -/
def Oat (n : ℕ) (c : Dev nD) : CellTallies nD τ sig Unit := ∑ p ∈ Finset.univ.filter (fun p : Fin 18 => n ≤ p.val), tallyAt (rCell (par p c) p) () (NP p)

theorem Oat_step (p : Fin 18) (c : Dev nD) : Oat p.val c = Oat (p.val + 1) c + tallyAt (rCell (par p c) p) () (NP p) := by
  unfold Oat
  rw [show Finset.univ.filter (fun q : Fin 18 => p.val ≤ q.val) = insert p (Finset.univ.filter (fun q : Fin 18 => p.val + 1 ≤ q.val)) from by
    ext q; simp only [Finset.mem_filter, Finset.mem_univ, true_and, Finset.mem_insert, Fin.ext_iff]; omega]
  rw [Finset.sum_insert (by simp), add_comm]

theorem Oat_end (c : Dev nD) : Oat 18 c = 0 := by
  unfold Oat
  rw [Finset.filter_false_of_mem fun p _ => by have := p.isLt; omega, Finset.sum_empty]

def O₂ (c : Dev nD) : CellTallies nD τ sig Unit := Oat 0 c + tallyAt (barCell (ax 2 c)) () 1
def O₁ (c : Dev nD) : CellTallies nD τ sig Unit := O₂ c + tallyAt (barCell (ax 1 c)) () 1
def O₀ (c : Dev nD) : CellTallies nD τ sig Unit := O₁ c + tallyAt (barCell (ax 0 c)) () 1

def L (g : GSem nD τ sig) : Finset Unit := if g.1.2 = .tc then {()} else ∅

def lvK : Option CI → ℕ
  | some (.inl _) => 1
  | some (.inr (.inr (.inr p))) => p.val + 2
  | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl

theorem Oat_pos {n : ℕ} {c : Dev nD} {g : GSem nD τ sig} {u : Unit} (h : 0 < Oat n c g u) : ∃ p : Fin 18, n ≤ p.val ∧ g = rCell (par p c) p := by
  unfold Oat at h
  rw [Finset.sum_apply, Finsupp.finset_sum_apply] at h
  obtain ⟨p, hp, hlt⟩ := Finset.exists_ne_zero_of_sum_ne_zero h.ne'
  refine ⟨p, (Finset.mem_filter.mp hp).2, ?_⟩
  rw [tallyAt_apply] at hlt
  by_contra hn
  exact hlt (if_neg fun h' => hn h'.1)

theorem O₀_pos {c : Dev nD} {g : GSem nD τ sig} {u : Unit} (h : 0 < O₀ c g u) :
    (∃ p : Fin 18, g = rCell (par p c) p) ∨ ∃ a, g = barCell (ax a c) := by
  unfold O₀ O₁ O₂ at h
  simp only [Pi.add_apply, Finsupp.add_apply] at h
  by_cases h1 : 0 < Oat 0 c g u
  · obtain ⟨p, -, hp⟩ := Oat_pos h1; exact Or.inl ⟨p, hp⟩
  · refine Or.inr ?_
    by_contra hn
    rw [not_exists] at hn
    rw [tallyAt_apply, tallyAt_apply, tallyAt_apply, if_neg (fun h' => hn 2 h'.1), if_neg (fun h' => hn 1 h'.1), if_neg (fun h' => hn 0 h'.1)] at h
    omega

/-- A wait at a cell below everything owed. -/
theorem mayWait (c : Dev nD) (sm : SemLoc sig) (n : ℕ) (O : CellTallies nD τ sig Unit) (hn : lvK (kindOf sm) = n)
    (hO : ∀ g u, 0 < O g u → g.1.2 = .tc ∧ n < lvK (kindOf g.2)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by show () ∈ L g; unfold L; rw [if_pos (hO g u hg).1]; exact Finset.mem_singleton_self _)
    (fun p hp => by rw [Finset.mem_singleton.mp hp]; exact hn.le)
    (fun g u hg => (hO g u hg).2)

theorem mayWait_Oat (c : Dev nD) (sm : SemLoc sig) (n : ℕ) (hn : lvK (kindOf sm) < n + 2) :
    (levAts L lv : sProp 𝕄) ⊢ MayWait (c : Thread nD τ) sm () (Oat n c) :=
  mayWait c sm _ _ rfl fun g u hg => by
    obtain ⟨p, hp, rfl⟩ := Oat_pos hg
    refine ⟨rfl, ?_⟩
    show _ < lvK (kindOf (csem (.inr (.inr (.inr p)))))
    rw [kindOf_csem]; show _ < p.val + 2; omega

theorem mayWait_O₀ (c : Dev nD) (sm : SemLoc sig) (hn : lvK (kindOf sm) = 0) :
    (levAts L lv : sProp 𝕄) ⊢ MayWait (c : Thread nD τ) sm () (O₀ c) :=
  mayWait c sm 0 _ hn fun g u hg => by
    rcases O₀_pos hg with ⟨p, rfl⟩ | ⟨a, rfl⟩
    · refine ⟨rfl, ?_⟩
      show _ < lvK (kindOf (csem (.inr (.inr (.inr p)))))
      rw [kindOf_csem]; show _ < p.val + 2; omega
    · refine ⟨rfl, ?_⟩
      show _ < lvK (kindOf (csem (.inl ())))
      rw [kindOf_csem]; exact Nat.one_pos

end Cert.KernelIdeal.Moe

end
-- ==== Proof.KernelIdealSteps.lean ====
/-
# One step of the body at a time

Each theorem runs one operation of the body on one device, from what the operation needs to what it leaves.
-/
module

public import proofs.«01_k».proof.Proof.KernelIdealProtocol

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable {m : (ℓ : Loc nD τ sig) → Buf (Elt F) ℓ} (Sp : Spec m)

/-- The body's programs on device `c`. -/
abbrev wpb (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## The shared facts -/

def records (K : Dev nD × CI → ℕ) : sProp 𝕄 :=
  iprop((bigSep Finset.univ fun ck : Dev nD × CI => cellInv ER (rd Sp) (K ck) (kcell ck.1 ck.2))
    ∗ bigSep Finset.univ fun ck : Dev nD × CI => reached ER (kcell ck.1 ck.2) 0)

instance records_persistent (K : Dev nD × CI → ℕ) : BI.Persistent (records Sp K) := by unfold records; infer_instance

def Env (K : Dev nD × CI → ℕ) : sProp 𝕄 := iprop(records Sp K ∗ levAts L lv)

instance Env_persistent (K : Dev nD × CI → ℕ) : BI.Persistent (Env Sp K) := by unfold Env; infer_instance

variable (K : Dev nD × CI → ℕ)

theorem inv_at (ck : Dev nD × CI) :
    (bigSep Finset.univ fun ck : Dev nD × CI => (cellInv ER (rd Sp) (K ck) (kcell ck.1 ck.2) : sProp 𝕄)) ⊢ cellInv ER (rd Sp) (K ck) (kcell ck.1 ck.2) :=
  bigSep_elim (Finset.mem_univ ck)
theorem reached_at (ck : Dev nD × CI) :
    (bigSep Finset.univ fun ck : Dev nD × CI => (reached ER (kcell ck.1 ck.2) 0 : sProp 𝕄)) ⊢ reached ER (kcell ck.1 ck.2) 0 :=
  bigSep_elim (Finset.mem_univ ck)

theorem env_inv (c : Dev nD) (k : CI) : Env Sp K ⊢ cellInv ER (rd Sp) (K (c, k)) (kcell c k) := by
  unfold Env records
  iintro ⟨⟨HI, -⟩, -⟩
  iapply (inv_at Sp K (c, k)); iexact HI
theorem env_reached (c : Dev nD) (k : CI) : Env Sp K ⊢ reached ER (kcell c k) 0 := by
  unfold Env records
  iintro ⟨⟨-, HI⟩, -⟩
  iapply (reached_at (c, k)); iexact HI
theorem env_lev : Env Sp K ⊢ (levAts L lv : sProp 𝕄) := by
  unfold Env; iintro ⟨-, H⟩; iexact H

/-- What device `c` owes, whatever it has waited for. -/
def owesE (c : Dev nD) (O : CellTallies nD τ sig Unit) : sProp 𝕄 := iprop(∃ W, owes (c : Thread nD τ) O W)

/-! ## The barrier -/

theorem signal_step (c : Dev nD) (a : Fin 3) {n : Dev nD} (hn : n = ax a c) (O O' : CellTallies nD τ sig Unit) (hO : O' = O + tallyAt (barCell (ax a c)) () 1)
    {s : Sem sig} (hs : s = barS) {k' : ℤ} (hk' : k' = 1) {α : Type} {k : PUnit → Prog (TpuEff nD τ sig (Elt F) Λ₀ .tc) α} {Q : α → sProp 𝕄} :
    iprop(Env Sp K ∗ owesE c O' ∗ dutyTok ER (barCell (ax a c)) 0 a ∗ bigSep Finset.univ (fun i : Fin 6 => landing (onAxis a i) c))
      ⊢ iprop((owesE c O -∗ wpb c (k ⟨⟩) Q) -∗ wpb c (.op (.semSignal (n : Thread nD τ) s k') k) Q) := by
  subst hn; subst hs; subst hk'; subst hO
  unfold owesE
  iintro ⟨#HE, ⟨%W, HO⟩, Ht, Hp⟩ Hk
  iapply (Rounds.wp_signal 𝒱₀ ER (rd Sp) (c : Thread nD τ) none (dst := (ax a c : Thread nD τ)) (κ := K (ax a c, .inl ()))
      (d := a) (by rw [show ((ax a c : Thread nD τ), SemLoc.reg barS) = kcell (ax a c) (.inl ()) from rfl, duties_k]; exact Finset.mem_univ _)
      (amount_k Sp (ax a c) (.inl ()) 0 a) () O rfl) $$ [HO Ht Hp]
  · isplitr; · iapply (env_inv Sp K (ax a c) (.inl ())); iexact HE
    isplitl [HO]; · iexact HO
    isplitl [Ht]; · iexact Ht
    isplitl [Hp]
    · rw [show ((ax a c : Thread nD τ), SemLoc.reg barS) = kcell (ax a c) (.inl ()) from rfl, payload_k]
      unfold payK barPay; dsimp only; rw [ax_ax]; iexact Hp
    · iapply (env_reached Sp K (ax a c) (.inl ())); iexact HE
  iintro HO
  iapply Hk; iexists W; iexact HO

theorem barWait_step (c : Dev nD) {s : Sem sig} (hs : s = barS) {k' : ℤ} (hk' : k' = 3) {α : Type}
    {k : PUnit → Prog (TpuEff nD τ sig (Elt F) Λ₀ .tc) α} {Q : α → sProp 𝕄} :
    iprop(Env Sp K ∗ owesE c (Oat 0 c) ∗ cred (tallyAt (barCell c) () 3) ∗ atPos ER (barCell c) 0 ∅ 0)
      ⊢ iprop((owesE c (Oat 0 c) ∗ semVal (barCell c) 0 ∗ (barPay 0 c ∗ barPay 1 c ∗ barPay 2 c) -∗ wpb c (k ⟨⟩) Q)
          -∗ wpb c (.op (.semWait s k') k) Q) := by
  subst hs; subst hk'
  unfold owesE
  iintro ⟨#HE, ⟨%W, HO⟩, Hc, Ha⟩ Hk
  iapply (Rounds.wp_wait_rest_token 𝒱₀ ER (rd Sp) (c : Thread nD τ) none (κ := K (c, .inl ()))
      (wpE_semWait_eq 𝒱₀ (c : Thread nD τ) none Set.univ) (Set.mem_univ _) () (O := Oat 0 c) (W := W) (R := 0) (m := 0) (T := ∅)
      ((Nat.zero_add _).trans (expect_bar Sp c).symm)) $$ [Hc HO Ha]
  · isplitr; · iapply (env_inv Sp K c (.inl ())); iexact HE
    isplitl [Hc]; · iexact Hc
    isplitl [HO]; · iexact HO
    isplitr
    · iapply (mayWait_Oat c (csem (.inl ())) 0 (by rw [kindOf_csem]; decide)); iapply (env_lev Sp K); iexact HE
    iexact Ha
  iintro ⟨HO, Ha, -, Hpay⟩
  have hr : bigSep ((rd Sp).duties ((c : Thread nD τ), SemLoc.reg barS) 0 \ ∅) (fun d => (rd Sp).payload ((c : Thread nD τ), SemLoc.reg barS) 0 d)
      = iprop(barPay 0 c ∗ barPay 1 c ∗ barPay 2 c) := rest_bar Sp c
  ihave Hp := (Entails.of_eq hr) $$ Hpay
  imod (Rounds.cell_close ER (rd Sp) (Set.mem_univ (K (c, .inl ()))) (fun h => h) (R := 0 + 1)
    (duties_later Sp c (.inl ()) 1 (fun r hr => if_neg (by omega)))) $$ [Ha] with Hz
  · isplitr; · iapply (env_inv Sp K c (.inl ())); iexact HE
    iexact Ha
  iapply Hk
  isplitl [HO]; · iexists _; iexact HO
  isplitl [Hz]; · iexact Hz
  iexact Hp

/-! ## A transfer -/

/-- The send buffer's part of step `p`, holding something the step may send; the rest of that buffer; the whole of it. -/
def sbHas (p : Fin 18) (c : Dev nD) : sProp 𝕄 :=
  iprop(∃ f, ⌜Sp.Sent p c ((sbM p).view.read (Elt F) f)⌝ ∗ (sbM p).view.loc (c : Thread nD τ) ↦[(sbM p).view.set]{fullShare} f)
def sbRest (p : Fin 18) (c : Dev nD) : sProp 𝕄 :=
  iprop(∃ f, (sbM p).view.loc (c : Thread nD τ) ↦[Finset.univ \ (sbM p).view.set]{fullShare} f)
def sbAny (t : Fin 3) (c : Dev nD) : sProp 𝕄 := iprop(∃ f, (sbW t).view.loc (c : Thread nD τ) ↦{fullShare} f)

/-- What step `p`'s send needs besides the value: the partner's landing region, the two cells' tokens. -/
def preP (p : Fin 18) (c : Dev nD) : sProp 𝕄 :=
  iprop(landing p (par p c) ∗ dutyTok ER (sCell c p) 0 0 ∗ dutyTok ER (rCell (par p c) p) 0 0)
def credS (p : Fin 18) (c : Dev nD) : sProp 𝕄 := cred (tallyAt (sCell c p) () (NP p))
def posS (p : Fin 18) (c : Dev nD) : sProp 𝕄 := atPos ER (sCell c p) 0 ∅ 0
def posR (p : Fin 18) (c : Dev nD) : sProp 𝕄 := iprop(atPos ER (rCell c p) 0 ∅ 0 ∗ cred (tallyAt (rCell c p) () (NP p)))

theorem sendPay_intro (p : Fin 18) (c : Dev nD) (f : Buf (Elt F) ((sbM p).view.loc (c : Thread nD τ))) :
    ((sbM p).view.loc (c : Thread nD τ) ↦[(sbM p).view.set]{fullShare} f) ⊢ ((rd Sp).payload (sCell c p) 0 0 : sProp 𝕄) := by
  rw [payload_k]
  unfold payK sendPay; dsimp only
  iintro H; iexists f; iexact H

theorem recvPay_intro (p : Fin 18) (c : Dev nD) (f : Buf (Elt F) ((sbM p).view.loc (c : Thread nD τ))) (g : Buf (Elt F) ((rbM p).view.loc (par p c : Thread nD τ)))
    (h : Sp.Sent p c ((sbM p).view.read (Elt F) f)) :
    ((rbM p).view.loc (par p c : Thread nD τ) ↦[(rbM p).view.set]{fullShare} ((rbM p).view.write (Elt F) g ((sbM p).view.read (Elt F) f) Finset.univ))
      ⊢ ((rd Sp).payload (rCell (par p c) p) 0 0 : sProp 𝕄) := by
  rw [payload_k]
  unfold payK recvPay; dsimp only
  iintro H; iexists ((rbM p).view.write (Elt F) g ((sbM p).view.read (Elt F) f) Finset.univ)
  isplitr; swap; · iexact H
  ipureintro
  rw [View.read_write_univ, par_par]; exact h

theorem send_step (p : Fin 18) (a b : ℕ) (ha : a = p.val) (hb : b = p.val + 1) (c : Dev nD) {n : Dev nD} (hn : n = par p c) {src : Memref sig .tc .vmem (shp p) .bf16} (hs : src = sbM p)
    {dst : Memref sig .tc .vmem (shp p) .bf16} (hd : dst = rbM p) {qs qr : DmaSem sig} (hqs : qs = sIx p) (hqr : qr = rIx p)
    {hsc : dst.view.ref.isScScratch = false} {hsrc : src.view.WordExact} {hdst : dst.view.WordExact}
    {hsem : DmaTarget.Typed .vmem (.dma qr) (.remote (n : Thread nD τ) dst (.dma qs) hsc)}
    {α : Type} {k : PUnit → Prog (TpuEff nD τ sig (Elt F) Λ₀ .tc) α} {Q : α → sProp 𝕄} :
    iprop(Env Sp K ∗ owesE c (Oat a c) ∗ sbHas Sp p c ∗ preP p c)
      ⊢ iprop((owesE c (Oat b c) ∗ credS p c -∗ wpb c (k ⟨⟩) Q)
          -∗ wpb c (.op (.enqueueDma src (.remote (n : Thread nD τ) dst (.dma qs) hsc) (.dma qr) hsrc hdst hsem) k) Q) := by
  subst ha; subst hb; subst hn; subst hs; subst hd; subst hqs; subst hqr
  unfold owesE sbHas preP landing credS
  iintro ⟨#HE, ⟨%W, HO⟩, ⟨%fs, %hfs, Hs⟩, ⟨%fd, Hd⟩, Ht, Ht'⟩ Hk
  iapply (Rounds.wp_send_pointsTo 𝒱₀ ER (rd Sp) (c : Thread nD τ) none (κ₁ := K (c, .inr (.inr (.inl p)))) (κ₂ := K (par p c, .inr (.inr (.inr p))))
    (r₁ := 0) (r₂ := 0) (d₁ := 0) (d₂ := 0) (fd := fd)
    (show (0 : Fin 3) ∈ (rd Sp).duties (sCell c p) 0 by rw [duties_k]; exact Finset.mem_singleton_self _)
    (show (0 : Fin 3) ∈ (rd Sp).duties (rCell (par p c) p) 0 by rw [duties_k]; exact Finset.mem_singleton_self _)
    () () (NP p) rfl (amount_k Sp c (.inr (.inr (.inl p))) 0 0) (amount_k Sp (par p c) (.inr (.inr (.inr p))) 0 0) (Oat (p.val + 1) c) (Oat_step p c) (W := W)
    (sendPay_intro Sp p c fs) (recvPay_intro Sp p c fs fd hfs)) $$ [HO Hs Hd Ht Ht']
  · isplitr; · iapply (env_inv Sp K c (.inr (.inr (.inl p)))); iexact HE
    isplitr; · iapply (env_inv Sp K (par p c) (.inr (.inr (.inr p)))); iexact HE
    isplitl [Hs]; · iexact Hs
    isplitl [Hd]; · iexact Hd
    isplitl [HO]; · iexact HO
    isplitl [Ht]; · iexact Ht
    isplitr; · iapply (env_reached Sp K c (.inr (.inr (.inl p)))); iexact HE
    isplitl [Ht']; · iexact Ht'
    iapply (env_reached Sp K (par p c) (.inr (.inr (.inr p)))); iexact HE
  iintro ⟨Hc, HO⟩
  iapply Hk
  isplitl [HO]; · iexists W; iexact HO
  iexact Hc

theorem waitS_step (p : Fin 18) (n : ℕ) (c : Dev nD) {src dst : Memref sig .tc .vmem (shp p) .bf16} (hs : dst = sbM p)
    {qs : DmaSem sig} (hqs : qs = sIx p) {hsrc : src.view.WordExact} {hdst : dst.view.WordExact}
    {α : Type} {k : PUnit → Prog (TpuEff nD τ sig (Elt F) Λ₀ .tc) α} {Q : α → sProp 𝕄} :
    iprop(Env Sp K ∗ owesE c (Oat n c) ∗ credS p c ∗ posS p c)
      ⊢ iprop((owesE c (Oat n c) ∗ semVal (sCell c p) 0 ∗ sendPay p c -∗ wpb c (k ⟨⟩) Q)
          -∗ wpb c (.op (.waitDma2 qs src dst hsrc hdst) k) Q) := by
  subst hs; subst hqs
  unfold owesE credS posS
  iintro ⟨#HE, ⟨%W, HO⟩, Hc, Ha⟩ Hk
  rw [← credit_sb p]
  iapply (Rounds.wp_wait_rest_token 𝒱₀ ER (rd Sp) (c : Thread nD τ) none (κ := K (c, .inr (.inr (.inl p))))
      (wpE_waitDma2_eq 𝒱₀ (c : Thread nD τ) none Set.univ) (Set.mem_univ _) () (O := Oat n c) (W := W) (R := 0) (m := 0) (T := ∅)
      ((Nat.zero_add _).trans ((credit_sb p).trans (expect_one Sp c (.inr (.inr (.inl p))) 0 rfl).symm))) $$ [Hc HO Ha]
  · isplitr; · iapply (env_inv Sp K c (.inr (.inr (.inl p)))); iexact HE
    isplitl [Hc]; · iexact Hc
    isplitl [HO]; · iexact HO
    isplitr
    · iapply (mayWait_Oat c (csem (.inr (.inr (.inl p)))) n (by rw [kindOf_csem]; exact Nat.succ_pos _)); iapply (env_lev Sp K); iexact HE
    iexact Ha
  iintro ⟨HO, Ha, -, Hpay⟩
  have hr : bigSep ((rd Sp).duties ((c : Thread nD τ), SemLoc.dma (sIx p)) 0 \ ∅) (fun d => (rd Sp).payload ((c : Thread nD τ), SemLoc.dma (sIx p)) 0 d)
      = sendPay p c := rest_one Sp c (.inr (.inr (.inl p))) 0 rfl
  ihave Hp := (Entails.of_eq hr) $$ Hpay
  imod (Rounds.cell_close ER (rd Sp) (Set.mem_univ (K (c, .inr (.inr (.inl p))))) (fun h => h) (R := 0 + 1)
    (duties_later Sp c (.inr (.inr (.inl p))) 1 (fun r hr => if_neg (by omega)))) $$ [Ha] with Hz
  · isplitr; · iapply (env_inv Sp K c (.inr (.inr (.inl p)))); iexact HE
    iexact Ha
  iapply Hk
  isplitl [HO]; · iexists _; iexact HO
  isplitl [Hz]; · iexact Hz
  iexact Hp

theorem waitR_step (p : Fin 18) (n : ℕ) (hn : p.val < n) (c : Dev nD) {src dst : Memref sig .tc .vmem (shp p) .bf16} (hs : dst = rbM p)
    {qr : DmaSem sig} (hqr : qr = rIx p) {hsrc : src.view.WordExact} {hdst : dst.view.WordExact}
    {α : Type} {k : PUnit → Prog (TpuEff nD τ sig (Elt F) Λ₀ .tc) α} {Q : α → sProp 𝕄} :
    iprop(Env Sp K ∗ owesE c (Oat n c) ∗ posR p c)
      ⊢ iprop((owesE c (Oat n c) ∗ semVal (rCell c p) 0 ∗ recvPay Sp p c -∗ wpb c (k ⟨⟩) Q)
          -∗ wpb c (.op (.waitDma2 qr src dst hsrc hdst) k) Q) := by
  subst hs; subst hqr
  unfold owesE posR
  iintro ⟨#HE, ⟨%W, HO⟩, Ha, Hc⟩ Hk
  iapply (Rounds.wp_wait_rest_token 𝒱₀ ER (rd Sp) (c : Thread nD τ) none (κ := K (c, .inr (.inr (.inr p))))
      (wpE_waitDma2_eq 𝒱₀ (c : Thread nD τ) none Set.univ) (Set.mem_univ _) () (O := Oat n c) (W := W) (R := 0) (m := 0) (T := ∅)
      ((Nat.zero_add _).trans (expect_one Sp c (.inr (.inr (.inr p))) 0 rfl).symm)) $$ [Hc HO Ha]
  · isplitr; · iapply (env_inv Sp K c (.inr (.inr (.inr p)))); iexact HE
    isplitl [Hc]; · iexact Hc
    isplitl [HO]; · iexact HO
    isplitr
    · iapply (mayWait_Oat c (csem (.inr (.inr (.inr p)))) n (by rw [kindOf_csem]; show p.val + 2 < n + 2; omega)); iapply (env_lev Sp K); iexact HE
    iexact Ha
  iintro ⟨HO, Ha, -, Hpay⟩
  have hr : bigSep ((rd Sp).duties ((c : Thread nD τ), SemLoc.dma (rIx p)) 0 \ ∅) (fun d => (rd Sp).payload ((c : Thread nD τ), SemLoc.dma (rIx p)) 0 d)
      = recvPay Sp p c := rest_one Sp c (.inr (.inr (.inr p))) 0 rfl
  ihave Hp := (Entails.of_eq hr) $$ Hpay
  imod (Rounds.cell_close ER (rd Sp) (Set.mem_univ (K (c, .inr (.inr (.inr p))))) (fun h => h) (R := 0 + 1)
    (duties_later Sp c (.inr (.inr (.inr p))) 1 (fun r hr => if_neg (by omega)))) $$ [Ha] with Hz
  · isplitr; · iapply (env_inv Sp K c (.inr (.inr (.inr p)))); iexact HE
    iexact Ha
  iapply Hk
  isplitl [HO]; · iexists _; iexact HO
  isplitl [Hz]; · iexact Hz
  iexact Hp

/-! ## The buffers of a transfer -/

theorem loadSb_step (t : Fin 3) (c : Dev nD) {r : LoadRect (sbS t)} {hl : (sbW t).view.LoadsAt r}
    {α : Type} {k : (r.shape.Idx → Elt F .bf16) → Prog (TpuEff nD τ sig (Elt F) Λ₀ .tc) α} {Q : α → sProp 𝕄} :
    (sbAny t c) ⊢ iprop((∀ v, sbAny t c -∗ wpb c (k v) Q) -∗ wpb c (.op (.load (sbW t) r hl) k) Q) := by
  unfold sbAny
  iintro ⟨%f, H⟩ Hk
  iapply (wp_load 𝒱₀ (c : Thread nD τ) none Set.univ (m := sbW t) (Finset.subset_univ _)) $$ H
  iintro H
  iapply Hk; iexists f; iexact H

theorem storeSb_step (p : Fin 18) (t : Fin 3) (ht : t = tt p) (c : Dev nD) (v : FVec F (shp p) .bf16) (hv : Sp.Sent p c v)
    {h : ((sbW (tt p)).access (Rect.unit (s := sbS (tt p)) ![0, 0] (shp p).size (sb_inb p))).Stores Finset.univ} {hm}
    {α : Type} {k : PUnit → Prog (TpuEff nD τ sig (Elt F) Λ₀ .tc) α} {Q : α → sProp 𝕄} :
    (sbAny t c) ⊢ iprop((sbHas Sp p c ∗ sbRest p c -∗ wpb c (k ⟨⟩) Q)
      -∗ wpb c (.op (.store (sbW (tt p)) (Rect.unit (s := sbS (tt p)) ![0, 0] (shp p).size (sb_inb p)) v Finset.univ h hm) k) Q) := by
  subst ht
  unfold sbAny sbHas sbRest
  iintro ⟨%f, H⟩ Hk
  iapply (wp_store 𝒱₀ (c : Thread nD τ) none Set.univ (m := sbW (tt p)) (r := Rect.unit (s := sbS (tt p)) ![0, 0] (shp p).size (sb_inb p))
    (Mk := Finset.univ) (Finset.subset_univ _)) $$ H
  iintro H
  ihave H := (pointsTo_split_subset (Finset.subset_univ (sbM p).view.set)).1 $$ H
  icases H with ⟨H, Hr⟩
  iapply Hk
  isplitl [H]
  · iexists _
    isplitr; swap; · iexact H
    ipureintro
    have : (sbM p).view.read (Elt F) ((sbM p).view.write (Elt F) f v Finset.univ) = v := View.read_write_univ _ _
    exact (congrArg (Sp.Sent p c) this).mpr hv
  · iexists _; iexact Hr

theorem sb_join (p : Fin 18) (t : Fin 3) (ht : t = tt p) (c : Dev nD) : iprop(sendPay p c ∗ sbRest p c) ⊢ (sbAny t c : sProp 𝕄) := by
  subst ht
  unfold sendPay sbRest sbAny
  iintro ⟨⟨%f, H⟩, ⟨%g, Hr⟩⟩
  ihave H := (pointsTo_join_subset (ℓ := (sbM p).view.loc (c : Thread nD τ)) (Finset.subset_univ (sbM p).view.set)) $$ [H Hr]
  · isplitl [H]; · iexact H
    iexact Hr
  iexists _; iexact H

theorem rb_sub (p : Fin 18) :
    (rbW (tt p)).view.setOn (Rect.unit (s := rbS (tt p)) ![ro p, 0] (shp p).size (rb_inb p)).toLoadRect.set ⊆ (rbM p).view.set := by
  unfold rbM
  exact (View.set_slice (rbW (tt p)).view (Rect.unit (s := rbS (tt p)) ![ro p, 0] (shp p).size (rb_inb p))).ge

theorem rb_pts (p : Fin 18) (c : Dev nD) (f : Buf (Elt F) ((rbM p).view.loc (c : Thread nD τ))) :
    ((rbM p).view.loc (c : Thread nD τ) ↦[(rbM p).view.set]{fullShare} f : sProp 𝕄)
      = ((rbW (tt p)).view.loc (c : Thread nD τ) ↦[(rbM p).view.set]{fullShare} f) := rfl

theorem loadRb_step (p : Fin 18) (c : Dev nD) {h : (rbW (tt p)).view.LoadsAt (Rect.unit (s := rbS (tt p)) ![ro p, 0] (shp p).size (rb_inb p)).toLoadRect}
    {α : Type} {k : ((shp p).Idx → Elt F .bf16) → Prog (TpuEff nD τ sig (Elt F) Λ₀ .tc) α} {Q : α → sProp 𝕄} :
    (recvPay Sp p c) ⊢ iprop((∀ v, ⌜Sp.Sent p (par p c) v⌝ ∗ landing p c -∗ wpb c (k v) Q)
      -∗ wpb c (.op (.load (rbW (tt p)) (Rect.unit (s := rbS (tt p)) ![ro p, 0] (shp p).size (rb_inb p)).toLoadRect h) k) Q) := by
  unfold recvPay landing
  iintro ⟨%f, %hf, H⟩ Hk
  ihave H := (Entails.of_eq (rb_pts p c f)) $$ H
  iapply (wp_load 𝒱₀ (c : Thread nD τ) none Set.univ (m := rbW (tt p)) (S := (rbM p).view.set) (q := fullShare) (f := f) (rb_sub p)) $$ H
  iintro H
  iapply Hk
  ihave H := (Entails.of_eq (rb_pts p c f).symm) $$ H
  isplitr; · ipureintro; exact hf
  iexists f; iexact H

/-- The accumulator after `n` steps. -/
def outP (n : ℕ) (c : Dev nD) : sProp 𝕄 := iprop(∃ f, ⌜Sp.Out n c f⌝ ∗ outM.view.loc (c : Thread nD τ) ↦{fullShare} f)

def outAny (c : Dev nD) : sProp 𝕄 := iprop(∃ f, outM.view.loc (c : Thread nD τ) ↦{fullShare} f)

/-- The accumulator as step `p` is about to store `v` into it. -/
def outNext (p : Fin 18) (n : ℕ) (c : Dev nD) (v : FVec F (shp p) .f32) : sProp 𝕄 :=
  iprop(∃ f, ⌜Sp.Out n c ((outM.access (orect p c)).write (Elt F) f v Finset.univ)⌝ ∗ outM.view.loc (c : Thread nD τ) ↦{fullShare} f)

theorem outP_open (n : ℕ) (c : Dev nD) : outP Sp n c ⊢ iprop(∃ f, ⌜Sp.Out n c f⌝ ∗ outM.view.loc (c : Thread nD τ) ↦{fullShare} f) := by
  unfold outP; exact .rfl
theorem outP_close (n : ℕ) (c : Dev nD) (f : Vec F S2048x1024 .f32) (h : Sp.Out n c f) :
    (outM.view.loc (c : Thread nD τ) ↦{fullShare} f) ⊢ outP Sp n c := by
  unfold outP; iintro H; iexists f; isplitr; · ipureintro; exact h
  iexact H
theorem outNext_open (p : Fin 18) (n : ℕ) (c : Dev nD) (v : FVec F (shp p) .f32) : outNext Sp p n c v
    ⊢ iprop(∃ f, ⌜Sp.Out n c ((outM.access (orect p c)).write (Elt F) f v Finset.univ)⌝ ∗ outM.view.loc (c : Thread nD τ) ↦{fullShare} f) := by
  unfold outNext; exact .rfl
theorem outNext_close (p : Fin 18) (n : ℕ) (c : Dev nD) (f : Vec F S2048x1024 .f32) (v : FVec F (shp p) .f32)
    (h : Sp.Out n c ((outM.access (orect p c)).write (Elt F) f v Finset.univ)) :
    (outM.view.loc (c : Thread nD τ) ↦{fullShare} f) ⊢ outNext Sp p n c v := by
  unfold outNext; iintro H; iexists f; isplitr; · ipureintro; exact h
  iexact H

theorem outStore_step (p : Fin 18) (n : ℕ) (c : Dev nD) (f : Vec F S2048x1024 .f32) (v : FVec F (shp p) .f32)
    (h : Sp.Out n c ((outM.access (orect p c)).write (Elt F) f v Finset.univ))
    {hx : (outM.access (orect p c)).Stores Finset.univ} {hm}
    {α : Type} {k : PUnit → Prog (TpuEff nD τ sig (Elt F) Λ₀ .tc) α} {Q : α → sProp 𝕄} :
    (outM.view.loc (c : Thread nD τ) ↦{fullShare} f) ⊢ iprop((outP Sp n c -∗ wpb c (k ⟨⟩) Q)
      -∗ wpb c (.op (.store outM (orect p c) v Finset.univ hx hm) k) Q) := by
  unfold outP
  iintro H Hk
  iapply (wp_store 𝒱₀ (c : Thread nD τ) none Set.univ (m := outM) (r := orect p c) (Mk := Finset.univ) (Finset.subset_univ _)) $$ H
  iintro H
  iapply Hk; iexists _; isplitr; swap; · iexact H
  ipureintro; exact h

variable (m) in
/-- `LocalOK` of the arguments in memory. -/
abbrev LocalOKm (c : Dev nD) (fo : Vec F S2048x1024 .bf16) (fh : Vec F S1024x1024 .bf16) : Prop :=
  LocalOK c (m ((c : Thread nD τ).loc main_arg0)) (m ((c : Thread nD τ).loc main_arg1)) (m ((c : Thread nD τ).loc main_arg2)) (m ((c : Thread nD τ).loc main_arg3)) fo fh

theorem wpb_ret (c : Dev nD) {α : Type} (a : α) (Q : α → sProp 𝕄) : Q a ⊢ wpb c (Prog.ret a) Q := by
  unfold wpb; rw [wp_ret]; iintro H; imodintro; iexact H

theorem read_hs (f : Vec F S1024x1024 .bf16) :
    hsM.view.readAt (Elt F) (Rect.unit (s := S1024x1024) ![0, 0] S1024x1024.size inb_S1024x1024_S1024x1024_0_0).toLoadRect f = f :=
  Memref.readAt_unit_zero (Elt F) cc0_scratch4 (funext fun a => by revert a; decide) inb_S1024x1024_S1024x1024_0_0 f

/-! ## The weight loads -/

theorem duties_job (j : Fin 8) : dutiesK (some (.inr (.inl (jslot j)))) (jround j) = {0} := by revert j; decide

theorem wPay_intro (j : Fin 8) (c : Dev nD) (fd : Buf (Elt F) ((slotM (jslot j)).view.loc (c : Thread nD τ))) :
    iprop(((slotM (jslot j)).view.loc (c : Thread nD τ) ↦[(slotM (jslot j)).view.set]{fullShare}
        ((slotM (jslot j)).view.write (Elt F) fd ((sliceM j).view.read (Elt F) (m ((c : Thread nD τ).loc main_arg3))) Finset.univ))
      ∗ (sliceM j).view.loc (c : Thread nD τ) ↦[(sliceM j).view.set]{fullShare} m ((c : Thread nD τ).loc main_arg3))
      ⊢ ((rd Sp).payload (wCell c (jslot j)) (jround j) 0 : sProp 𝕄) := by
  rw [payload_k]
  unfold payK wPay; dsimp only; rw [jobOf_slot]
  unfold loaded sliceP
  iintro ⟨H, Hs⟩
  isplitl [H]
  · iexists _
    isplitr; swap; · iexact H
    ipureintro; exact View.read_write_univ _ _
  iexact Hs

theorem wCopy_step (j : Fin 8) (c : Dev nD) {src : Memref sig .tc .hbm S1024x1024 .f32} (hs : src = sliceM j)
    {dst : Memref sig .tc .vmem S1024x1024 .f32} (hd : dst = slotM (jslot j)) {q : DmaSem sig} (hq : q = wIx (jslot j))
    {hsrc : src.view.WordExact} {hdst : dst.view.WordExact} {hsem : DmaTarget.Typed (nD := nD) (τ := τ) (p := (Proc.tc : Proc τ)) .hbm (.dma q) (.here dst)}
    {α : Type} {k : PUnit → Prog (TpuEff nD τ sig (Elt F) Λ₀ .tc) α} {Q : α → sProp 𝕄} :
    iprop(Env Sp K ∗ sliceP m j c ∗ slotP (jslot j) c ∗ dutyTok ER (wCell c (jslot j)) (jround j) 0 ∗ reached ER (wCell c (jslot j)) (jround j))
      ⊢ iprop((cred (tallyAt (wCell c (jslot j)) () NW) -∗ wpb c (k ⟨⟩) Q)
          -∗ wpb c (.op (.enqueueDma src (.here dst) (.dma q) hsrc hdst hsem) k) Q) := by
  subst hs; subst hd; subst hq
  unfold sliceP slotP
  iintro ⟨#HE, Hs, ⟨%fd, Hd⟩, Ht, Hr⟩ Hk
  iapply (Rounds.wp_copy_pointsTo 𝒱₀ ER (rd Sp) (c : Thread nD τ) none (κ := K (c, .inr (.inl (jslot j)))) (r := jround j) (d := 0) (fd := fd)
    (by show (0 : Fin 3) ∈ (rd Sp).duties (wCell c (jslot j)) (jround j); rw [duties_k, duties_job]; exact Finset.mem_singleton_self _)
    () NW (by exact credit_slot (jslot j)) (amount_k Sp c (.inr (.inl (jslot j))) _ 0)
    (wPay_intro Sp j c fd)) $$ [Hs Hd Ht Hr]
  · isplitr; · iapply (env_inv Sp K c (.inr (.inl (jslot j)))); iexact HE
    isplitl [Hs]; · iexact Hs
    isplitl [Hd]; · iexact Hd
    isplitl [Ht]; · iexact Ht
    iexact Hr
  iintro Hc
  iapply Hk; iexact Hc

theorem wWait_step (j : Fin 8) (c : Dev nD) {src : Memref sig .tc .hbm S1024x1024 .f32}
    {dst : Memref sig .tc .vmem S1024x1024 .f32} (hd : dst = slotM (jslot j)) {q : DmaSem sig} (hq : q = wIx (jslot j))
    {hsrc : src.view.WordExact} {hdst : dst.view.WordExact}
    {α : Type} {k : PUnit → Prog (TpuEff nD τ sig (Elt F) Λ₀ .tc) α} {Q : α → sProp 𝕄} :
    iprop(Env Sp K ∗ owesE c (Oat 0 c) ∗ cred (tallyAt (wCell c (jslot j)) () NW) ∗ atPos ER (wCell c (jslot j)) (jround j) ∅ 0)
      ⊢ iprop((owesE c (Oat 0 c) ∗ atPos ER (wCell c (jslot j)) (jround j + 1) ∅ 0 ∗ reached ER (wCell c (jslot j)) (jround j + 1)
              ∗ loaded m (jslot j) j c ∗ sliceP m j c -∗ wpb c (k ⟨⟩) Q)
          -∗ wpb c (.op (.waitDma2 q src dst hsrc hdst) k) Q) := by
  subst hd; subst hq
  unfold owesE
  have hdj := duties_job j
  iintro ⟨#HE, ⟨%W, HO⟩, Hc, Ha⟩ Hk
  rw [← credit_slot (jslot j)]
  iapply (Rounds.wp_wait_rest_token 𝒱₀ ER (rd Sp) (c : Thread nD τ) none (κ := K (c, .inr (.inl (jslot j))))
      (wpE_waitDma2_eq 𝒱₀ (c : Thread nD τ) none Set.univ) (Set.mem_univ _) () (O := Oat 0 c) (W := W) (R := jround j) (m := 0) (T := ∅)
      ((Nat.zero_add _).trans ((credit_slot (jslot j)).trans (expect_one Sp c (.inr (.inl (jslot j))) _ hdj).symm))) $$ [Hc HO Ha]
  · isplitr; · iapply (env_inv Sp K c (.inr (.inl (jslot j)))); iexact HE
    isplitl [Hc]; · iexact Hc
    isplitl [HO]; · iexact HO
    isplitr
    · iapply (mayWait_Oat c (csem (.inr (.inl (jslot j)))) 0 (by rw [kindOf_csem]; exact Nat.succ_pos _)); iapply (env_lev Sp K); iexact HE
    iexact Ha
  iintro ⟨HO, Ha, Hr, Hpay⟩
  have hr : bigSep ((rd Sp).duties ((c : Thread nD τ), SemLoc.dma (wIx (jslot j))) (jround j) \ ∅)
      (fun d => (rd Sp).payload ((c : Thread nD τ), SemLoc.dma (wIx (jslot j))) (jround j) d) = wPay m (jslot j) (jround j) c :=
    rest_one Sp c (.inr (.inl (jslot j))) _ hdj
  ihave Hp := (Entails.of_eq hr) $$ Hpay
  unfold wPay; rw [jobOf_slot]
  icases Hp with ⟨Hl, Hs⟩
  iapply Hk
  isplitl [HO]; · iexists _; iexact HO
  isplitl [Ha]; · iexact Ha
  isplitl [Hr]; · iexact Hr
  isplitl [Hl]; · iexact Hl
  iexact Hs

/-- A slot's semaphore closes when its last load is in. -/
theorem w_close (e : Fin 6) (R : ℕ) (hR : ∀ r, R ≤ r → dutiesK (some (.inr (.inl e))) r = ∅) (c : Dev nD) :
    iprop(Env Sp K ∗ atPos ER (wCell c e) R ∅ 0) ⊢ iprop(|={Set.univ}=> semVal (wCell c e) 0) := by
  iintro ⟨#HE, Ha⟩
  iapply (Rounds.cell_close ER (rd Sp) (Set.mem_univ (K (c, .inr (.inl e)))) (fun h => h) (R := R) (duties_later Sp c (.inr (.inl e)) R hR))
  isplitr; · iapply (env_inv Sp K c (.inr (.inl e))); iexact HE
  iexact Ha

theorem slot_pts (e : Fin 6) (c : Dev nD) (f : Buf (Elt F) (wbM.view.loc (c : Thread nD τ))) :
    ((slotM e).view.loc (c : Thread nD τ) ↦[(slotM e).view.set]{fullShare} f : sProp 𝕄)
      = (wbM.view.loc (c : Thread nD τ) ↦[(wbM.view.slice (Rect.unit (s := S6x1024x1024) ![e.val, 0, 0] S1x1024x1024.size (slot_inb e))).set]{fullShare} f) := by
  rw [show (slotM e).view.set = (wbM.view.slice (Rect.unit (s := S6x1024x1024) ![e.val, 0, 0] S1x1024x1024.size (slot_inb e))).set from View.set_reshape _ _]
  rfl

theorem slot_read (e : Fin 6) (j : Fin 8) (f : Vec F S6x1024x1024 .f32) (W : Vec F S8x1024x1024 .f32)
    (h : (slotM e).view.read (Elt F) f = (sliceM j).view.read (Elt F) W) :
    wbM.view.readAt (Elt F) (Rect.unit (s := S6x1024x1024) ![e.val, 0, 0] S1x1024x1024.size (slot_inb e)).toLoadRect f = wj W j := by
  funext i
  have h' := congrFun h ((Shape.reshapeEquiv squeezes_S1x1024x1024_S1024x1024.numel_eq).symm i)
  have e₁ : ∀ x, (slotM e).view.read (Elt F) f x = wbM.view.readAt (Elt F) (Rect.unit (s := S6x1024x1024) ![e.val, 0, 0] S1x1024x1024.size (slot_inb e)).toLoadRect f
    (Shape.reshapeEquiv squeezes_S1x1024x1024_S1024x1024.numel_eq x) := fun _ => rfl
  have e₂ : ∀ x, (sliceM j).view.read (Elt F) W x = wj W j (Shape.reshapeEquiv squeezes_S1x1024x1024_S1024x1024.numel_eq x) := fun _ => rfl
  rw [e₁, e₂, Equiv.apply_symm_apply] at h'
  exact h'

/-- The load of a loaded slot reads the expert's matrix. -/
theorem loadW_step (e : Fin 6) (j : Fin 8) (c : Dev nD) {h : wbM.view.LoadsAt (Rect.unit (s := S6x1024x1024) ![e.val, 0, 0] S1x1024x1024.size (slot_inb e)).toLoadRect}
    {α : Type} {k : (S1x1024x1024.Idx → Elt F .f32) → Prog (TpuEff nD τ sig (Elt F) Λ₀ .tc) α} {Q : α → sProp 𝕄} :
    (loaded m e j c) ⊢ iprop((slotP e c -∗ wpb c (k (wj (m ((c : Thread nD τ).loc main_arg3)) j)) Q)
      -∗ wpb c (.op (.load wbM (Rect.unit (s := S6x1024x1024) ![e.val, 0, 0] S1x1024x1024.size (slot_inb e)).toLoadRect h) k) Q) := by
  unfold loaded slotP
  iintro ⟨%f, %hf, H⟩ Hk
  ihave H := (Entails.of_eq (slot_pts e c f)) $$ H
  iapply (wp_load 𝒱₀ (c : Thread nD τ) none Set.univ (m := wbM)
    (S := (wbM.view.slice (Rect.unit (s := S6x1024x1024) ![e.val, 0, 0] S1x1024x1024.size (slot_inb e))).set) (q := fullShare) (f := f) (View.set_slice _ _).ge) $$ H
  iintro H
  ihave H := (Entails.of_eq (slot_pts e c f).symm) $$ H
  rw [slot_read e j f _ hf]
  iapply Hk
  iexists f; iexact H

end Cert.KernelIdeal.Moe

end
-- ==== Proof.KernelIdealBuffers.lean ====
/-
# The buffers, cut into the parts the protocol lends
-/
module

public import Idealize.ShloMosaic.Lib.Ring
public import proofs.«01_k».proof.Proof.KernelIdealSteps

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable {m : (ℓ : Loc nD τ sig) → Buf (Elt F) ℓ} (Sp : Spec m)

theorem bs3 (Φ : Fin 3 → sProp 𝕄) : bigSep Finset.univ Φ = iprop(Φ 0 ∗ Φ 1 ∗ Φ 2) :=
  bigSep_univ_eq_bigSepL [0, 1, 2] (by decide) (by decide) Φ

theorem bs6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem bs8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem bs18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

theorem cover_of {α B : Type} [Fintype α] [DecidableEq α] [Fintype B] (I : B → Finset α) (h : ∀ i, ∃ b, i ∈ I b) : Finset.univ.biUnion I = Finset.univ := by
  ext i; simp only [Finset.mem_biUnion, Finset.mem_univ, true_and, iff_true]; exact h i
theorem union_of {α B : Type} [DecidableEq α] [Fintype B] (I : B → Finset α) (S : Finset α) (h : ∀ i, i ∈ S ↔ ∃ b, i ∈ I b) : Finset.univ.biUnion I = S := by
  ext i; simp only [Finset.mem_biUnion, Finset.mem_univ, true_and]; exact (h i).symm
theorem mem_of_cover {α B : Type} [Fintype α] [DecidableEq α] [Fintype B] {I : B → Finset α} (h : Finset.univ.biUnion I = Finset.univ) (i : α) : ∃ b, i ∈ I b := by
  have := h ▸ Finset.mem_univ i
  simpa only [Finset.mem_biUnion, Finset.mem_univ, true_and] using this

def sset (e : Fin 6) : Finset S6x1024x1024.Idx := (Rect.unit (s := S6x1024x1024) ![e.val, 0, 0] S1x1024x1024.size (slot_inb e)).set
def jset (j : Fin 8) : Finset S8x1024x1024.Idx := (Rect.unit (s := S8x1024x1024) ![j.val, 0, 0] S1x1024x1024.size (slice_inb j)).set

theorem off_lead {n : ℕ} (b : Fin n) (a : Fin 3) (h : a ≠ 0) : (![b.val, 0, 0] : Fin 3 → ℕ) a = 0 := by
  match a, h with
  | 1, _ => rfl
  | 2, _ => rfl
theorem size_lead6 (a : Fin 3) (h : a ≠ 0) : S1x1024x1024.size a = S6x1024x1024.size a := by
  match a, h with
  | 1, _ => rfl
  | 2, _ => rfl
theorem size_lead8 (a : Fin 3) (h : a ≠ 0) : S1x1024x1024.size a = S8x1024x1024.size a := by
  match a, h with
  | 1, _ => rfl
  | 2, _ => rfl

theorem sset_disj (e e' : Fin 6) (h : e ≠ e') : Disjoint (sset e) (sset e') :=
  lead_disjoint (s := S6x1024x1024) 0 1 (fun e : Fin 6 => ![e.val, 0, 0]) S1x1024x1024.size slot_inb (fun e => (Nat.one_mul _).symm) rfl e e' h
theorem sset_cover (i : S6x1024x1024.Idx) : ∃ e, i ∈ sset e :=
  mem_of_cover (lead_cover (s := S6x1024x1024) 0 1 (fun e : Fin 6 => ![e.val, 0, 0]) S1x1024x1024.size slot_inb (fun e => (Nat.one_mul _).symm) off_lead rfl size_lead6 rfl) i
theorem jset_disj (e e' : Fin 8) (h : e ≠ e') : Disjoint (jset e) (jset e') :=
  lead_disjoint (s := S8x1024x1024) 0 1 (fun e : Fin 8 => ![e.val, 0, 0]) S1x1024x1024.size slice_inb (fun e => (Nat.one_mul _).symm) rfl e e' h
theorem jset_cover (i : S8x1024x1024.Idx) : ∃ e, i ∈ jset e :=
  mem_of_cover (lead_cover (s := S8x1024x1024) 0 1 (fun e : Fin 8 => ![e.val, 0, 0]) S1x1024x1024.size slice_inb (fun e => (Nat.one_mul _).symm) off_lead rfl size_lead8 rfl) i

theorem slot_eq (e : Fin 6) (c : Dev nD) (f : Buf (Elt F) (wbM.view.loc (c : Thread nD τ))) :
    ((slotM e).view.loc (c : Thread nD τ) ↦[(slotM e).view.set]{fullShare} f : sProp 𝕄) = (wbM.view.loc (c : Thread nD τ) ↦[sset e]{fullShare} f) := by
  rw [slot_pts, View.set_slice_whole]; rfl
theorem slice_eq (j : Fin 8) (c : Dev nD) (f : Buf (Elt F) (wM.view.loc (c : Thread nD τ))) :
    ((sliceM j).view.loc (c : Thread nD τ) ↦[(sliceM j).view.set]{fullShare} f : sProp 𝕄) = (wM.view.loc (c : Thread nD τ) ↦[jset j]{fullShare} f) := by
  rw [show (sliceM j).view.set = jset j from (View.set_reshape _ _).trans (View.set_slice_whole _ _)]
  rfl
theorem slot_some (e : Fin 6) (c : Dev nD) : slotP (F := F) e c = (iprop(∃ f : Buf (Elt F) (wbM.view.loc (c : Thread nD τ)), wbM.view.loc (c : Thread nD τ) ↦[sset e]{fullShare} f) : sProp 𝕄) := by
  unfold slotP
  exact congrArg _ (funext fun f => slot_eq e c f)

theorem slot_mk (e : Fin 6) (c : Dev nD) (f : Buf (Elt F) (wbM.view.loc (c : Thread nD τ))) : (wbM.view.loc (c : Thread nD τ) ↦[sset e]{fullShare} f : sProp 𝕄) ⊢ slotP e c := by
  rw [slot_some]; iintro H; iexists f; iexact H

theorem slots_split (c : Dev nD) : iprop(∃ f, wbM.view.loc (c : Thread nD τ) ↦{fullShare} f) ⊢ (bigSep Finset.univ fun e : Fin 6 => slotP (F := F) e c) := by
  iintro ⟨%f, H⟩
  ihave H := (Entails.of_eq (pointsTo_blocks (q := fullShare) sset sset_disj (cover_of _ sset_cover) f)) $$ H
  have hm : (bigSep Finset.univ fun e : Fin 6 => (wbM.view.loc (c : Thread nD τ) ↦[sset e]{fullShare} f : sProp 𝕄)) ⊢ bigSep Finset.univ fun e : Fin 6 => slotP (F := F) e c :=
    bigSep_mono fun e _ => slot_mk e c f
  iapply hm; iexact H

theorem slots_join (c : Dev nD) : (bigSep Finset.univ fun e : Fin 6 => slotP (F := F) e c) ⊢ iprop(∃ f, wbM.view.loc (c : Thread nD τ) ↦{fullShare} f) := by
  have hm : (bigSep Finset.univ fun e : Fin 6 => slotP (F := F) e c) ⊢ bigSep Finset.univ fun e : Fin 6 => (iprop(∃ f : Buf (Elt F) (wbM.view.loc (c : Thread nD τ)), wbM.view.loc (c : Thread nD τ) ↦[sset e]{fullShare} f) : sProp 𝕄) :=
    bigSep_mono fun e _ => Entails.of_eq (slot_some e c)
  refine hm.trans ?_
  exact pointsTo_blocks_join_exists (ℓ := wbM.view.loc (c : Thread nD τ)) (q := fullShare) sset sset_disj (cover_of _ sset_cover) (fun _ => (zf : F .f32))

theorem slices_split (c : Dev nD) :
    ((wM.view.loc (c : Thread nD τ) ↦{fullShare} m ((c : Thread nD τ).loc main_arg3)) : sProp 𝕄) = bigSep Finset.univ fun j : Fin 8 => sliceP m j c := by
  have h : (fun j : Fin 8 => sliceP m j c)
      = fun j : Fin 8 => (wM.view.loc (c : Thread nD τ) ↦[jset j]{fullShare} (m ((c : Thread nD τ).loc main_arg3) : Buf (Elt F) (wM.view.loc (c : Thread nD τ))) : sProp 𝕄) :=
    funext fun j => by unfold sliceP; exact slice_eq j c _
  rw [h]
  exact pointsTo_blocks (ℓ := wM.view.loc (c : Thread nD τ)) (q := fullShare) jset jset_disj (cover_of _ jset_cover) _

/-! ## The landing regions -/

/-- The `k`-th step of part `t`. -/
def pOf (t : Fin 3) (k : Fin 6) : Fin 18 := (![![0, 3, 6, 9, 12, 15], ![1, 4, 7, 10, 13, 16], ![2, 5, 8, 11, 14, 17]] : Fin 3 → Fin 6 → Fin 18) t k

theorem pOf_inb (t : Fin 3) (k : Fin 6) : ∀ a, (![ro (pOf t k), 0] : Fin 2 → ℕ) a + (shp (pOf t k)).size a ≤ (rbS t).size a := by revert t k; decide

def lset (t : Fin 3) (k : Fin 6) : Finset (rbS t).Idx := (Rect.unit (s := rbS t) ![ro (pOf t k), 0] (shp (pOf t k)).size (pOf_inb t k)).set

def lall (t : Fin 3) : Finset (rbS t).Idx := Finset.univ.biUnion (lset t)
theorem mem_lall (t : Fin 3) (i : (rbS t).Idx) : i ∈ lall t ↔ ∃ k, i ∈ lset t k := by
  unfold lall; simp only [Finset.mem_biUnion, Finset.mem_univ, true_and]

theorem pOf_apart (t : Fin 3) (k k' : Fin 6) (h : k < k') : ro (pOf t k) + nr (pOf t k) ≤ ro (pOf t k') := by revert t k k'; decide

theorem lset_disj (t : Fin 3) (k k' : Fin 6) (h : k ≠ k') : Disjoint (lset t k) (lset t k') := by
  rw [Finset.disjoint_left]
  intro i hi hi'
  have h1 := (Rect.mem_set_unit.mp hi) 0
  have h2 := (Rect.mem_set_unit.mp hi') 0
  have e1 : (shp (pOf t k)).size 0 = nr (pOf t k) := rfl
  have e2 : (shp (pOf t k')).size 0 = nr (pOf t k') := rfl
  simp only [Matrix.cons_val_zero, e1, e2] at h1 h2
  rcases lt_or_gt_of_ne h with hl | hl
  · have := pOf_apart t k k' hl; omega
  · have := pOf_apart t k' k hl; omega

theorem land_pt0 (c : Dev nD) (f : Vec F S1296x1024 .bf16) : ((((Memref.whole cc0_scratch10 : Memref sig .tc .vmem S1296x1024 .bf16).view.loc (c : Thread nD τ)) ↦[lset 0 0]{fullShare} f) : sProp 𝕄)
    = ((rbM 0).view.loc (c : Thread nD τ) ↦[(rbM 0).view.set]{fullShare} f) := by
  rw [show (rbM 0).view.set = lset 0 0 from View.set_slice_whole _ _]; rfl
theorem land_pt3 (c : Dev nD) (f : Vec F S1296x1024 .bf16) : ((((Memref.whole cc0_scratch10 : Memref sig .tc .vmem S1296x1024 .bf16).view.loc (c : Thread nD τ)) ↦[lset 0 1]{fullShare} f) : sProp 𝕄)
    = ((rbM 3).view.loc (c : Thread nD τ) ↦[(rbM 3).view.set]{fullShare} f) := by
  rw [show (rbM 3).view.set = lset 0 1 from View.set_slice_whole _ _]; rfl
theorem land_pt6 (c : Dev nD) (f : Vec F S1296x1024 .bf16) : ((((Memref.whole cc0_scratch10 : Memref sig .tc .vmem S1296x1024 .bf16).view.loc (c : Thread nD τ)) ↦[lset 0 2]{fullShare} f) : sProp 𝕄)
    = ((rbM 6).view.loc (c : Thread nD τ) ↦[(rbM 6).view.set]{fullShare} f) := by
  rw [show (rbM 6).view.set = lset 0 2 from View.set_slice_whole _ _]; rfl
theorem land_pt9 (c : Dev nD) (f : Vec F S1296x1024 .bf16) : ((((Memref.whole cc0_scratch10 : Memref sig .tc .vmem S1296x1024 .bf16).view.loc (c : Thread nD τ)) ↦[lset 0 3]{fullShare} f) : sProp 𝕄)
    = ((rbM 9).view.loc (c : Thread nD τ) ↦[(rbM 9).view.set]{fullShare} f) := by
  rw [show (rbM 9).view.set = lset 0 3 from View.set_slice_whole _ _]; rfl
theorem land_pt12 (c : Dev nD) (f : Vec F S1296x1024 .bf16) : ((((Memref.whole cc0_scratch10 : Memref sig .tc .vmem S1296x1024 .bf16).view.loc (c : Thread nD τ)) ↦[lset 0 4]{fullShare} f) : sProp 𝕄)
    = ((rbM 12).view.loc (c : Thread nD τ) ↦[(rbM 12).view.set]{fullShare} f) := by
  rw [show (rbM 12).view.set = lset 0 4 from View.set_slice_whole _ _]; rfl
theorem land_pt15 (c : Dev nD) (f : Vec F S1296x1024 .bf16) : ((((Memref.whole cc0_scratch10 : Memref sig .tc .vmem S1296x1024 .bf16).view.loc (c : Thread nD τ)) ↦[lset 0 5]{fullShare} f) : sProp 𝕄)
    = ((rbM 15).view.loc (c : Thread nD τ) ↦[(rbM 15).view.set]{fullShare} f) := by
  rw [show (rbM 15).view.set = lset 0 5 from View.set_slice_whole _ _]; rfl

/-- What no step of part 0 lands on. -/
def rbRest0 (c : Dev nD) : sProp 𝕄 := iprop(∃ f, ((Memref.whole cc0_scratch10 : Memref sig .tc .vmem S1296x1024 .bf16).view.loc (c : Thread nD τ)) ↦[Finset.univ \ lall 0]{fullShare} f)

theorem rb0_split (c : Dev nD) : iprop(∃ f, ((Memref.whole cc0_scratch10 : Memref sig .tc .vmem S1296x1024 .bf16).view.loc (c : Thread nD τ)) ↦{fullShare} f)
    ⊢ iprop((landing (F := F) 0 c ∗ landing (F := F) 3 c ∗ landing (F := F) 6 c ∗ landing (F := F) 9 c ∗ landing (F := F) 12 c ∗ landing (F := F) 15 c) ∗ rbRest0 c) := by
  unfold rbRest0
  iintro ⟨%f, H⟩
  ihave H := (pointsTo_split_subset (Finset.subset_univ (lall 0))).1 $$ H
  icases H with ⟨H, Hr⟩
  isplitl [H]
  · ihave H := (Entails.of_eq ((pointsTo_sub_blocks (q := fullShare) (lset 0) (lset_disj 0) (lall 0) (union_of _ _ (mem_lall 0)) f).trans (bs6 _))) $$ H
    icases H with ⟨H0, H1, H2, H3, H4, H5⟩
    isplitl [H0]; · unfold landing; iexists f; iapply (Entails.of_eq (land_pt0 c f)); iexact H0
    isplitl [H1]; · unfold landing; iexists f; iapply (Entails.of_eq (land_pt3 c f)); iexact H1
    isplitl [H2]; · unfold landing; iexists f; iapply (Entails.of_eq (land_pt6 c f)); iexact H2
    isplitl [H3]; · unfold landing; iexists f; iapply (Entails.of_eq (land_pt9 c f)); iexact H3
    isplitl [H4]; · unfold landing; iexists f; iapply (Entails.of_eq (land_pt12 c f)); iexact H4
    unfold landing; iexists f; iapply (Entails.of_eq (land_pt15 c f)); iexact H5
  · iexists f; iexact Hr

theorem rb0_join (c : Dev nD) : iprop((landing (F := F) 0 c ∗ landing (F := F) 3 c ∗ landing (F := F) 6 c ∗ landing (F := F) 9 c ∗ landing (F := F) 12 c ∗ landing (F := F) 15 c) ∗ rbRest0 c)
    ⊢ iprop(∃ f, ((Memref.whole cc0_scratch10 : Memref sig .tc .vmem S1296x1024 .bf16).view.loc (c : Thread nD τ)) ↦{fullShare} f) := by
  unfold rbRest0 landing
  iintro ⟨⟨⟨%f0, H0⟩, ⟨%f1, H1⟩, ⟨%f2, H2⟩, ⟨%f3, H3⟩, ⟨%f4, H4⟩, ⟨%f5, H5⟩⟩, ⟨%g, Hr⟩⟩
  ihave H := (pointsTo_sub_blocks_join_exists (ℓ := ((Memref.whole cc0_scratch10 : Memref sig .tc .vmem S1296x1024 .bf16).view.loc (c : Thread nD τ))) (q := fullShare) (lset 0) (lset_disj 0) (lall 0) (union_of _ _ (mem_lall 0)) g) $$ [H0 H1 H2 H3 H4 H5]
  · iapply (Entails.of_eq (bs6 _).symm)
    isplitl [H0]; · iexists f0; iapply (Entails.of_eq (land_pt0 c f0).symm); iexact H0
    isplitl [H1]; · iexists f1; iapply (Entails.of_eq (land_pt3 c f1).symm); iexact H1
    isplitl [H2]; · iexists f2; iapply (Entails.of_eq (land_pt6 c f2).symm); iexact H2
    isplitl [H3]; · iexists f3; iapply (Entails.of_eq (land_pt9 c f3).symm); iexact H3
    isplitl [H4]; · iexists f4; iapply (Entails.of_eq (land_pt12 c f4).symm); iexact H4
    iexists f5; iapply (Entails.of_eq (land_pt15 c f5).symm); iexact H5
  icases H with ⟨%f, H⟩
  iexists _
  iapply (pointsTo_join_subset (Finset.subset_univ (lall 0)))
  isplitl [H]; · iexact H
  iexact Hr

theorem land_pt1 (c : Dev nD) (f : Vec F S1296x1024 .bf16) : ((((Memref.whole cc0_scratch11 : Memref sig .tc .vmem S1296x1024 .bf16).view.loc (c : Thread nD τ)) ↦[lset 1 0]{fullShare} f) : sProp 𝕄)
    = ((rbM 1).view.loc (c : Thread nD τ) ↦[(rbM 1).view.set]{fullShare} f) := by
  rw [show (rbM 1).view.set = lset 1 0 from View.set_slice_whole _ _]; rfl
theorem land_pt4 (c : Dev nD) (f : Vec F S1296x1024 .bf16) : ((((Memref.whole cc0_scratch11 : Memref sig .tc .vmem S1296x1024 .bf16).view.loc (c : Thread nD τ)) ↦[lset 1 1]{fullShare} f) : sProp 𝕄)
    = ((rbM 4).view.loc (c : Thread nD τ) ↦[(rbM 4).view.set]{fullShare} f) := by
  rw [show (rbM 4).view.set = lset 1 1 from View.set_slice_whole _ _]; rfl
theorem land_pt7 (c : Dev nD) (f : Vec F S1296x1024 .bf16) : ((((Memref.whole cc0_scratch11 : Memref sig .tc .vmem S1296x1024 .bf16).view.loc (c : Thread nD τ)) ↦[lset 1 2]{fullShare} f) : sProp 𝕄)
    = ((rbM 7).view.loc (c : Thread nD τ) ↦[(rbM 7).view.set]{fullShare} f) := by
  rw [show (rbM 7).view.set = lset 1 2 from View.set_slice_whole _ _]; rfl
theorem land_pt10 (c : Dev nD) (f : Vec F S1296x1024 .bf16) : ((((Memref.whole cc0_scratch11 : Memref sig .tc .vmem S1296x1024 .bf16).view.loc (c : Thread nD τ)) ↦[lset 1 3]{fullShare} f) : sProp 𝕄)
    = ((rbM 10).view.loc (c : Thread nD τ) ↦[(rbM 10).view.set]{fullShare} f) := by
  rw [show (rbM 10).view.set = lset 1 3 from View.set_slice_whole _ _]; rfl
theorem land_pt13 (c : Dev nD) (f : Vec F S1296x1024 .bf16) : ((((Memref.whole cc0_scratch11 : Memref sig .tc .vmem S1296x1024 .bf16).view.loc (c : Thread nD τ)) ↦[lset 1 4]{fullShare} f) : sProp 𝕄)
    = ((rbM 13).view.loc (c : Thread nD τ) ↦[(rbM 13).view.set]{fullShare} f) := by
  rw [show (rbM 13).view.set = lset 1 4 from View.set_slice_whole _ _]; rfl
theorem land_pt16 (c : Dev nD) (f : Vec F S1296x1024 .bf16) : ((((Memref.whole cc0_scratch11 : Memref sig .tc .vmem S1296x1024 .bf16).view.loc (c : Thread nD τ)) ↦[lset 1 5]{fullShare} f) : sProp 𝕄)
    = ((rbM 16).view.loc (c : Thread nD τ) ↦[(rbM 16).view.set]{fullShare} f) := by
  rw [show (rbM 16).view.set = lset 1 5 from View.set_slice_whole _ _]; rfl

/-- What no step of part 1 lands on. -/
def rbRest1 (c : Dev nD) : sProp 𝕄 := iprop(∃ f, ((Memref.whole cc0_scratch11 : Memref sig .tc .vmem S1296x1024 .bf16).view.loc (c : Thread nD τ)) ↦[Finset.univ \ lall 1]{fullShare} f)

theorem rb1_split (c : Dev nD) : iprop(∃ f, ((Memref.whole cc0_scratch11 : Memref sig .tc .vmem S1296x1024 .bf16).view.loc (c : Thread nD τ)) ↦{fullShare} f)
    ⊢ iprop((landing (F := F) 1 c ∗ landing (F := F) 4 c ∗ landing (F := F) 7 c ∗ landing (F := F) 10 c ∗ landing (F := F) 13 c ∗ landing (F := F) 16 c) ∗ rbRest1 c) := by
  unfold rbRest1
  iintro ⟨%f, H⟩
  ihave H := (pointsTo_split_subset (Finset.subset_univ (lall 1))).1 $$ H
  icases H with ⟨H, Hr⟩
  isplitl [H]
  · ihave H := (Entails.of_eq ((pointsTo_sub_blocks (q := fullShare) (lset 1) (lset_disj 1) (lall 1) (union_of _ _ (mem_lall 1)) f).trans (bs6 _))) $$ H
    icases H with ⟨H0, H1, H2, H3, H4, H5⟩
    isplitl [H0]; · unfold landing; iexists f; iapply (Entails.of_eq (land_pt1 c f)); iexact H0
    isplitl [H1]; · unfold landing; iexists f; iapply (Entails.of_eq (land_pt4 c f)); iexact H1
    isplitl [H2]; · unfold landing; iexists f; iapply (Entails.of_eq (land_pt7 c f)); iexact H2
    isplitl [H3]; · unfold landing; iexists f; iapply (Entails.of_eq (land_pt10 c f)); iexact H3
    isplitl [H4]; · unfold landing; iexists f; iapply (Entails.of_eq (land_pt13 c f)); iexact H4
    unfold landing; iexists f; iapply (Entails.of_eq (land_pt16 c f)); iexact H5
  · iexists f; iexact Hr

theorem rb1_join (c : Dev nD) : iprop((landing (F := F) 1 c ∗ landing (F := F) 4 c ∗ landing (F := F) 7 c ∗ landing (F := F) 10 c ∗ landing (F := F) 13 c ∗ landing (F := F) 16 c) ∗ rbRest1 c)
    ⊢ iprop(∃ f, ((Memref.whole cc0_scratch11 : Memref sig .tc .vmem S1296x1024 .bf16).view.loc (c : Thread nD τ)) ↦{fullShare} f) := by
  unfold rbRest1 landing
  iintro ⟨⟨⟨%f0, H0⟩, ⟨%f1, H1⟩, ⟨%f2, H2⟩, ⟨%f3, H3⟩, ⟨%f4, H4⟩, ⟨%f5, H5⟩⟩, ⟨%g, Hr⟩⟩
  ihave H := (pointsTo_sub_blocks_join_exists (ℓ := ((Memref.whole cc0_scratch11 : Memref sig .tc .vmem S1296x1024 .bf16).view.loc (c : Thread nD τ))) (q := fullShare) (lset 1) (lset_disj 1) (lall 1) (union_of _ _ (mem_lall 1)) g) $$ [H0 H1 H2 H3 H4 H5]
  · iapply (Entails.of_eq (bs6 _).symm)
    isplitl [H0]; · iexists f0; iapply (Entails.of_eq (land_pt1 c f0).symm); iexact H0
    isplitl [H1]; · iexists f1; iapply (Entails.of_eq (land_pt4 c f1).symm); iexact H1
    isplitl [H2]; · iexists f2; iapply (Entails.of_eq (land_pt7 c f2).symm); iexact H2
    isplitl [H3]; · iexists f3; iapply (Entails.of_eq (land_pt10 c f3).symm); iexact H3
    isplitl [H4]; · iexists f4; iapply (Entails.of_eq (land_pt13 c f4).symm); iexact H4
    iexists f5; iapply (Entails.of_eq (land_pt16 c f5).symm); iexact H5
  icases H with ⟨%f, H⟩
  iexists _
  iapply (pointsTo_join_subset (Finset.subset_univ (lall 1)))
  isplitl [H]; · iexact H
  iexact Hr

theorem land_pt2 (c : Dev nD) (f : Vec F S1184x1024 .bf16) : ((((Memref.whole cc0_scratch12 : Memref sig .tc .vmem S1184x1024 .bf16).view.loc (c : Thread nD τ)) ↦[lset 2 0]{fullShare} f) : sProp 𝕄)
    = ((rbM 2).view.loc (c : Thread nD τ) ↦[(rbM 2).view.set]{fullShare} f) := by
  rw [show (rbM 2).view.set = lset 2 0 from View.set_slice_whole _ _]; rfl
theorem land_pt5 (c : Dev nD) (f : Vec F S1184x1024 .bf16) : ((((Memref.whole cc0_scratch12 : Memref sig .tc .vmem S1184x1024 .bf16).view.loc (c : Thread nD τ)) ↦[lset 2 1]{fullShare} f) : sProp 𝕄)
    = ((rbM 5).view.loc (c : Thread nD τ) ↦[(rbM 5).view.set]{fullShare} f) := by
  rw [show (rbM 5).view.set = lset 2 1 from View.set_slice_whole _ _]; rfl
theorem land_pt8 (c : Dev nD) (f : Vec F S1184x1024 .bf16) : ((((Memref.whole cc0_scratch12 : Memref sig .tc .vmem S1184x1024 .bf16).view.loc (c : Thread nD τ)) ↦[lset 2 2]{fullShare} f) : sProp 𝕄)
    = ((rbM 8).view.loc (c : Thread nD τ) ↦[(rbM 8).view.set]{fullShare} f) := by
  rw [show (rbM 8).view.set = lset 2 2 from View.set_slice_whole _ _]; rfl
theorem land_pt11 (c : Dev nD) (f : Vec F S1184x1024 .bf16) : ((((Memref.whole cc0_scratch12 : Memref sig .tc .vmem S1184x1024 .bf16).view.loc (c : Thread nD τ)) ↦[lset 2 3]{fullShare} f) : sProp 𝕄)
    = ((rbM 11).view.loc (c : Thread nD τ) ↦[(rbM 11).view.set]{fullShare} f) := by
  rw [show (rbM 11).view.set = lset 2 3 from View.set_slice_whole _ _]; rfl
theorem land_pt14 (c : Dev nD) (f : Vec F S1184x1024 .bf16) : ((((Memref.whole cc0_scratch12 : Memref sig .tc .vmem S1184x1024 .bf16).view.loc (c : Thread nD τ)) ↦[lset 2 4]{fullShare} f) : sProp 𝕄)
    = ((rbM 14).view.loc (c : Thread nD τ) ↦[(rbM 14).view.set]{fullShare} f) := by
  rw [show (rbM 14).view.set = lset 2 4 from View.set_slice_whole _ _]; rfl
theorem land_pt17 (c : Dev nD) (f : Vec F S1184x1024 .bf16) : ((((Memref.whole cc0_scratch12 : Memref sig .tc .vmem S1184x1024 .bf16).view.loc (c : Thread nD τ)) ↦[lset 2 5]{fullShare} f) : sProp 𝕄)
    = ((rbM 17).view.loc (c : Thread nD τ) ↦[(rbM 17).view.set]{fullShare} f) := by
  rw [show (rbM 17).view.set = lset 2 5 from View.set_slice_whole _ _]; rfl

/-- What no step of part 2 lands on. -/
def rbRest2 (c : Dev nD) : sProp 𝕄 := iprop(∃ f, ((Memref.whole cc0_scratch12 : Memref sig .tc .vmem S1184x1024 .bf16).view.loc (c : Thread nD τ)) ↦[Finset.univ \ lall 2]{fullShare} f)

theorem rb2_split (c : Dev nD) : iprop(∃ f, ((Memref.whole cc0_scratch12 : Memref sig .tc .vmem S1184x1024 .bf16).view.loc (c : Thread nD τ)) ↦{fullShare} f)
    ⊢ iprop((landing (F := F) 2 c ∗ landing (F := F) 5 c ∗ landing (F := F) 8 c ∗ landing (F := F) 11 c ∗ landing (F := F) 14 c ∗ landing (F := F) 17 c) ∗ rbRest2 c) := by
  unfold rbRest2
  iintro ⟨%f, H⟩
  ihave H := (pointsTo_split_subset (Finset.subset_univ (lall 2))).1 $$ H
  icases H with ⟨H, Hr⟩
  isplitl [H]
  · ihave H := (Entails.of_eq ((pointsTo_sub_blocks (q := fullShare) (lset 2) (lset_disj 2) (lall 2) (union_of _ _ (mem_lall 2)) f).trans (bs6 _))) $$ H
    icases H with ⟨H0, H1, H2, H3, H4, H5⟩
    isplitl [H0]; · unfold landing; iexists f; iapply (Entails.of_eq (land_pt2 c f)); iexact H0
    isplitl [H1]; · unfold landing; iexists f; iapply (Entails.of_eq (land_pt5 c f)); iexact H1
    isplitl [H2]; · unfold landing; iexists f; iapply (Entails.of_eq (land_pt8 c f)); iexact H2
    isplitl [H3]; · unfold landing; iexists f; iapply (Entails.of_eq (land_pt11 c f)); iexact H3
    isplitl [H4]; · unfold landing; iexists f; iapply (Entails.of_eq (land_pt14 c f)); iexact H4
    unfold landing; iexists f; iapply (Entails.of_eq (land_pt17 c f)); iexact H5
  · iexists f; iexact Hr

theorem rb2_join (c : Dev nD) : iprop((landing (F := F) 2 c ∗ landing (F := F) 5 c ∗ landing (F := F) 8 c ∗ landing (F := F) 11 c ∗ landing (F := F) 14 c ∗ landing (F := F) 17 c) ∗ rbRest2 c)
    ⊢ iprop(∃ f, ((Memref.whole cc0_scratch12 : Memref sig .tc .vmem S1184x1024 .bf16).view.loc (c : Thread nD τ)) ↦{fullShare} f) := by
  unfold rbRest2 landing
  iintro ⟨⟨⟨%f0, H0⟩, ⟨%f1, H1⟩, ⟨%f2, H2⟩, ⟨%f3, H3⟩, ⟨%f4, H4⟩, ⟨%f5, H5⟩⟩, ⟨%g, Hr⟩⟩
  ihave H := (pointsTo_sub_blocks_join_exists (ℓ := ((Memref.whole cc0_scratch12 : Memref sig .tc .vmem S1184x1024 .bf16).view.loc (c : Thread nD τ))) (q := fullShare) (lset 2) (lset_disj 2) (lall 2) (union_of _ _ (mem_lall 2)) g) $$ [H0 H1 H2 H3 H4 H5]
  · iapply (Entails.of_eq (bs6 _).symm)
    isplitl [H0]; · iexists f0; iapply (Entails.of_eq (land_pt2 c f0).symm); iexact H0
    isplitl [H1]; · iexists f1; iapply (Entails.of_eq (land_pt5 c f1).symm); iexact H1
    isplitl [H2]; · iexists f2; iapply (Entails.of_eq (land_pt8 c f2).symm); iexact H2
    isplitl [H3]; · iexists f3; iapply (Entails.of_eq (land_pt11 c f3).symm); iexact H3
    isplitl [H4]; · iexists f4; iapply (Entails.of_eq (land_pt14 c f4).symm); iexact H4
    iexists f5; iapply (Entails.of_eq (land_pt17 c f5).symm); iexact H5
  icases H with ⟨%f, H⟩
  iexists _
  iapply (pointsTo_join_subset (Finset.subset_univ (lall 2)))
  isplitl [H]; · iexact H
  iexact Hr

theorem bar_in0 (c : Dev nD) : iprop(landing (F := F) 0 c ∗ landing (F := F) 5 c ∗ landing (F := F) 7 c ∗ landing (F := F) 10 c ∗ landing (F := F) 14 c ∗ landing (F := F) 15 c) ⊢ (bigSep Finset.univ fun i : Fin 6 => landing (F := F) (onAxis 0 i) c) :=
  Entails.of_eq (bs6 fun i : Fin 6 => landing (F := F) (onAxis 0 i) c).symm
theorem bar_out0 (c : Dev nD) : barPay 0 c ⊢ (iprop(landing (F := F) 0 (par 0 c) ∗ landing (F := F) 5 (par 5 c) ∗ landing (F := F) 7 (par 7 c) ∗ landing (F := F) 10 (par 10 c) ∗ landing (F := F) 14 (par 14 c) ∗ landing (F := F) 15 (par 15 c)) : sProp 𝕄) :=
  Entails.of_eq (bs6 fun i : Fin 6 => landing (F := F) (onAxis 0 i) (ax 0 c))

theorem bar_in1 (c : Dev nD) : iprop(landing (F := F) 1 c ∗ landing (F := F) 3 c ∗ landing (F := F) 8 c ∗ landing (F := F) 11 c ∗ landing (F := F) 12 c ∗ landing (F := F) 16 c) ⊢ (bigSep Finset.univ fun i : Fin 6 => landing (F := F) (onAxis 1 i) c) :=
  Entails.of_eq (bs6 fun i : Fin 6 => landing (F := F) (onAxis 1 i) c).symm
theorem bar_out1 (c : Dev nD) : barPay 1 c ⊢ (iprop(landing (F := F) 1 (par 1 c) ∗ landing (F := F) 3 (par 3 c) ∗ landing (F := F) 8 (par 8 c) ∗ landing (F := F) 11 (par 11 c) ∗ landing (F := F) 12 (par 12 c) ∗ landing (F := F) 16 (par 16 c)) : sProp 𝕄) :=
  Entails.of_eq (bs6 fun i : Fin 6 => landing (F := F) (onAxis 1 i) (ax 1 c))

theorem bar_in2 (c : Dev nD) : iprop(landing (F := F) 2 c ∗ landing (F := F) 4 c ∗ landing (F := F) 6 c ∗ landing (F := F) 9 c ∗ landing (F := F) 13 c ∗ landing (F := F) 17 c) ⊢ (bigSep Finset.univ fun i : Fin 6 => landing (F := F) (onAxis 2 i) c) :=
  Entails.of_eq (bs6 fun i : Fin 6 => landing (F := F) (onAxis 2 i) c).symm
theorem bar_out2 (c : Dev nD) : barPay 2 c ⊢ (iprop(landing (F := F) 2 (par 2 c) ∗ landing (F := F) 4 (par 4 c) ∗ landing (F := F) 6 (par 6 c) ∗ landing (F := F) 9 (par 9 c) ∗ landing (F := F) 13 (par 13 c) ∗ landing (F := F) 17 (par 17 c)) : sProp 𝕄) :=
  Entails.of_eq (bs6 fun i : Fin 6 => landing (F := F) (onAxis 2 i) (ax 2 c))

end Cert.KernelIdeal.Moe

end
-- ==== Proof.KernelIdealLocal.lean ====
/-
# The local phase, piece by piece

Routing weights, the two one-hot matrices, the gathered rows and the experts' results, all on one device, with the
weights arriving in six slots; and the first two steps of the exchange.
-/
module

public import proofs.«01_k».proof.Proof.KernelIdealSteps

@[expose] public section

set_option maxRecDepth 16384

noncomputable section

namespace Cert.KernelIdeal.Moe

open Cert.KernelIdeal Cert.KernelIdeal.Gen

open Idealize.ShloMosaic
open Idealize.ShloMosaic.Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} (Sp : Spec m)
variable (K : Dev nD × CI → ℕ)

variable (m) in
/-- What a weight load needs besides its slot; what it runs on; where its slot's semaphore stands before and after. -/
def jobIn (j : Fin 8) (c : Dev nD) : sProp 𝕄 := iprop(sliceP m j c ∗ dutyTok ER (wCell c (jslot j)) (jround j) 0)
def runW (j : Fin 8) (c : Dev nD) : sProp 𝕄 := cred (tallyAt (wCell c (jslot j)) () NW)
def posW (j : Fin 8) (c : Dev nD) : sProp 𝕄 := atPos ER (wCell c (jslot j)) (jround j) ∅ 0
def posW1 (j : Fin 8) (c : Dev nD) : sProp 𝕄 := atPos ER (wCell c (jslot j)) (jround j + 1) ∅ 0
def rchW1 (j : Fin 8) (c : Dev nD) : sProp 𝕄 := reached ER (wCell c (jslot j)) (jround j + 1)

theorem wStart (j : Fin 8) (h0 : jround j = 0) (c : Dev nD) {src : Memref sig .tc .hbm S1024x1024 .f32} (hs : src = sliceM j)
    {dst : Memref sig .tc .vmem S1024x1024 .f32} (hd : dst = slotM (jslot j)) {q : DmaSem sig} (hq : q = wIx (jslot j))
    {hsrc : src.view.WordExact} {hdst : dst.view.WordExact} {hsem : DmaTarget.Typed (nD := nD) (τ := τ) (p := (Proc.tc : Proc τ)) .hbm (.dma q) (.here dst)}
    {α : Type} {k : PUnit → Prog (TpuEff nD τ sig (Elt F) Λ₀ .tc) α} {Q : α → sProp 𝕄} :
    iprop(Env Sp K ∗ jobIn m j c ∗ slotP (jslot j) c)
      ⊢ iprop((runW j c -∗ wpb c (k ⟨⟩) Q) -∗ wpb c (.op (.enqueueDma src (.here dst) (.dma q) hsrc hdst hsem) k) Q) := by
  unfold jobIn runW
  iintro ⟨#HE, ⟨Hs, Ht⟩, Hd⟩ Hk
  iapply (wCopy_step Sp K j c hs hd hq) $$ [Hs Hd Ht]
  · isplitr; · iexact HE
    isplitl [Hs]; · iexact Hs
    isplitl [Hd]; · iexact Hd
    isplitl [Ht]; · iexact Ht
    rw [h0]; iapply (env_reached Sp K c (.inr (.inl (jslot j)))); iexact HE
  iexact Hk

theorem wRestart (i j : Fin 8) (hij : jslot i = jslot j) (hr : jround i + 1 = jround j) (c : Dev nD) {src : Memref sig .tc .hbm S1024x1024 .f32} (hs : src = sliceM j)
    {dst : Memref sig .tc .vmem S1024x1024 .f32} (hd : dst = slotM (jslot j)) {q : DmaSem sig} (hq : q = wIx (jslot j))
    {hsrc : src.view.WordExact} {hdst : dst.view.WordExact} {hsem : DmaTarget.Typed (nD := nD) (τ := τ) (p := (Proc.tc : Proc τ)) .hbm (.dma q) (.here dst)}
    {α : Type} {k : PUnit → Prog (TpuEff nD τ sig (Elt F) Λ₀ .tc) α} {Q : α → sProp 𝕄} :
    iprop(Env Sp K ∗ jobIn m j c ∗ slotP (jslot i) c ∗ posW1 i c ∗ rchW1 i c)
      ⊢ iprop((runW j c ∗ posW j c -∗ wpb c (k ⟨⟩) Q) -∗ wpb c (.op (.enqueueDma src (.here dst) (.dma q) hsrc hdst hsem) k) Q) := by
  unfold jobIn runW posW posW1 rchW1
  rw [hij, hr]
  iintro ⟨#HE, ⟨Hs, Ht⟩, Hd, Ha, Hr⟩ Hk
  iapply (wCopy_step Sp K j c hs hd hq) $$ [Hs Hd Ht Hr]
  · isplitr; · iexact HE
    isplitl [Hs]; · iexact Hs
    isplitl [Hd]; · iexact Hd
    isplitl [Ht]; · iexact Ht
    iexact Hr
  iintro Hc
  iapply Hk
  isplitl [Hc]; · iexact Hc
  iexact Ha

theorem wDone (j : Fin 8) (c : Dev nD) {src : Memref sig .tc .hbm S1024x1024 .f32}
    {dst : Memref sig .tc .vmem S1024x1024 .f32} (hd : dst = slotM (jslot j)) {q : DmaSem sig} (hq : q = wIx (jslot j))
    {hsrc : src.view.WordExact} {hdst : dst.view.WordExact}
    {α : Type} {k : PUnit → Prog (TpuEff nD τ sig (Elt F) Λ₀ .tc) α} {Q : α → sProp 𝕄} :
    iprop(Env Sp K ∗ owesE c (Oat 0 c) ∗ runW j c ∗ posW j c)
      ⊢ iprop((owesE c (Oat 0 c) ∗ posW1 j c ∗ rchW1 j c ∗ loaded m (jslot j) j c ∗ sliceP m j c -∗ wpb c (k ⟨⟩) Q)
          -∗ wpb c (.op (.waitDma2 q src dst hsrc hdst) k) Q) := by
  unfold runW posW posW1 rchW1
  exact wWait_step Sp K j c hd hq

theorem read_x (f : Vec F S2048x1024 .f32) :
    xM.view.readAt (Elt F) (Rect.unit (s := S2048x1024) ![0, 0] S2048x1024.size inb_S2048x1024_S2048x1024_0_0).toLoadRect f = f :=
  Memref.readAt_unit_zero (Elt F) cc0_stg0_0 (funext fun a => by revert a; decide) inb_S2048x1024_S2048x1024_0_0 f
theorem read_rw (f : Vec F S1024x64 .f32) :
    rwM.view.readAt (Elt F) (Rect.unit (s := S1024x64) ![0, 0] S1024x64.size inb_S1024x64_S1024x64_0_0).toLoadRect f = f :=
  Memref.readAt_unit_zero (Elt F) cc0_stg1_0 (funext fun a => by revert a; decide) inb_S1024x64_S1024x64_0_0 f
theorem read_xb (f : Vec F S2048x1024 .bf16) :
    xbM.view.readAt (Elt F) (Rect.unit (s := S2048x1024) ![0, 0] S2048x1024.size inb_S2048x1024_S2048x1024_0_0).toLoadRect f = f :=
  Memref.readAt_unit_zero (Elt F) cc0_scratch0 (funext fun a => by revert a; decide) inb_S2048x1024_S2048x1024_0_0 f
theorem read_ohs (f : Vec F S2048x1024 .bf16) :
    ohsM.view.readAt (Elt F) (Rect.unit (s := S2048x1024) ![0, 0] S2048x1024.size inb_S2048x1024_S2048x1024_0_0).toLoadRect f = f :=
  Memref.readAt_unit_zero (Elt F) cc0_scratch1 (funext fun a => by revert a; decide) inb_S2048x1024_S2048x1024_0_0 f
theorem write_xb (f w : Vec F S2048x1024 .bf16) :
    (xbM.access (Rect.unit (s := S2048x1024) ![0, 0] S2048x1024.size inb_S2048x1024_S2048x1024_0_0)).write (Elt F) f w Finset.univ = w :=
  Memref.write_access_unit_zero_univ (Elt F) cc0_scratch0 (funext fun a => by revert a; decide) inb_S2048x1024_S2048x1024_0_0 f w
theorem write_gx (f w : Vec F S1024x1024 .bf16) :
    (gxM.access (Rect.unit (s := S1024x1024) ![0, 0] S1024x1024.size inb_S1024x1024_S1024x1024_0_0)).write (Elt F) f w Finset.univ = w :=
  Memref.write_access_unit_zero_univ (Elt F) cc0_scratch3 (funext fun a => by revert a; decide) inb_S1024x1024_S1024x1024_0_0 f w

set_option maxHeartbeats 1600000 in
theorem part4_step (c : Dev nD) (X : XB F) (R : RB F) (I : IB F)
    (Kt : (Σ' (v110 : FVec F S2048x8 .f32) (v115 : FVec F S2048x8 .bf16) (v124 : FVec F S512x8 .f32) (v133 : FVec F S512x8 .f32) (v134 : IVec S512x2048 32), IVec S512x2048 32) → sProp 𝕄) :
    Kt ⟨g110 c X R I, g115 c X R I, g124 c X R I, g133 c X R I, io0, k0_pay11⟩
      ⊢ wpb c (k0_part4 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 (wd c) (k0_pay2 X R) (k0_pay3 (col0 I)) (k0_pay4 (col1 I)) (k0_pay5 X R (col0 I)) (k0_pay6 (col1 I)) zf) Kt := by
  simp only [k0_part4_eq_skeleton]; unfold k0_part4_skel
  simp only [Prog.lift, Prog.bind_op, Prog.bind_ret, Prog.pure_eq_ret]
  exact wpb_ret c _ Kt

set_option maxHeartbeats 1600000 in
theorem part1_step (c : Dev nD) (Kt : (Σ' (d0 : Dev nD) (v2 : BitVec 32) (v6 : BitVec 32) (v8 : BitVec 32) (v10 : BitVec 32) (v11 : BitVec 32) (v12 : BitVec 32), BitVec 32) → sProp 𝕄) :
    iprop(Env Sp K ∗ (jobIn m 0 c ∗ slotP (jslot 0) c ∗ jobIn m 1 c ∗ slotP (jslot 1) c)
      ∗ (∀ d v2 v6 v8 v10 v11 v12 v13, ⌜c = d ∧ v2 = wd c⌝ ∗ runW 0 c ∗ runW 1 c -∗ Kt ⟨d, v2, v6, v8, v10, v11, v12, v13⟩))
      ⊢ wpb c (k0_part1 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 ) Kt := by
  simp only [k0_part1_eq_skeleton]; unfold k0_part1_skel
  simp only [semSignalWord, semWaitWord, Prog.lift, Prog.bind_op, Prog.bind_ret, Prog.pure_eq_ret, wp_deviceId]
  iintro ⟨#HE, ⟨HJ0, HSL0, HJ1, HSL1⟩, Hk⟩
  iapply (wStart Sp K 0 (by decide) c rfl rfl rfl) $$ [HJ0 HSL0]
  · isplitr; · iexact HE
    isplitl [HJ0]; · iexact HJ0
    iexact HSL0
  iintro HRUN0
  iapply (wStart Sp K 1 (by decide) c rfl rfl rfl) $$ [HJ1 HSL1]
  · isplitr; · iexact HE
    isplitl [HJ1]; · iexact HJ1
    iexact HSL1
  iintro HRUN1
  iapply (wpb_ret c)
  iapply Hk
  isplitr; · ipureintro; exact ⟨rfl, rfl⟩
  isplitl [HRUN0]; · iexact HRUN0
  iexact HRUN1

set_option maxHeartbeats 1600000 in
theorem part2_step (c : Dev nD) (v11 : BitVec 32) (Kt : (Σ' (v50 : Sems sig S_), BitVec 32) → sProp 𝕄) :
    iprop(Env Sp K ∗ (jobIn m 2 c ∗ slotP (jslot 2) c ∗ jobIn m 3 c ∗ slotP (jslot 3) c ∗ jobIn m 4 c ∗ slotP (jslot 4) c ∗ jobIn m 5 c ∗ slotP (jslot 5) c ∗ owesE c (O₀ c) ∗ dutyTok ER (barCell (ax 0 c)) 0 0 ∗ bigSep Finset.univ (fun i : Fin 6 => landing (F := F) (onAxis 0 i) c))
      ∗ (runW 2 c ∗ runW 3 c ∗ runW 4 c ∗ runW 5 c ∗ owesE c (O₁ c) -∗ Kt ⟨SemArray.scalar (sig.barrier 0 rfl), 1#32⟩))
      ⊢ wpb c (k0_part2 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v11) Kt := by
  simp only [k0_part2_eq_skeleton]; unfold k0_part2_skel
  simp only [semSignalWord, semWaitWord, Prog.lift, Prog.bind_op, Prog.bind_ret, Prog.pure_eq_ret, wp_deviceId]
  iintro ⟨#HE, ⟨HJ2, HSL2, HJ3, HSL3, HJ4, HSL4, HJ5, HSL5, HO, HT0, HLN0⟩, Hk⟩
  iapply (wStart Sp K 2 (by decide) c rfl rfl rfl) $$ [HJ2 HSL2]
  · isplitr; · iexact HE
    isplitl [HJ2]; · iexact HJ2
    iexact HSL2
  iintro HRUN2
  iapply (wStart Sp K 3 (by decide) c rfl rfl rfl) $$ [HJ3 HSL3]
  · isplitr; · iexact HE
    isplitl [HJ3]; · iexact HJ3
    iexact HSL3
  iintro HRUN3
  iapply (wStart Sp K 4 (by decide) c rfl rfl rfl) $$ [HJ4 HSL4]
  · isplitr; · iexact HE
    isplitl [HJ4]; · iexact HJ4
    iexact HSL4
  iintro HRUN4
  iapply (wStart Sp K 5 (by decide) c rfl rfl rfl) $$ [HJ5 HSL5]
  · isplitr; · iexact HE
    isplitl [HJ5]; · iexact HJ5
    iexact HSL5
  iintro HRUN5
  iapply (signal_step Sp K c 0 (dev1_eq c) (O₁ c) (O₀ c) rfl rfl rfl) $$ [HO HT0 HLN0]
  · isplitr; · iexact HE
    isplitl [HO]; · iexact HO
    isplitl [HT0]; · iexact HT0
    iexact HLN0
  iintro HO
  iapply (wpb_ret c)
  iapply Hk
  isplitl [HRUN2]; · iexact HRUN2
  isplitl [HRUN3]; · iexact HRUN3
  isplitl [HRUN4]; · iexact HRUN4
  isplitl [HRUN5]; · iexact HRUN5
  iexact HO

set_option maxHeartbeats 1600000 in
theorem part3_step (c : Dev nD) (v12 : BitVec 32) (v13 : BitVec 32) (X : XB F) (R : RB F) (I : IB F) (fx : Vec F S2048x1024 .bf16) (Kt : (Σ' (v72 : FVec F S2048x64 .f32) (v74 : IVec S2048x1 32) (v76 : IVec S2048x1 32) (v83 : FVec F S2048x1 .f32) (v85 : IVec S2048x64 1), F .f32) → sProp 𝕄) :
    iprop(Env Sp K ∗ (owesE c (O₁ c) ∗ dutyTok ER (barCell (ax 1 c)) 0 1 ∗ bigSep Finset.univ (fun i : Fin 6 => landing (F := F) (onAxis 1 i) c) ∗ dutyTok ER (barCell (ax 2 c)) 0 2 ∗ bigSep Finset.univ (fun i : Fin 6 => landing (F := F) (onAxis 2 i) c) ∗ cred (tallyAt (barCell c) () 3) ∗ atPos ER (barCell c) 0 ∅ 0 ∗ (xM.view.loc (c : Thread nD τ) ↦{fullShare} X) ∗ (rwM.view.loc (c : Thread nD τ) ↦{fullShare} R) ∗ (ixM.view.loc (c : Thread nD τ) ↦{fullShare} I) ∗ (xbM.view.loc (c : Thread nD τ) ↦{fullShare} fx))
      ∗ (owesE c (Oat 0 c) ∗ semVal (barCell c) 0 ∗ (barPay 0 c ∗ barPay 1 c ∗ barPay 2 c) ∗ (xM.view.loc (c : Thread nD τ) ↦{fullShare} X) ∗ (rwM.view.loc (c : Thread nD τ) ↦{fullShare} R) ∗ (ixM.view.loc (c : Thread nD τ) ↦{fullShare} I) ∗ (xbM.view.loc (c : Thread nD τ) ↦{fullShare} (k0_pay1 X)) -∗ Kt ⟨k0_pay2 X R, k0_pay3 (col0 I), k0_pay4 (col1 I), k0_pay5 X R (col0 I), k0_pay6 (col1 I), zf⟩))
      ⊢ wpb c (k0_part3 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v12 v13 (SemArray.scalar (sig.barrier 0 rfl)) 1#32) Kt := by
  simp only [k0_part3_eq_skeleton]; unfold k0_part3_skel
  simp only [semSignalWord, semWaitWord, Prog.lift, Prog.bind_op, Prog.bind_ret, Prog.pure_eq_ret, wp_deviceId]
  iintro ⟨#HE, ⟨HO, HT1, HLN1, HT2, HLN2, HCB, HPB, HX, HRW, HIX, HXB⟩, Hk⟩
  iapply (signal_step Sp K c 1 (dev2_eq c) (O₂ c) (O₁ c) rfl rfl rfl) $$ [HO HT1 HLN1]
  · isplitr; · iexact HE
    isplitl [HO]; · iexact HO
    isplitl [HT1]; · iexact HT1
    iexact HLN1
  iintro HO
  iapply (signal_step Sp K c 2 (dev3_eq c) (Oat 0 c) (O₂ c) rfl rfl rfl) $$ [HO HT2 HLN2]
  · isplitr; · iexact HE
    isplitl [HO]; · iexact HO
    isplitl [HT2]; · iexact HT2
    iexact HLN2
  iintro HO
  iapply (barWait_step Sp K c rfl rfl) $$ [HO HCB HPB]
  · isplitr; · iexact HE
    isplitl [HO]; · iexact HO
    isplitl [HCB]; · iexact HCB
    iexact HPB
  iintro ⟨HO, HDB, HBP⟩
  iapply (wp_load 𝒱₀ (c : Thread nD τ) none Set.univ (m := xM) (Finset.subset_univ _)) $$ HX; iintro HX
  rw [read_x]
  iapply (wp_load 𝒱₀ (c : Thread nD τ) none Set.univ (m := xbM) (Finset.subset_univ _)) $$ HXB; iintro HXB
  iapply (wp_store 𝒱₀ (c : Thread nD τ) none Set.univ (m := xbM) (r := (Rect.unit (s := S2048x1024) ![0, 0] S2048x1024.size inb_S2048x1024_S2048x1024_0_0)) (Mk := Finset.univ) (Finset.subset_univ _)) $$ HXB; iintro HXB
  rw [write_xb]
  iapply (wp_load 𝒱₀ (c : Thread nD τ) none Set.univ (m := xM) (Finset.subset_univ _)) $$ HX; iintro HX
  rw [read_x]
  iapply (wp_load 𝒱₀ (c : Thread nD τ) none Set.univ (m := rwM) (Finset.subset_univ _)) $$ HRW; iintro HRW
  rw [read_rw]
  iapply (wp_load 𝒱₀ (c : Thread nD τ) none Set.univ (m := ixM) (Finset.subset_univ _)) $$ HIX; iintro HIX
  iapply (wp_load 𝒱₀ (c : Thread nD τ) none Set.univ (m := ixM) (Finset.subset_univ _)) $$ HIX; iintro HIX
  iapply (wpb_ret c)
  iapply Hk
  isplitl [HO]; · iexact HO
  isplitl [HDB]; · iexact HDB
  isplitl [HBP]; · iexact HBP
  isplitl [HX]; · iexact HX
  isplitl [HRW]; · iexact HRW
  isplitl [HIX]; · iexact HIX
  iexact HXB

set_option maxHeartbeats 1600000 in
theorem part5_step (c : Dev nD) (v110 : FVec F S2048x8 .f32) (v115 : FVec F S2048x8 .bf16) (v124 : FVec F S512x8 .f32) (v133 : FVec F S512x8 .f32) (v134 : IVec S512x2048 32) (v135 : IVec S512x2048 32) (fu fs : Vec F S2048x1024 .bf16) (Kt : (Σ' (v153 : IVec S2048x8 32), FVec F S512x1024 .bf16) → sProp 𝕄) :
    iprop(Env Sp K ∗ ((ohuM.view.loc (c : Thread nD τ) ↦{fullShare} fu) ∗ (ohsM.view.loc (c : Thread nD τ) ↦{fullShare} fs))
      ∗ ((ohuM.view.loc (c : Thread nD τ) ↦{fullShare} ((ohuM.access rb0).write (Elt F) fu (k0_pay15 v110 v115 v124 v133 v134 v135) Finset.univ)) ∗ (ohsM.view.loc (c : Thread nD τ) ↦{fullShare} fs) -∗ Kt ⟨k0_pay12 v115 v124 v133 v134 v135, k0_pay16 v110 v115 v124 v133 v134 v135⟩))
      ⊢ wpb c (k0_part5 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 v110 v115 v124 v133 v134 v135) Kt := by
  simp only [k0_part5_eq_skeleton]; unfold k0_part5_skel
  simp only [semSignalWord, semWaitWord, Prog.lift, Prog.bind_op, Prog.bind_ret, Prog.pure_eq_ret, wp_deviceId]
  iintro ⟨#HE, ⟨HOHU, HOHS⟩, Hk⟩
  iapply (wp_load 𝒱₀ (c : Thread nD τ) none Set.univ (m := ohuM) (Finset.subset_univ _)) $$ HOHU; iintro HOHU
  iapply (wp_store 𝒱₀ (c : Thread nD τ) none Set.univ (m := ohuM) (r := rb0) (Mk := Finset.univ) (Finset.subset_univ _)) $$ HOHU; iintro HOHU
  iapply (wp_load 𝒱₀ (c : Thread nD τ) none Set.univ (m := ohsM) (Finset.subset_univ _)) $$ HOHS; iintro HOHS
  iapply (wpb_ret c)
  iapply Hk
  isplitl [HOHU]; · iexact HOHU
  iexact HOHS

set_option maxHeartbeats 1600000 in
theorem part6_step (c : Dev nD) (v110 : FVec F S2048x8 .f32) (v153 : IVec S2048x8 32) (v180 : FVec F S512x1024 .bf16) (fu fs : Vec F S2048x1024 .bf16) (Kt : (Σ' (v223 : FVec F S512x1024 .f32) (v227 : IVec S512x1024 1), FVec F S512x1024 .f32) → sProp 𝕄) :
    iprop(Env Sp K ∗ ((ohuM.view.loc (c : Thread nD τ) ↦{fullShare} fu) ∗ (ohsM.view.loc (c : Thread nD τ) ↦{fullShare} fs))
      ∗ ((ohuM.view.loc (c : Thread nD τ) ↦{fullShare} ((ohuM.access rb1).write (Elt F) fu (k0_pay20 v110 v153) Finset.univ)) ∗ (ohsM.view.loc (c : Thread nD τ) ↦{fullShare} ((ohsM.access rb1).write (Elt F) ((ohsM.access rb0).write (Elt F) fs (k0_pay17 v180) Finset.univ) (k0_pay21 v110 v153) Finset.univ)) -∗ Kt ⟨k0_pay22 v110, k0_pay23 v153, k0_pay24 (F := F)⟩))
      ⊢ wpb c (k0_part6 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 v110 v153 v180) Kt := by
  simp only [k0_part6_eq_skeleton]; unfold k0_part6_skel
  simp only [semSignalWord, semWaitWord, Prog.lift, Prog.bind_op, Prog.bind_ret, Prog.pure_eq_ret, wp_deviceId]
  iintro ⟨#HE, ⟨HOHU, HOHS⟩, Hk⟩
  iapply (wp_store 𝒱₀ (c : Thread nD τ) none Set.univ (m := ohsM) (r := rb0) (Mk := Finset.univ) (Finset.subset_univ _)) $$ HOHS; iintro HOHS
  iapply (wp_load 𝒱₀ (c : Thread nD τ) none Set.univ (m := ohuM) (Finset.subset_univ _)) $$ HOHU; iintro HOHU
  iapply (wp_store 𝒱₀ (c : Thread nD τ) none Set.univ (m := ohuM) (r := rb1) (Mk := Finset.univ) (Finset.subset_univ _)) $$ HOHU; iintro HOHU
  iapply (wp_load 𝒱₀ (c : Thread nD τ) none Set.univ (m := ohsM) (Finset.subset_univ _)) $$ HOHS; iintro HOHS
  iapply (wp_store 𝒱₀ (c : Thread nD τ) none Set.univ (m := ohsM) (r := rb1) (Mk := Finset.univ) (Finset.subset_univ _)) $$ HOHS; iintro HOHS
  iapply (wpb_ret c)
  iapply Hk
  isplitl [HOHU]; · iexact HOHU
  iexact HOHS

set_option maxHeartbeats 1600000 in
theorem part7_step (c : Dev nD) (v110 : FVec F S2048x8 .f32) (v153 : IVec S2048x8 32) (v223 : FVec F S512x1024 .f32) (v227 : IVec S512x1024 1) (v228 : FVec F S512x1024 .f32) (fu fs : Vec F S2048x1024 .bf16) (Kt : (FVec F S512x1024 .bf16) → sProp 𝕄) :
    iprop(Env Sp K ∗ ((ohuM.view.loc (c : Thread nD τ) ↦{fullShare} fu) ∗ (ohsM.view.loc (c : Thread nD τ) ↦{fullShare} fs))
      ∗ ((ohuM.view.loc (c : Thread nD τ) ↦{fullShare} ((ohuM.access rb3).write (Elt F) ((ohuM.access rb2).write (Elt F) fu (k0_pay26 v223 v227 v228) Finset.univ) (k0_pay30 v110 v153) Finset.univ)) ∗ (ohsM.view.loc (c : Thread nD τ) ↦{fullShare} ((ohsM.access rb2).write (Elt F) fs (k0_pay27 v223 v227 v228) Finset.univ)) -∗ Kt (k0_pay31 v110 v153)))
      ⊢ wpb c (k0_part7 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 v110 v153 v223 v227 v228) Kt := by
  simp only [k0_part7_eq_skeleton]; unfold k0_part7_skel
  simp only [semSignalWord, semWaitWord, Prog.lift, Prog.bind_op, Prog.bind_ret, Prog.pure_eq_ret, wp_deviceId]
  iintro ⟨#HE, ⟨HOHU, HOHS⟩, Hk⟩
  iapply (wp_load 𝒱₀ (c : Thread nD τ) none Set.univ (m := ohuM) (Finset.subset_univ _)) $$ HOHU; iintro HOHU
  iapply (wp_store 𝒱₀ (c : Thread nD τ) none Set.univ (m := ohuM) (r := rb2) (Mk := Finset.univ) (Finset.subset_univ _)) $$ HOHU; iintro HOHU
  iapply (wp_load 𝒱₀ (c : Thread nD τ) none Set.univ (m := ohsM) (Finset.subset_univ _)) $$ HOHS; iintro HOHS
  iapply (wp_store 𝒱₀ (c : Thread nD τ) none Set.univ (m := ohsM) (r := rb2) (Mk := Finset.univ) (Finset.subset_univ _)) $$ HOHS; iintro HOHS
  iapply (wp_load 𝒱₀ (c : Thread nD τ) none Set.univ (m := ohuM) (Finset.subset_univ _)) $$ HOHU; iintro HOHU
  iapply (wp_store 𝒱₀ (c : Thread nD τ) none Set.univ (m := ohuM) (r := rb3) (Mk := Finset.univ) (Finset.subset_univ _)) $$ HOHU; iintro HOHU
  iapply (wpb_ret c)
  iapply Hk
  isplitl [HOHU]; · iexact HOHU
  iexact HOHS

set_option maxHeartbeats 1600000 in
theorem part8_step (c : Dev nD) (v270 : FVec F S512x1024 .bf16) (fs fx : Vec F S2048x1024 .bf16) (g fh : Vec F S1024x1024 .bf16) (Kt : (PUnit) → sProp 𝕄) :
    iprop(Env Sp K ∗ ((ohsM.view.loc (c : Thread nD τ) ↦{fullShare} fs) ∗ (xbM.view.loc (c : Thread nD τ) ↦{fullShare} fx) ∗ (gxM.view.loc (c : Thread nD τ) ↦{fullShare} g) ∗ (hsM.view.loc (c : Thread nD τ) ↦{fullShare} fh) ∗ owesE c (Oat 0 c) ∗ runW 0 c ∗ posW 0 c)
      ∗ ((ohsM.view.loc (c : Thread nD τ) ↦{fullShare} ((ohsM.access rb3).write (Elt F) fs (k0_pay32 v270) Finset.univ)) ∗ (xbM.view.loc (c : Thread nD τ) ↦{fullShare} fx) ∗ (gxM.view.loc (c : Thread nD τ) ↦{fullShare} (k0_pay33 ((ohsM.access rb3).write (Elt F) fs (k0_pay32 v270) Finset.univ) fx)) ∗ (hsM.view.loc (c : Thread nD τ) ↦{fullShare} ((hsM.access rh0).write (Elt F) fh (k0_pay34 (wj (m ((c : Thread nD τ).loc main_arg3)) 0) (gxM.view.readAt (Elt F) rh0.toLoadRect (k0_pay33 ((ohsM.access rb3).write (Elt F) fs (k0_pay32 v270) Finset.univ) fx))) Finset.univ)) ∗ owesE c (Oat 0 c) ∗ rchW1 0 c ∗ slotP (jslot 0) c ∗ posW1 0 c ∗ sliceP m 0 c -∗ Kt ⟨⟩))
      ⊢ wpb c (k0_part8 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 v270) Kt := by
  simp only [k0_part8_eq_skeleton]; unfold k0_part8_skel
  simp only [semSignalWord, semWaitWord, Prog.lift, Prog.bind_op, Prog.bind_ret, Prog.pure_eq_ret, wp_deviceId]
  iintro ⟨#HE, ⟨HOHS, HXB, HGX, HHS, HO, HRUN0, HPW0⟩, Hk⟩
  iapply (wp_load 𝒱₀ (c : Thread nD τ) none Set.univ (m := ohsM) (Finset.subset_univ _)) $$ HOHS; iintro HOHS
  iapply (wp_store 𝒱₀ (c : Thread nD τ) none Set.univ (m := ohsM) (r := rb3) (Mk := Finset.univ) (Finset.subset_univ _)) $$ HOHS; iintro HOHS
  iapply (wp_load 𝒱₀ (c : Thread nD τ) none Set.univ (m := ohsM) (Finset.subset_univ _)) $$ HOHS; iintro HOHS
  rw [read_ohs]
  iapply (wp_load 𝒱₀ (c : Thread nD τ) none Set.univ (m := xbM) (Finset.subset_univ _)) $$ HXB; iintro HXB
  rw [read_xb]
  iapply (wp_load 𝒱₀ (c : Thread nD τ) none Set.univ (m := gxM) (Finset.subset_univ _)) $$ HGX; iintro HGX
  iapply (wp_store 𝒱₀ (c : Thread nD τ) none Set.univ (m := gxM) (r := (Rect.unit (s := S1024x1024) ![0, 0] S1024x1024.size inb_S1024x1024_S1024x1024_0_0)) (Mk := Finset.univ) (Finset.subset_univ _)) $$ HGX; iintro HGX
  rw [write_gx]
  iapply (wDone Sp K 0 c rfl rfl) $$ [HO HRUN0 HPW0]
  · isplitr; · iexact HE
    isplitl [HO]; · iexact HO
    isplitl [HRUN0]; · iexact HRUN0
    iexact HPW0
  iintro ⟨HO, HQ0, HRC0, HL0, HSC0⟩
  iapply (loadW_step (jslot 0) 0 c) $$ HL0; iintro HSL0
  iapply (wp_load 𝒱₀ (c : Thread nD τ) none Set.univ (m := gxM) (r := rh0.toLoadRect) (Finset.subset_univ _)) $$ HGX; iintro HGX
  iapply (wp_load 𝒱₀ (c : Thread nD τ) none Set.univ (m := hsM) (Finset.subset_univ _)) $$ HHS; iintro HHS
  iapply (wp_store 𝒱₀ (c : Thread nD τ) none Set.univ (m := hsM) (r := rh0) (Mk := Finset.univ) (Finset.subset_univ _)) $$ HHS; iintro HHS
  iapply (wpb_ret c)
  iapply Hk
  isplitl [HOHS]; · iexact HOHS
  isplitl [HXB]; · iexact HXB
  isplitl [HGX]; · iexact HGX
  isplitl [HHS]; · iexact HHS
  isplitl [HO]; · iexact HO
  isplitl [HRC0]; · iexact HRC0
  isplitl [HSL0]; · iexact HSL0
  isplitl [HQ0]; · iexact HQ0
  iexact HSC0

set_option maxHeartbeats 1600000 in
theorem part9_step (c : Dev nD) (G fh : Vec F S1024x1024 .bf16) (Kt : (PUnit) → sProp 𝕄) :
    iprop(Env Sp K ∗ ((gxM.view.loc (c : Thread nD τ) ↦{fullShare} G) ∗ (hsM.view.loc (c : Thread nD τ) ↦{fullShare} fh) ∗ owesE c (Oat 0 c) ∗ jobIn m 6 c ∗ slotP (jslot 0) c ∗ posW1 0 c ∗ rchW1 0 c ∗ runW 1 c ∗ posW 1 c ∗ jobIn m 7 c)
      ∗ ((gxM.view.loc (c : Thread nD τ) ↦{fullShare} G) ∗ (hsM.view.loc (c : Thread nD τ) ↦{fullShare} ((hsM.access rh1).write (Elt F) fh (k0_pay35 (wj (m ((c : Thread nD τ).loc main_arg3)) 1) (gxM.view.readAt (Elt F) rh1.toLoadRect G)) Finset.univ)) ∗ owesE c (Oat 0 c) ∗ runW 6 c ∗ posW 6 c ∗ sliceP m 1 c ∗ runW 7 c ∗ posW 7 c -∗ Kt ⟨⟩))
      ⊢ wpb c (k0_part9 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 ) Kt := by
  simp only [k0_part9_eq_skeleton]; unfold k0_part9_skel
  simp only [semSignalWord, semWaitWord, Prog.lift, Prog.bind_op, Prog.bind_ret, Prog.pure_eq_ret, wp_deviceId]
  iintro ⟨#HE, ⟨HGX, HHS, HO, HJ6, HSL0, HQ0, HRC0, HRUN1, HPW1, HJ7⟩, Hk⟩
  iapply (wRestart Sp K 0 6 (by decide) (by decide) c rfl rfl rfl) $$ [HJ6 HSL0 HQ0 HRC0]
  · isplitr; · iexact HE
    isplitl [HJ6]; · iexact HJ6
    isplitl [HSL0]; · iexact HSL0
    isplitl [HQ0]; · iexact HQ0
    iexact HRC0
  iintro ⟨HRUN6, HPW6⟩
  iapply (wDone Sp K 1 c rfl rfl) $$ [HO HRUN1 HPW1]
  · isplitr; · iexact HE
    isplitl [HO]; · iexact HO
    isplitl [HRUN1]; · iexact HRUN1
    iexact HPW1
  iintro ⟨HO, HQ1, HRC1, HL1, HSC1⟩
  iapply (loadW_step (jslot 1) 1 c) $$ HL1; iintro HSL1
  iapply (wp_load 𝒱₀ (c : Thread nD τ) none Set.univ (m := gxM) (r := rh1.toLoadRect) (Finset.subset_univ _)) $$ HGX; iintro HGX
  iapply (wp_load 𝒱₀ (c : Thread nD τ) none Set.univ (m := hsM) (Finset.subset_univ _)) $$ HHS; iintro HHS
  iapply (wp_store 𝒱₀ (c : Thread nD τ) none Set.univ (m := hsM) (r := rh1) (Mk := Finset.univ) (Finset.subset_univ _)) $$ HHS; iintro HHS
  iapply (wRestart Sp K 1 7 (by decide) (by decide) c rfl rfl rfl) $$ [HJ7 HSL1 HQ1 HRC1]
  · isplitr; · iexact HE
    isplitl [HJ7]; · iexact HJ7
    isplitl [HSL1]; · iexact HSL1
    isplitl [HQ1]; · iexact HQ1
    iexact HRC1
  iintro ⟨HRUN7, HPW7⟩
  iapply (wpb_ret c)
  iapply Hk
  isplitl [HGX]; · iexact HGX
  isplitl [HHS]; · iexact HHS
  isplitl [HO]; · iexact HO
  isplitl [HRUN6]; · iexact HRUN6
  isplitl [HPW6]; · iexact HPW6
  isplitl [HSC1]; · iexact HSC1
  isplitl [HRUN7]; · iexact HRUN7
  iexact HPW7

set_option maxHeartbeats 1600000 in
theorem part10_step (c : Dev nD) (G fh : Vec F S1024x1024 .bf16) (Kt : (PUnit) → sProp 𝕄) :
    iprop(Env Sp K ∗ ((gxM.view.loc (c : Thread nD τ) ↦{fullShare} G) ∗ (hsM.view.loc (c : Thread nD τ) ↦{fullShare} fh) ∗ owesE c (Oat 0 c) ∗ runW 2 c ∗ posW 2 c ∗ runW 3 c ∗ posW 3 c)
      ∗ ((gxM.view.loc (c : Thread nD τ) ↦{fullShare} G) ∗ (hsM.view.loc (c : Thread nD τ) ↦{fullShare} ((hsM.access rh3).write (Elt F) ((hsM.access rh2).write (Elt F) fh (k0_pay36 (wj (m ((c : Thread nD τ).loc main_arg3)) 2) (gxM.view.readAt (Elt F) rh2.toLoadRect G)) Finset.univ) (k0_pay37 (wj (m ((c : Thread nD τ).loc main_arg3)) 3) (gxM.view.readAt (Elt F) rh3.toLoadRect G)) Finset.univ)) ∗ owesE c (Oat 0 c) ∗ slotP (jslot 2) c ∗ posW1 2 c ∗ sliceP m 2 c ∗ slotP (jslot 3) c ∗ posW1 3 c ∗ sliceP m 3 c -∗ Kt ⟨⟩))
      ⊢ wpb c (k0_part10 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 ) Kt := by
  simp only [k0_part10_eq_skeleton]; unfold k0_part10_skel
  simp only [semSignalWord, semWaitWord, Prog.lift, Prog.bind_op, Prog.bind_ret, Prog.pure_eq_ret, wp_deviceId]
  iintro ⟨#HE, ⟨HGX, HHS, HO, HRUN2, HPW2, HRUN3, HPW3⟩, Hk⟩
  iapply (wDone Sp K 2 c rfl rfl) $$ [HO HRUN2 HPW2]
  · isplitr; · iexact HE
    isplitl [HO]; · iexact HO
    isplitl [HRUN2]; · iexact HRUN2
    iexact HPW2
  iintro ⟨HO, HQ2, HRC2, HL2, HSC2⟩
  iapply (loadW_step (jslot 2) 2 c) $$ HL2; iintro HSL2
  iapply (wp_load 𝒱₀ (c : Thread nD τ) none Set.univ (m := gxM) (r := rh2.toLoadRect) (Finset.subset_univ _)) $$ HGX; iintro HGX
  iapply (wp_load 𝒱₀ (c : Thread nD τ) none Set.univ (m := hsM) (Finset.subset_univ _)) $$ HHS; iintro HHS
  iapply (wp_store 𝒱₀ (c : Thread nD τ) none Set.univ (m := hsM) (r := rh2) (Mk := Finset.univ) (Finset.subset_univ _)) $$ HHS; iintro HHS
  iapply (wDone Sp K 3 c rfl rfl) $$ [HO HRUN3 HPW3]
  · isplitr; · iexact HE
    isplitl [HO]; · iexact HO
    isplitl [HRUN3]; · iexact HRUN3
    iexact HPW3
  iintro ⟨HO, HQ3, HRC3, HL3, HSC3⟩
  iapply (loadW_step (jslot 3) 3 c) $$ HL3; iintro HSL3
  iapply (wp_load 𝒱₀ (c : Thread nD τ) none Set.univ (m := gxM) (r := rh3.toLoadRect) (Finset.subset_univ _)) $$ HGX; iintro HGX
  iapply (wp_load 𝒱₀ (c : Thread nD τ) none Set.univ (m := hsM) (Finset.subset_univ _)) $$ HHS; iintro HHS
  iapply (wp_store 𝒱₀ (c : Thread nD τ) none Set.univ (m := hsM) (r := rh3) (Mk := Finset.univ) (Finset.subset_univ _)) $$ HHS; iintro HHS
  iapply (wpb_ret c)
  iapply Hk
  isplitl [HGX]; · iexact HGX
  isplitl [HHS]; · iexact HHS
  isplitl [HO]; · iexact HO
  isplitl [HSL2]; · iexact HSL2
  isplitl [HQ2]; · iexact HQ2
  isplitl [HSC2]; · iexact HSC2
  isplitl [HSL3]; · iexact HSL3
  isplitl [HQ3]; · iexact HQ3
  iexact HSC3

set_option maxHeartbeats 1600000 in
theorem part11_step (c : Dev nD) (G fh : Vec F S1024x1024 .bf16) (Kt : (PUnit) → sProp 𝕄) :
    iprop(Env Sp K ∗ ((gxM.view.loc (c : Thread nD τ) ↦{fullShare} G) ∗ (hsM.view.loc (c : Thread nD τ) ↦{fullShare} fh) ∗ owesE c (Oat 0 c) ∗ runW 4 c ∗ posW 4 c ∗ runW 5 c ∗ posW 5 c)
      ∗ ((gxM.view.loc (c : Thread nD τ) ↦{fullShare} G) ∗ (hsM.view.loc (c : Thread nD τ) ↦{fullShare} ((hsM.access rh5).write (Elt F) ((hsM.access rh4).write (Elt F) fh (k0_pay38 (wj (m ((c : Thread nD τ).loc main_arg3)) 4) (gxM.view.readAt (Elt F) rh4.toLoadRect G)) Finset.univ) (k0_pay39 (wj (m ((c : Thread nD τ).loc main_arg3)) 5) (gxM.view.readAt (Elt F) rh5.toLoadRect G)) Finset.univ)) ∗ owesE c (Oat 0 c) ∗ slotP (jslot 4) c ∗ posW1 4 c ∗ sliceP m 4 c ∗ slotP (jslot 5) c ∗ posW1 5 c ∗ sliceP m 5 c -∗ Kt ⟨⟩))
      ⊢ wpb c (k0_part11 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 ) Kt := by
  simp only [k0_part11_eq_skeleton]; unfold k0_part11_skel
  simp only [semSignalWord, semWaitWord, Prog.lift, Prog.bind_op, Prog.bind_ret, Prog.pure_eq_ret, wp_deviceId]
  iintro ⟨#HE, ⟨HGX, HHS, HO, HRUN4, HPW4, HRUN5, HPW5⟩, Hk⟩
  iapply (wDone Sp K 4 c rfl rfl) $$ [HO HRUN4 HPW4]
  · isplitr; · iexact HE
    isplitl [HO]; · iexact HO
    isplitl [HRUN4]; · iexact HRUN4
    iexact HPW4
  iintro ⟨HO, HQ4, HRC4, HL4, HSC4⟩
  iapply (loadW_step (jslot 4) 4 c) $$ HL4; iintro HSL4
  iapply (wp_load 𝒱₀ (c : Thread nD τ) none Set.univ (m := gxM) (r := rh4.toLoadRect) (Finset.subset_univ _)) $$ HGX; iintro HGX
  iapply (wp_load 𝒱₀ (c : Thread nD τ) none Set.univ (m := hsM) (Finset.subset_univ _)) $$ HHS; iintro HHS
  iapply (wp_store 𝒱₀ (c : Thread nD τ) none Set.univ (m := hsM) (r := rh4) (Mk := Finset.univ) (Finset.subset_univ _)) $$ HHS; iintro HHS
  iapply (wDone Sp K 5 c rfl rfl) $$ [HO HRUN5 HPW5]
  · isplitr; · iexact HE
    isplitl [HO]; · iexact HO
    isplitl [HRUN5]; · iexact HRUN5
    iexact HPW5
  iintro ⟨HO, HQ5, HRC5, HL5, HSC5⟩
  iapply (loadW_step (jslot 5) 5 c) $$ HL5; iintro HSL5
  iapply (wp_load 𝒱₀ (c : Thread nD τ) none Set.univ (m := gxM) (r := rh5.toLoadRect) (Finset.subset_univ _)) $$ HGX; iintro HGX
  iapply (wp_load 𝒱₀ (c : Thread nD τ) none Set.univ (m := hsM) (Finset.subset_univ _)) $$ HHS; iintro HHS
  iapply (wp_store 𝒱₀ (c : Thread nD τ) none Set.univ (m := hsM) (r := rh5) (Mk := Finset.univ) (Finset.subset_univ _)) $$ HHS; iintro HHS
  iapply (wpb_ret c)
  iapply Hk
  isplitl [HGX]; · iexact HGX
  isplitl [HHS]; · iexact HHS
  isplitl [HO]; · iexact HO
  isplitl [HSL4]; · iexact HSL4
  isplitl [HQ4]; · iexact HQ4
  isplitl [HSC4]; · iexact HSC4
  isplitl [HSL5]; · iexact HSL5
  isplitl [HQ5]; · iexact HQ5
  iexact HSC5

set_option maxHeartbeats 1600000 in
theorem part12_step (c : Dev nD) (G fh : Vec F S1024x1024 .bf16) (Kt : (FVec F S128x1024 .bf16) → sProp 𝕄) :
    iprop(Env Sp K ∗ ((gxM.view.loc (c : Thread nD τ) ↦{fullShare} G) ∗ (hsM.view.loc (c : Thread nD τ) ↦{fullShare} fh) ∗ owesE c (Oat 0 c) ∗ runW 6 c ∗ posW 6 c ∗ runW 7 c ∗ posW 7 c)
      ∗ ((gxM.view.loc (c : Thread nD τ) ↦{fullShare} G) ∗ (hsM.view.loc (c : Thread nD τ) ↦{fullShare} ((hsM.access rh6).write (Elt F) fh (k0_pay40 (wj (m ((c : Thread nD τ).loc main_arg3)) 6) (gxM.view.readAt (Elt F) rh6.toLoadRect G)) Finset.univ)) ∗ owesE c (Oat 0 c) ∗ slotP (jslot 6) c ∗ posW1 6 c ∗ sliceP m 6 c ∗ slotP (jslot 7) c ∗ posW1 7 c ∗ sliceP m 7 c -∗ Kt (k0_pay41 (wj (m ((c : Thread nD τ).loc main_arg3)) 7) (gxM.view.readAt (Elt F) rh7.toLoadRect G))))
      ⊢ wpb c (k0_part12 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 ) Kt := by
  simp only [k0_part12_eq_skeleton]; unfold k0_part12_skel
  simp only [semSignalWord, semWaitWord, Prog.lift, Prog.bind_op, Prog.bind_ret, Prog.pure_eq_ret, wp_deviceId]
  iintro ⟨#HE, ⟨HGX, HHS, HO, HRUN6, HPW6, HRUN7, HPW7⟩, Hk⟩
  iapply (wDone Sp K 6 c rfl rfl) $$ [HO HRUN6 HPW6]
  · isplitr; · iexact HE
    isplitl [HO]; · iexact HO
    isplitl [HRUN6]; · iexact HRUN6
    iexact HPW6
  iintro ⟨HO, HQ6, HRC6, HL6, HSC6⟩
  iapply (loadW_step (jslot 6) 6 c) $$ HL6; iintro HSL6
  iapply (wp_load 𝒱₀ (c : Thread nD τ) none Set.univ (m := gxM) (r := rh6.toLoadRect) (Finset.subset_univ _)) $$ HGX; iintro HGX
  iapply (wp_load 𝒱₀ (c : Thread nD τ) none Set.univ (m := hsM) (Finset.subset_univ _)) $$ HHS; iintro HHS
  iapply (wp_store 𝒱₀ (c : Thread nD τ) none Set.univ (m := hsM) (r := rh6) (Mk := Finset.univ) (Finset.subset_univ _)) $$ HHS; iintro HHS
  iapply (wDone Sp K 7 c rfl rfl) $$ [HO HRUN7 HPW7]
  · isplitr; · iexact HE
    isplitl [HO]; · iexact HO
    isplitl [HRUN7]; · iexact HRUN7
    iexact HPW7
  iintro ⟨HO, HQ7, HRC7, HL7, HSC7⟩
  iapply (loadW_step (jslot 7) 7 c) $$ HL7; iintro HSL7
  iapply (wp_load 𝒱₀ (c : Thread nD τ) none Set.univ (m := gxM) (r := rh7.toLoadRect) (Finset.subset_univ _)) $$ HGX; iintro HGX
  iapply (wpb_ret c)
  iapply Hk
  isplitl [HGX]; · iexact HGX
  isplitl [HHS]; · iexact HHS
  isplitl [HO]; · iexact HO
  isplitl [HSL6]; · iexact HSL6
  isplitl [HQ6]; · iexact HQ6
  isplitl [HSC6]; · iexact HSC6
  isplitl [HSL7]; · iexact HSL7
  isplitl [HQ7]; · iexact HQ7
  iexact HSC7

set_option maxHeartbeats 1600000 in
theorem part13_step (c : Dev nD) (v6 : BitVec 32) (v8 : BitVec 32) (v11 : BitVec 32) (v409 : FVec F S128x1024 .bf16) (fo : Vec F S2048x1024 .bf16) (fh : Vec F S1024x1024 .bf16) (hL : LocalOKm m c fo ((hsM.access rh7).write (Elt F) fh (k0_pay42 v409) Finset.univ)) (Kt : (Σ' (v433 : BitVec 32), FVec F S352x1024 .f32) → sProp 𝕄) :
    iprop(Env Sp K ∗ ((ohuM.view.loc (c : Thread nD τ) ↦{fullShare} fo) ∗ (hsM.view.loc (c : Thread nD τ) ↦{fullShare} fh) ∗ sbAny 0 c ∗ owesE c (Oat 0 c) ∗ preP 0 c)
      ∗ (∀ (w : BitVec 32) (v : FVec F S352x1024 .f32), ⌜Sp.Sent 1 c (k0_pay45 v)⌝ ∗ (ohuM.view.loc (c : Thread nD τ) ↦{fullShare} fo) ∗ (hsM.view.loc (c : Thread nD τ) ↦{fullShare} ((hsM.access rh7).write (Elt F) fh (k0_pay42 v409) Finset.univ)) ∗ sbRest 0 c ∗ owesE c (Oat 1 c) ∗ credS 0 c -∗ Kt ⟨w, v⟩))
      ⊢ wpb c (k0_part13 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v6 v8 v11 v409) Kt := by
  simp only [k0_part13_eq_skeleton]; unfold k0_part13_skel
  simp only [semSignalWord, semWaitWord, Prog.lift, Prog.bind_op, Prog.bind_ret, Prog.pure_eq_ret, wp_deviceId]
  iintro ⟨#HE, ⟨HOHU, HHS, HSB0, HO, HPRE0⟩, Hk⟩
  iapply (wp_load 𝒱₀ (c : Thread nD τ) none Set.univ (m := hsM) (Finset.subset_univ _)) $$ HHS; iintro HHS
  iapply (wp_store 𝒱₀ (c : Thread nD τ) none Set.univ (m := hsM) (r := rh7) (Mk := Finset.univ) (Finset.subset_univ _)) $$ HHS; iintro HHS
  iapply (wp_load 𝒱₀ (c : Thread nD τ) none Set.univ (m := ohuM) (Finset.subset_univ _)) $$ HOHU; iintro HOHU
  iapply (wp_load 𝒱₀ (c : Thread nD τ) none Set.univ (m := hsM) (Finset.subset_univ _)) $$ HHS; iintro HHS
  rw [read_hs]
  iapply (loadSb_step 0 c) $$ HSB0; iintro %_ HSB0
  iapply (storeSb_step Sp 0 0 (by decide) c _ (Sp.sent0 c _ _ hL)) $$ HSB0; iintro ⟨HSH0, HSR0⟩
  iapply (send_step Sp K 0 0 1 rfl rfl c (dev4_eq c) rfl rfl rfl rfl) $$ [HO HSH0 HPRE0]
  · isplitr; · iexact HE
    isplitl [HO]; · iexact HO
    isplitl [HSH0]; · iexact HSH0
    iexact HPRE0
  iintro ⟨HO, HCS0⟩
  iapply (wp_load 𝒱₀ (c : Thread nD τ) none Set.univ (m := ohuM) (Finset.subset_univ _)) $$ HOHU; iintro HOHU
  iapply (wp_load 𝒱₀ (c : Thread nD τ) none Set.univ (m := hsM) (Finset.subset_univ _)) $$ HHS; iintro HHS
  rw [read_hs]
  iapply (wpb_ret c)
  iapply Hk
  isplitr; · ipureintro; exact Sp.sent1 c _ _ hL
  isplitl [HOHU]; · iexact HOHU
  isplitl [HHS]; · iexact HHS
  isplitl [HSR0]; · iexact HSR0
  isplitl [HO]; · iexact HO
  iexact HCS0

end Cert.KernelIdeal.Moe

end
-- ==== Proof.KernelIdealExcA.lean ====
/-
# The exchanges, piece by piece

Each theorem runs one piece of the body, from what the piece needs on one device to what it leaves.
-/
module

public import proofs.«01_k».proof.Proof.KernelIdealSteps

@[expose] public section

set_option maxRecDepth 16384

noncomputable section

namespace Cert.KernelIdeal.Moe

open Cert.KernelIdeal Cert.KernelIdeal.Gen

open Idealize.ShloMosaic
open Idealize.ShloMosaic.Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} (Sp : Spec m)
variable (K : Dev nD × CI → ℕ)

set_option maxHeartbeats 1600000 in
theorem part14_step (c : Dev nD) (v8 : BitVec 32) (v10 : BitVec 32) (v12 : BitVec 32) (v13 : BitVec 32) (v440 : FVec F S352x1024 .f32) (fo : Vec F S2048x1024 .bf16) (fh : Vec F S1024x1024 .bf16) (hL : LocalOKm m c fo fh) (h1 : Sp.Sent 1 c (k0_pay45 v440)) (Kt : (BitVec 32) → sProp 𝕄) :
    iprop(Env Sp K ∗ (sbAny 1 c ∗ owesE c (Oat 1 c) ∗ preP 1 c ∗ (ohuM.view.loc (c : Thread nD τ) ↦{fullShare} fo) ∗ (hsM.view.loc (c : Thread nD τ) ↦{fullShare} fh) ∗ sbAny 2 c)
      ∗ (∀ w, sbRest 1 c ∗ owesE c (Oat 2 c) ∗ credS 1 c ∗ (ohuM.view.loc (c : Thread nD τ) ↦{fullShare} fo) ∗ (hsM.view.loc (c : Thread nD τ) ↦{fullShare} fh) ∗ sbHas Sp 2 c ∗ sbRest 2 c -∗ Kt w))
      ⊢ wpb c (k0_part14 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v10 v12 v13 v440) Kt := by
  simp only [k0_part14_eq_skeleton]; unfold k0_part14_skel
  simp only [Prog.lift, Prog.bind_op, Prog.bind_ret, Prog.pure_eq_ret]
  iintro ⟨#HE, ⟨HSB1, HO, HPRE1, HFO, HFH, HSB2⟩, Hk⟩
  iapply (loadSb_step 1 c) $$ HSB1; iintro %_ HSB1
  iapply (storeSb_step Sp 1 1 (by decide) c _ (h1)) $$ HSB1; iintro ⟨HSH1, HSR1⟩
  iapply (send_step Sp K 1 1 2 rfl rfl c (dev5_eq c) rfl rfl rfl rfl) $$ [HO HSH1 HPRE1]
  · isplitr; · iexact HE
    isplitl [HO]; · iexact HO
    isplitl [HSH1]; · iexact HSH1
    iexact HPRE1
  iintro ⟨HO, HCS1⟩
  iapply (wp_load 𝒱₀ (c : Thread nD τ) none Set.univ (m := ohuM) (Finset.subset_univ _)) $$ HFO; iintro HFO
  iapply (wp_load 𝒱₀ (c : Thread nD τ) none Set.univ (m := hsM) (Finset.subset_univ _)) $$ HFH; iintro HFH
  rw [read_hs]
  iapply (loadSb_step 2 c) $$ HSB2; iintro %_ HSB2
  iapply (storeSb_step Sp 2 2 (by decide) c _ (Sp.sent2 c _ _ hL)) $$ HSB2; iintro ⟨HSH2, HSR2⟩
  iapply (wpb_ret c)
  iapply Hk
  isplitl [HSR1]; · iexact HSR1
  isplitl [HO]; · iexact HO
  isplitl [HCS1]; · iexact HCS1
  isplitl [HFO]; · iexact HFO
  isplitl [HFH]; · iexact HFH
  isplitl [HSH2]; · iexact HSH2
  iexact HSR2

set_option maxHeartbeats 1600000 in
theorem part15_step (c : Dev nD) (v10 : BitVec 32) (v433 : BitVec 32) (v454 : BitVec 32) (fo : Vec F S2048x1024 .bf16) (fh : Vec F S1024x1024 .bf16) (hL : LocalOKm m c fo fh) (Kt : (BitVec 32) → sProp 𝕄) :
    iprop(Env Sp K ∗ (owesE c (Oat 2 c) ∗ sbHas Sp 2 c ∗ preP 2 c ∗ (ohuM.view.loc (c : Thread nD τ) ↦{fullShare} fo) ∗ (hsM.view.loc (c : Thread nD τ) ↦{fullShare} fh) ∗ outAny c ∗ credS 0 c ∗ posS 0 c ∗ sbRest 0 c)
      ∗ (∀ w, credS 2 c ∗ (ohuM.view.loc (c : Thread nD τ) ↦{fullShare} fo) ∗ (hsM.view.loc (c : Thread nD τ) ↦{fullShare} fh) ∗ outP Sp 0 c ∗ owesE c (Oat 3 c) ∗ semVal (sCell c 0) 0 ∗ sbAny 0 c -∗ Kt w))
      ⊢ wpb c (k0_part15 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v10 v433 v454) Kt := by
  simp only [k0_part15_eq_skeleton]; unfold k0_part15_skel
  simp only [Prog.lift, Prog.bind_op, Prog.bind_ret, Prog.pure_eq_ret]
  iintro ⟨#HE, ⟨HO, HSH2, HPRE2, HFO, HFH, HOUT, HCS0, HPS0, HSR0⟩, Hk⟩
  iapply (send_step Sp K 2 2 3 rfl rfl c (dev6_eq c) rfl rfl rfl rfl) $$ [HO HSH2 HPRE2]
  · isplitr; · iexact HE
    isplitl [HO]; · iexact HO
    isplitl [HSH2]; · iexact HSH2
    iexact HPRE2
  iintro ⟨HO, HCS2⟩
  iapply (wp_load 𝒱₀ (c : Thread nD τ) none Set.univ (m := ohuM) (r := (orect 0 c).toLoadRect) (Finset.subset_univ _)) $$ HFO; iintro HFO
  iapply (wp_load 𝒱₀ (c : Thread nD τ) none Set.univ (m := hsM) (Finset.subset_univ _)) $$ HFH; iintro HFH
  rw [read_hs]
  unfold outAny; icases HOUT with ⟨%f, HOUT⟩
  iapply (wp_load 𝒱₀ (c : Thread nD τ) none Set.univ (m := outM) (Finset.subset_univ _)) $$ HOUT; iintro HOUT
  iapply (wp_store 𝒱₀ (c : Thread nD τ) none Set.univ (m := outM) (r := orect 0 c) (Mk := Finset.univ) (Finset.subset_univ _)) $$ HOUT; iintro HOUT
  iapply (wp_load 𝒱₀ (c : Thread nD τ) none Set.univ (m := ohuM) (r := (orect 1 c).toLoadRect) (Finset.subset_univ _)) $$ HFO; iintro HFO
  iapply (wp_load 𝒱₀ (c : Thread nD τ) none Set.univ (m := hsM) (Finset.subset_univ _)) $$ HFH; iintro HFH
  rw [read_hs]
  iapply (wp_load 𝒱₀ (c : Thread nD τ) none Set.univ (m := outM) (Finset.subset_univ _)) $$ HOUT; iintro HOUT
  iapply (wp_store 𝒱₀ (c : Thread nD τ) none Set.univ (m := outM) (r := orect 1 c) (Mk := Finset.univ) (Finset.subset_univ _)) $$ HOUT; iintro HOUT
  iapply (wp_load 𝒱₀ (c : Thread nD τ) none Set.univ (m := ohuM) (r := (orect 2 c).toLoadRect) (Finset.subset_univ _)) $$ HFO; iintro HFO
  iapply (wp_load 𝒱₀ (c : Thread nD τ) none Set.univ (m := hsM) (Finset.subset_univ _)) $$ HFH; iintro HFH
  rw [read_hs]
  iapply (wp_load 𝒱₀ (c : Thread nD τ) none Set.univ (m := outM) (Finset.subset_univ _)) $$ HOUT; iintro HOUT
  iapply (outStore_step Sp 2 0 c _ _ (Sp.init c _ _ _ hL)) $$ HOUT; iintro HOUT
  iapply (waitS_step Sp K 0 3 c rfl rfl) $$ [HO HCS0 HPS0]
  · isplitr; · iexact HE
    isplitl [HO]; · iexact HO
    isplitl [HCS0]; · iexact HCS0
    iexact HPS0
  iintro ⟨HO, HDS0, HT⟩
  ihave HSB0 := (sb_join 0 0 (by decide) c) $$ [HT HSR0]
  · isplitl [HT]; · iexact HT
    iexact HSR0
  iapply (wpb_ret c)
  iapply Hk
  isplitl [HCS2]; · iexact HCS2
  isplitl [HFO]; · iexact HFO
  isplitl [HFH]; · iexact HFH
  isplitl [HOUT]; · iexact HOUT
  isplitl [HO]; · iexact HO
  isplitl [HDS0]; · iexact HDS0
  iexact HSB0

set_option maxHeartbeats 1600000 in
theorem part16_step (c : Dev nD) (v8 : BitVec 32) (v11 : BitVec 32) (v12 : BitVec 32) (v433 : BitVec 32) (Kt : (BitVec 32) → sProp 𝕄) :
    iprop(Env Sp K ∗ (owesE c (Oat 3 c) ∗ posR 0 c ∗ outP Sp 0 c ∗ sbAny 0 c ∗ preP 3 c)
      ∗ (∀ w, semVal (rCell c 0) 0 ∗ landing 0 c ∗ outP Sp 1 c ∗ sbRest 3 c ∗ owesE c (Oat 4 c) ∗ credS 3 c -∗ Kt w))
      ⊢ wpb c (k0_part16 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v11 v12 v433) Kt := by
  simp only [k0_part16_eq_skeleton]; unfold k0_part16_skel
  simp only [Prog.lift, Prog.bind_op, Prog.bind_ret, Prog.pure_eq_ret]
  iintro ⟨#HE, ⟨HO, HPR0, HOUT, HSB0, HPRE3⟩, Hk⟩
  iapply (waitR_step Sp K 0 3 (by decide) c rfl rfl) $$ [HO HPR0]
  · isplitr; · iexact HE
    isplitl [HO]; · iexact HO
    iexact HPR0
  iintro ⟨HO, HDR0, HRV0⟩
  iapply (loadRb_step Sp 0 c) $$ HRV0; iintro %v0 ⟨%hv0, HLA0⟩
  icases (outP_open Sp 0 c) $$ HOUT with ⟨%f0, %hf0, HOUT⟩
  iapply (wp_load 𝒱₀ (c : Thread nD τ) none Set.univ (m := outM) (Finset.subset_univ _)) $$ HOUT; iintro HOUT
  iapply (wp_load 𝒱₀ (c : Thread nD τ) none Set.univ (m := outM) (Finset.subset_univ _)) $$ HOUT; iintro HOUT
  iapply (outStore_step Sp 0 1 c _ _ (Sp.add 0 (by decide) c _ _ hf0 hv0)) $$ HOUT; iintro HOUT
  icases (outP_open Sp 1 c) $$ HOUT with ⟨%f1, %hf1, HOUT⟩
  iapply (wp_load 𝒱₀ (c : Thread nD τ) none Set.univ (m := outM) (Finset.subset_univ _)) $$ HOUT; iintro HOUT
  iapply (loadSb_step 0 c) $$ HSB0; iintro %_ HSB0
  iapply (storeSb_step Sp 3 0 (by decide) c _ (Sp.send 3 (by decide) c _ hf1)) $$ HSB0; iintro ⟨HSH3, HSR3⟩
  iapply (send_step Sp K 3 3 4 rfl rfl c (dev7_eq c) rfl rfl rfl rfl) $$ [HO HSH3 HPRE3]
  · isplitr; · iexact HE
    isplitl [HO]; · iexact HO
    isplitl [HSH3]; · iexact HSH3
    iexact HPRE3
  iintro ⟨HO, HCS3⟩
  ihave HOUT := (outP_close Sp 1 c f1 hf1) $$ HOUT
  iapply (wpb_ret c)
  iapply Hk
  isplitl [HDR0]; · iexact HDR0
  isplitl [HLA0]; · iexact HLA0
  isplitl [HOUT]; · iexact HOUT
  isplitl [HSR3]; · iexact HSR3
  isplitl [HO]; · iexact HO
  iexact HCS3

set_option maxHeartbeats 1600000 in
theorem part17_step (c : Dev nD) (v8 : BitVec 32) (v10 : BitVec 32) (v12 : BitVec 32) (v433 : BitVec 32) (v454 : BitVec 32) (c176_i32_340 : BitVec 32) (Kt : (BitVec 32) → sProp 𝕄) :
    iprop(Env Sp K ∗ (owesE c (Oat 4 c) ∗ credS 1 c ∗ posS 1 c ∗ sbRest 1 c ∗ posR 1 c ∗ outP Sp 1 c)
      ∗ (∀ w, semVal (sCell c 1) 0 ∗ owesE c (Oat 4 c) ∗ semVal (rCell c 1) 0 ∗ landing 1 c ∗ outP Sp 2 c ∗ sbHas Sp 4 c ∗ sbRest 4 c -∗ Kt w))
      ⊢ wpb c (k0_part17 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v10 v12 v433 v454 c176_i32_340) Kt := by
  simp only [k0_part17_eq_skeleton]; unfold k0_part17_skel
  simp only [Prog.lift, Prog.bind_op, Prog.bind_ret, Prog.pure_eq_ret]
  iintro ⟨#HE, ⟨HO, HCS1, HPS1, HSR1, HPR1, HOUT⟩, Hk⟩
  iapply (waitS_step Sp K 1 4 c rfl rfl) $$ [HO HCS1 HPS1]
  · isplitr; · iexact HE
    isplitl [HO]; · iexact HO
    isplitl [HCS1]; · iexact HCS1
    iexact HPS1
  iintro ⟨HO, HDS1, HT⟩
  ihave HSB1 := (sb_join 1 1 (by decide) c) $$ [HT HSR1]
  · isplitl [HT]; · iexact HT
    iexact HSR1
  iapply (waitR_step Sp K 1 4 (by decide) c rfl rfl) $$ [HO HPR1]
  · isplitr; · iexact HE
    isplitl [HO]; · iexact HO
    iexact HPR1
  iintro ⟨HO, HDR1, HRV1⟩
  iapply (loadRb_step Sp 1 c) $$ HRV1; iintro %v1 ⟨%hv1, HLA1⟩
  icases (outP_open Sp 1 c) $$ HOUT with ⟨%f1, %hf1, HOUT⟩
  iapply (wp_load 𝒱₀ (c : Thread nD τ) none Set.univ (m := outM) (Finset.subset_univ _)) $$ HOUT; iintro HOUT
  iapply (wp_load 𝒱₀ (c : Thread nD τ) none Set.univ (m := outM) (Finset.subset_univ _)) $$ HOUT; iintro HOUT
  iapply (outStore_step Sp 1 2 c _ _ (Sp.add 1 (by decide) c _ _ hf1 hv1)) $$ HOUT; iintro HOUT
  icases (outP_open Sp 2 c) $$ HOUT with ⟨%f2, %hf2, HOUT⟩
  iapply (wp_load 𝒱₀ (c : Thread nD τ) none Set.univ (m := outM) (Finset.subset_univ _)) $$ HOUT; iintro HOUT
  iapply (loadSb_step 1 c) $$ HSB1; iintro %_ HSB1
  iapply (storeSb_step Sp 4 1 (by decide) c _ (Sp.send 4 (by decide) c _ hf2)) $$ HSB1; iintro ⟨HSH4, HSR4⟩
  ihave HOUT := (outP_close Sp 2 c f2 hf2) $$ HOUT
  iapply (wpb_ret c)
  iapply Hk
  isplitl [HDS1]; · iexact HDS1
  isplitl [HO]; · iexact HO
  isplitl [HDR1]; · iexact HDR1
  isplitl [HLA1]; · iexact HLA1
  isplitl [HOUT]; · iexact HOUT
  isplitl [HSH4]; · iexact HSH4
  iexact HSR4

set_option maxHeartbeats 1600000 in
theorem part18_step (c : Dev nD) (v6 : BitVec 32) (v10 : BitVec 32) (v13 : BitVec 32) (v454 : BitVec 32) (v475 : BitVec 32) (Kt : (Σ' (v569 : BitVec 32), BitVec 32) → sProp 𝕄) :
    iprop(Env Sp K ∗ (owesE c (Oat 4 c) ∗ sbHas Sp 4 c ∗ preP 4 c ∗ credS 2 c ∗ posS 2 c ∗ sbRest 2 c ∗ posR 2 c ∗ outP Sp 2 c)
      ∗ (∀ w, credS 4 c ∗ semVal (sCell c 2) 0 ∗ sbAny 2 c ∗ owesE c (Oat 5 c) ∗ semVal (rCell c 2) 0 ∗ landing 2 c ∗ outP Sp 3 c -∗ Kt w))
      ⊢ wpb c (k0_part18 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v6 v10 v13 v454 v475) Kt := by
  simp only [k0_part18_eq_skeleton]; unfold k0_part18_skel
  simp only [Prog.lift, Prog.bind_op, Prog.bind_ret, Prog.pure_eq_ret]
  iintro ⟨#HE, ⟨HO, HSH4, HPRE4, HCS2, HPS2, HSR2, HPR2, HOUT⟩, Hk⟩
  iapply (send_step Sp K 4 4 5 rfl rfl c (dev8_eq c) rfl rfl rfl rfl) $$ [HO HSH4 HPRE4]
  · isplitr; · iexact HE
    isplitl [HO]; · iexact HO
    isplitl [HSH4]; · iexact HSH4
    iexact HPRE4
  iintro ⟨HO, HCS4⟩
  iapply (waitS_step Sp K 2 5 c rfl rfl) $$ [HO HCS2 HPS2]
  · isplitr; · iexact HE
    isplitl [HO]; · iexact HO
    isplitl [HCS2]; · iexact HCS2
    iexact HPS2
  iintro ⟨HO, HDS2, HT⟩
  ihave HSB2 := (sb_join 2 2 (by decide) c) $$ [HT HSR2]
  · isplitl [HT]; · iexact HT
    iexact HSR2
  iapply (waitR_step Sp K 2 5 (by decide) c rfl rfl) $$ [HO HPR2]
  · isplitr; · iexact HE
    isplitl [HO]; · iexact HO
    iexact HPR2
  iintro ⟨HO, HDR2, HRV2⟩
  iapply (loadRb_step Sp 2 c) $$ HRV2; iintro %v2 ⟨%hv2, HLA2⟩
  icases (outP_open Sp 2 c) $$ HOUT with ⟨%f2, %hf2, HOUT⟩
  iapply (wp_load 𝒱₀ (c : Thread nD τ) none Set.univ (m := outM) (Finset.subset_univ _)) $$ HOUT; iintro HOUT
  iapply (wp_load 𝒱₀ (c : Thread nD τ) none Set.univ (m := outM) (Finset.subset_univ _)) $$ HOUT; iintro HOUT
  iapply (outStore_step Sp 2 3 c _ _ (Sp.add 2 (by decide) c _ _ hf2 hv2)) $$ HOUT; iintro HOUT
  iapply (wpb_ret c)
  iapply Hk
  isplitl [HCS4]; · iexact HCS4
  isplitl [HDS2]; · iexact HDS2
  isplitl [HSB2]; · iexact HSB2
  isplitl [HO]; · iexact HO
  isplitl [HDR2]; · iexact HDR2
  isplitl [HLA2]; · iexact HLA2
  iexact HOUT

set_option maxHeartbeats 1600000 in
theorem part19_step (c : Dev nD) (v6 : BitVec 32) (v11 : BitVec 32) (v12 : BitVec 32) (v475 : BitVec 32) (v588 : BitVec 32) (Kt : (BitVec 32) → sProp 𝕄) :
    iprop(Env Sp K ∗ (outP Sp 3 c ∗ sbAny 2 c ∗ owesE c (Oat 5 c) ∗ preP 5 c ∗ credS 3 c ∗ posS 3 c ∗ sbRest 3 c)
      ∗ (∀ w, outP Sp 3 c ∗ sbRest 5 c ∗ credS 5 c ∗ owesE c (Oat 6 c) ∗ semVal (sCell c 3) 0 ∗ sbAny 0 c -∗ Kt w))
      ⊢ wpb c (k0_part19 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v6 v11 v12 v475 v588) Kt := by
  simp only [k0_part19_eq_skeleton]; unfold k0_part19_skel
  simp only [Prog.lift, Prog.bind_op, Prog.bind_ret, Prog.pure_eq_ret]
  iintro ⟨#HE, ⟨HOUT, HSB2, HO, HPRE5, HCS3, HPS3, HSR3⟩, Hk⟩
  icases (outP_open Sp 3 c) $$ HOUT with ⟨%f3, %hf3, HOUT⟩
  iapply (wp_load 𝒱₀ (c : Thread nD τ) none Set.univ (m := outM) (Finset.subset_univ _)) $$ HOUT; iintro HOUT
  iapply (loadSb_step 2 c) $$ HSB2; iintro %_ HSB2
  iapply (storeSb_step Sp 5 2 (by decide) c _ (Sp.send 5 (by decide) c _ hf3)) $$ HSB2; iintro ⟨HSH5, HSR5⟩
  iapply (send_step Sp K 5 5 6 rfl rfl c (dev9_eq c) rfl rfl rfl rfl) $$ [HO HSH5 HPRE5]
  · isplitr; · iexact HE
    isplitl [HO]; · iexact HO
    isplitl [HSH5]; · iexact HSH5
    iexact HPRE5
  iintro ⟨HO, HCS5⟩
  iapply (waitS_step Sp K 3 6 c rfl rfl) $$ [HO HCS3 HPS3]
  · isplitr; · iexact HE
    isplitl [HO]; · iexact HO
    isplitl [HCS3]; · iexact HCS3
    iexact HPS3
  iintro ⟨HO, HDS3, HT⟩
  ihave HSB0 := (sb_join 3 0 (by decide) c) $$ [HT HSR3]
  · isplitl [HT]; · iexact HT
    iexact HSR3
  ihave HOUT := (outP_close Sp 3 c f3 hf3) $$ HOUT
  iapply (wpb_ret c)
  iapply Hk
  isplitl [HOUT]; · iexact HOUT
  isplitl [HSR5]; · iexact HSR5
  isplitl [HCS5]; · iexact HCS5
  isplitl [HO]; · iexact HO
  isplitl [HDS3]; · iexact HDS3
  iexact HSB0

set_option maxHeartbeats 1600000 in
theorem part20_step (c : Dev nD) (v10 : BitVec 32) (v13 : BitVec 32) (v531 : BitVec 32) (Kt : (BitVec 32) → sProp 𝕄) :
    iprop(Env Sp K ∗ (owesE c (Oat 6 c) ∗ posR 3 c ∗ outP Sp 3 c ∗ sbAny 0 c ∗ preP 6 c)
      ∗ (∀ w, semVal (rCell c 3) 0 ∗ landing 3 c ∗ outP Sp 4 c ∗ sbRest 6 c ∗ owesE c (Oat 7 c) ∗ credS 6 c -∗ Kt w))
      ⊢ wpb c (k0_part20 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v10 v13 v531) Kt := by
  simp only [k0_part20_eq_skeleton]; unfold k0_part20_skel
  simp only [Prog.lift, Prog.bind_op, Prog.bind_ret, Prog.pure_eq_ret]
  iintro ⟨#HE, ⟨HO, HPR3, HOUT, HSB0, HPRE6⟩, Hk⟩
  iapply (waitR_step Sp K 3 6 (by decide) c rfl rfl) $$ [HO HPR3]
  · isplitr; · iexact HE
    isplitl [HO]; · iexact HO
    iexact HPR3
  iintro ⟨HO, HDR3, HRV3⟩
  iapply (loadRb_step Sp 3 c) $$ HRV3; iintro %v3 ⟨%hv3, HLA3⟩
  icases (outP_open Sp 3 c) $$ HOUT with ⟨%f3, %hf3, HOUT⟩
  iapply (wp_load 𝒱₀ (c : Thread nD τ) none Set.univ (m := outM) (Finset.subset_univ _)) $$ HOUT; iintro HOUT
  iapply (wp_load 𝒱₀ (c : Thread nD τ) none Set.univ (m := outM) (Finset.subset_univ _)) $$ HOUT; iintro HOUT
  iapply (outStore_step Sp 3 4 c _ _ (Sp.add 3 (by decide) c _ _ hf3 hv3)) $$ HOUT; iintro HOUT
  icases (outP_open Sp 4 c) $$ HOUT with ⟨%f4, %hf4, HOUT⟩
  iapply (wp_load 𝒱₀ (c : Thread nD τ) none Set.univ (m := outM) (Finset.subset_univ _)) $$ HOUT; iintro HOUT
  iapply (loadSb_step 0 c) $$ HSB0; iintro %_ HSB0
  iapply (storeSb_step Sp 6 0 (by decide) c _ (Sp.send 6 (by decide) c _ hf4)) $$ HSB0; iintro ⟨HSH6, HSR6⟩
  iapply (send_step Sp K 6 6 7 rfl rfl c (dev10_eq c) rfl rfl rfl rfl) $$ [HO HSH6 HPRE6]
  · isplitr; · iexact HE
    isplitl [HO]; · iexact HO
    isplitl [HSH6]; · iexact HSH6
    iexact HPRE6
  iintro ⟨HO, HCS6⟩
  ihave HOUT := (outP_close Sp 4 c f4 hf4) $$ HOUT
  iapply (wpb_ret c)
  iapply Hk
  isplitl [HDR3]; · iexact HDR3
  isplitl [HLA3]; · iexact HLA3
  isplitl [HOUT]; · iexact HOUT
  isplitl [HSR6]; · iexact HSR6
  isplitl [HO]; · iexact HO
  iexact HCS6

set_option maxHeartbeats 1600000 in
theorem part21_step (c : Dev nD) (v6 : BitVec 32) (v11 : BitVec 32) (v13 : BitVec 32) (v569 : BitVec 32) (Kt : (PUnit) → sProp 𝕄) :
    iprop(Env Sp K ∗ (owesE c (Oat 7 c) ∗ credS 4 c ∗ posS 4 c ∗ sbRest 4 c ∗ posR 4 c ∗ outP Sp 4 c)
      ∗ (∀ w, semVal (sCell c 4) 0 ∗ owesE c (Oat 7 c) ∗ semVal (rCell c 4) 0 ∗ landing 4 c ∗ outP Sp 5 c ∗ sbHas Sp 7 c ∗ sbRest 7 c -∗ Kt w))
      ⊢ wpb c (k0_part21 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v6 v11 v13 v569) Kt := by
  simp only [k0_part21_eq_skeleton]; unfold k0_part21_skel
  simp only [Prog.lift, Prog.bind_op, Prog.bind_ret, Prog.pure_eq_ret]
  iintro ⟨#HE, ⟨HO, HCS4, HPS4, HSR4, HPR4, HOUT⟩, Hk⟩
  iapply (waitS_step Sp K 4 7 c rfl rfl) $$ [HO HCS4 HPS4]
  · isplitr; · iexact HE
    isplitl [HO]; · iexact HO
    isplitl [HCS4]; · iexact HCS4
    iexact HPS4
  iintro ⟨HO, HDS4, HT⟩
  ihave HSB1 := (sb_join 4 1 (by decide) c) $$ [HT HSR4]
  · isplitl [HT]; · iexact HT
    iexact HSR4
  iapply (waitR_step Sp K 4 7 (by decide) c rfl rfl) $$ [HO HPR4]
  · isplitr; · iexact HE
    isplitl [HO]; · iexact HO
    iexact HPR4
  iintro ⟨HO, HDR4, HRV4⟩
  iapply (loadRb_step Sp 4 c) $$ HRV4; iintro %v4 ⟨%hv4, HLA4⟩
  icases (outP_open Sp 4 c) $$ HOUT with ⟨%f4, %hf4, HOUT⟩
  iapply (wp_load 𝒱₀ (c : Thread nD τ) none Set.univ (m := outM) (Finset.subset_univ _)) $$ HOUT; iintro HOUT
  iapply (wp_load 𝒱₀ (c : Thread nD τ) none Set.univ (m := outM) (Finset.subset_univ _)) $$ HOUT; iintro HOUT
  iapply (outStore_step Sp 4 5 c _ _ (Sp.add 4 (by decide) c _ _ hf4 hv4)) $$ HOUT; iintro HOUT
  icases (outP_open Sp 5 c) $$ HOUT with ⟨%f5, %hf5, HOUT⟩
  iapply (wp_load 𝒱₀ (c : Thread nD τ) none Set.univ (m := outM) (Finset.subset_univ _)) $$ HOUT; iintro HOUT
  iapply (loadSb_step 1 c) $$ HSB1; iintro %_ HSB1
  iapply (storeSb_step Sp 7 1 (by decide) c _ (Sp.send 7 (by decide) c _ hf5)) $$ HSB1; iintro ⟨HSH7, HSR7⟩
  ihave HOUT := (outP_close Sp 5 c f5 hf5) $$ HOUT
  iapply (wpb_ret c)
  iapply Hk
  isplitl [HDS4]; · iexact HDS4
  isplitl [HO]; · iexact HO
  isplitl [HDR4]; · iexact HDR4
  isplitl [HLA4]; · iexact HLA4
  isplitl [HOUT]; · iexact HOUT
  isplitl [HSH7]; · iexact HSH7
  iexact HSR7

set_option maxHeartbeats 1600000 in
theorem part22_step (c : Dev nD) (v6 : BitVec 32) (v8 : BitVec 32) (v11 : BitVec 32) (v569 : BitVec 32) (v607 : BitVec 32) (Kt : (Σ' (v683 : BitVec 32), FVec F S80x1024 .bf16) → sProp 𝕄) :
    iprop(Env Sp K ∗ (owesE c (Oat 7 c) ∗ sbHas Sp 7 c ∗ preP 7 c ∗ credS 5 c ∗ posS 5 c ∗ sbRest 5 c ∗ posR 5 c ∗ outP Sp 5 c)
      ∗ (∀ (w : BitVec 32) (v : FVec F S80x1024 .bf16), ⌜Sp.Sent 8 c (k0_pay62 v)⌝ ∗ credS 7 c ∗ semVal (sCell c 5) 0 ∗ sbAny 2 c ∗ owesE c (Oat 8 c) ∗ semVal (rCell c 5) 0 ∗ landing 5 c ∗ outP Sp 6 c -∗ Kt ⟨w, v⟩))
      ⊢ wpb c (k0_part22 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v6 v8 v11 v569 v607) Kt := by
  simp only [k0_part22_eq_skeleton]; unfold k0_part22_skel
  simp only [Prog.lift, Prog.bind_op, Prog.bind_ret, Prog.pure_eq_ret]
  iintro ⟨#HE, ⟨HO, HSH7, HPRE7, HCS5, HPS5, HSR5, HPR5, HOUT⟩, Hk⟩
  iapply (send_step Sp K 7 7 8 rfl rfl c (dev11_eq c) rfl rfl rfl rfl) $$ [HO HSH7 HPRE7]
  · isplitr; · iexact HE
    isplitl [HO]; · iexact HO
    isplitl [HSH7]; · iexact HSH7
    iexact HPRE7
  iintro ⟨HO, HCS7⟩
  iapply (waitS_step Sp K 5 8 c rfl rfl) $$ [HO HCS5 HPS5]
  · isplitr; · iexact HE
    isplitl [HO]; · iexact HO
    isplitl [HCS5]; · iexact HCS5
    iexact HPS5
  iintro ⟨HO, HDS5, HT⟩
  ihave HSB2 := (sb_join 5 2 (by decide) c) $$ [HT HSR5]
  · isplitl [HT]; · iexact HT
    iexact HSR5
  iapply (waitR_step Sp K 5 8 (by decide) c rfl rfl) $$ [HO HPR5]
  · isplitr; · iexact HE
    isplitl [HO]; · iexact HO
    iexact HPR5
  iintro ⟨HO, HDR5, HRV5⟩
  iapply (loadRb_step Sp 5 c) $$ HRV5; iintro %v5 ⟨%hv5, HLA5⟩
  icases (outP_open Sp 5 c) $$ HOUT with ⟨%f5, %hf5, HOUT⟩
  iapply (wp_load 𝒱₀ (c : Thread nD τ) none Set.univ (m := outM) (Finset.subset_univ _)) $$ HOUT; iintro HOUT
  iapply (wp_load 𝒱₀ (c : Thread nD τ) none Set.univ (m := outM) (Finset.subset_univ _)) $$ HOUT; iintro HOUT
  iapply (outStore_step Sp 5 6 c _ _ (Sp.add 5 (by decide) c _ _ hf5 hv5)) $$ HOUT; iintro HOUT
  icases (outP_open Sp 6 c) $$ HOUT with ⟨%f6, %hf6, HOUT⟩
  iapply (wp_load 𝒱₀ (c : Thread nD τ) none Set.univ (m := outM) (Finset.subset_univ _)) $$ HOUT; iintro HOUT
  iapply (loadSb_step 2 c) $$ HSB2; iintro %_ HSB2
  ihave HOUT := (outP_close Sp 6 c f6 hf6) $$ HOUT
  iapply (wpb_ret c)
  iapply Hk
  isplitr; · ipureintro; exact Sp.send 8 (by decide) c _ hf6
  isplitl [HCS7]; · iexact HCS7
  isplitl [HDS5]; · iexact HDS5
  isplitl [HSB2]; · iexact HSB2
  isplitl [HO]; · iexact HO
  isplitl [HDR5]; · iexact HDR5
  isplitl [HLA5]; · iexact HLA5
  iexact HOUT

set_option maxHeartbeats 1600000 in
theorem part23_step (c : Dev nD) (v8 : BitVec 32) (v12 : BitVec 32) (v13 : BitVec 32) (v607 : BitVec 32) (v645 : BitVec 32) (v708 : FVec F S80x1024 .bf16) (h8 : Sp.Sent 8 c (k0_pay62 v708)) (Kt : (Σ' (v721 : BitVec 32), FVec F S88x1024 .f32) → sProp 𝕄) :
    iprop(Env Sp K ∗ (sbAny 2 c ∗ owesE c (Oat 8 c) ∗ preP 8 c ∗ credS 6 c ∗ posS 6 c ∗ sbRest 6 c ∗ posR 6 c ∗ outP Sp 6 c)
      ∗ (∀ (w : BitVec 32) (v : FVec F S88x1024 .f32), sbRest 8 c ∗ credS 8 c ∗ semVal (sCell c 6) 0 ∗ sbAny 0 c ∗ owesE c (Oat 9 c) ∗ semVal (rCell c 6) 0 ∗ landing 6 c ∗ outNext Sp 6 7 c v -∗ Kt ⟨w, v⟩))
      ⊢ wpb c (k0_part23 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v12 v13 v607 v645 v708) Kt := by
  simp only [k0_part23_eq_skeleton]; unfold k0_part23_skel
  simp only [Prog.lift, Prog.bind_op, Prog.bind_ret, Prog.pure_eq_ret]
  iintro ⟨#HE, ⟨HSB2, HO, HPRE8, HCS6, HPS6, HSR6, HPR6, HOUT⟩, Hk⟩
  iapply (storeSb_step Sp 8 2 (by decide) c _ (h8)) $$ HSB2; iintro ⟨HSH8, HSR8⟩
  iapply (send_step Sp K 8 8 9 rfl rfl c (dev12_eq c) rfl rfl rfl rfl) $$ [HO HSH8 HPRE8]
  · isplitr; · iexact HE
    isplitl [HO]; · iexact HO
    isplitl [HSH8]; · iexact HSH8
    iexact HPRE8
  iintro ⟨HO, HCS8⟩
  iapply (waitS_step Sp K 6 9 c rfl rfl) $$ [HO HCS6 HPS6]
  · isplitr; · iexact HE
    isplitl [HO]; · iexact HO
    isplitl [HCS6]; · iexact HCS6
    iexact HPS6
  iintro ⟨HO, HDS6, HT⟩
  ihave HSB0 := (sb_join 6 0 (by decide) c) $$ [HT HSR6]
  · isplitl [HT]; · iexact HT
    iexact HSR6
  iapply (waitR_step Sp K 6 9 (by decide) c rfl rfl) $$ [HO HPR6]
  · isplitr; · iexact HE
    isplitl [HO]; · iexact HO
    iexact HPR6
  iintro ⟨HO, HDR6, HRV6⟩
  iapply (loadRb_step Sp 6 c) $$ HRV6; iintro %v6 ⟨%hv6, HLA6⟩
  icases (outP_open Sp 6 c) $$ HOUT with ⟨%f6, %hf6, HOUT⟩
  iapply (wp_load 𝒱₀ (c : Thread nD τ) none Set.univ (m := outM) (Finset.subset_univ _)) $$ HOUT; iintro HOUT
  ihave HOUT := (outNext_close Sp 6 7 c f6 _ (Sp.add 6 (by decide) c _ _ hf6 hv6)) $$ HOUT
  iapply (wpb_ret c)
  iapply Hk
  isplitl [HSR8]; · iexact HSR8
  isplitl [HCS8]; · iexact HCS8
  isplitl [HDS6]; · iexact HDS6
  isplitl [HSB0]; · iexact HSB0
  isplitl [HO]; · iexact HO
  isplitl [HDR6]; · iexact HDR6
  isplitl [HLA6]; · iexact HLA6
  iexact HOUT

set_option maxHeartbeats 1600000 in
theorem part24_step (c : Dev nD) (v10 : BitVec 32) (v11 : BitVec 32) (v13 : BitVec 32) (v645 : BitVec 32) (v737 : FVec F S88x1024 .f32) (Kt : (Σ' (v741 : BitVec 32), BitVec 32) → sProp 𝕄) :
    iprop(Env Sp K ∗ (outNext Sp 6 7 c v737 ∗ sbAny 0 c ∗ owesE c (Oat 9 c) ∗ preP 9 c ∗ credS 7 c ∗ posS 7 c ∗ sbRest 7 c)
      ∗ (∀ w, outP Sp 7 c ∗ sbRest 9 c ∗ credS 9 c ∗ owesE c (Oat 10 c) ∗ semVal (sCell c 7) 0 ∗ sbAny 1 c -∗ Kt w))
      ⊢ wpb c (k0_part24 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v10 v11 v13 v645 v737) Kt := by
  simp only [k0_part24_eq_skeleton]; unfold k0_part24_skel
  simp only [Prog.lift, Prog.bind_op, Prog.bind_ret, Prog.pure_eq_ret]
  iintro ⟨#HE, ⟨HOUT, HSB0, HO, HPRE9, HCS7, HPS7, HSR7⟩, Hk⟩
  icases (outNext_open Sp 6 7 c v737) $$ HOUT with ⟨%f6, %hf7, HOUT⟩
  iapply (wp_load 𝒱₀ (c : Thread nD τ) none Set.univ (m := outM) (Finset.subset_univ _)) $$ HOUT; iintro HOUT
  iapply (outStore_step Sp 6 7 c _ _ (hf7)) $$ HOUT; iintro HOUT
  icases (outP_open Sp 7 c) $$ HOUT with ⟨%f7, %hf7, HOUT⟩
  iapply (wp_load 𝒱₀ (c : Thread nD τ) none Set.univ (m := outM) (Finset.subset_univ _)) $$ HOUT; iintro HOUT
  iapply (loadSb_step 0 c) $$ HSB0; iintro %_ HSB0
  iapply (storeSb_step Sp 9 0 (by decide) c _ (Sp.send 9 (by decide) c _ hf7)) $$ HSB0; iintro ⟨HSH9, HSR9⟩
  iapply (send_step Sp K 9 9 10 rfl rfl c (dev13_eq c) rfl rfl rfl rfl) $$ [HO HSH9 HPRE9]
  · isplitr; · iexact HE
    isplitl [HO]; · iexact HO
    isplitl [HSH9]; · iexact HSH9
    iexact HPRE9
  iintro ⟨HO, HCS9⟩
  iapply (waitS_step Sp K 7 10 c rfl rfl) $$ [HO HCS7 HPS7]
  · isplitr; · iexact HE
    isplitl [HO]; · iexact HO
    isplitl [HCS7]; · iexact HCS7
    iexact HPS7
  iintro ⟨HO, HDS7, HT⟩
  ihave HSB1 := (sb_join 7 1 (by decide) c) $$ [HT HSR7]
  · isplitl [HT]; · iexact HT
    iexact HSR7
  ihave HOUT := (outP_close Sp 7 c f7 hf7) $$ HOUT
  iapply (wpb_ret c)
  iapply Hk
  isplitl [HOUT]; · iexact HOUT
  isplitl [HSR9]; · iexact HSR9
  isplitl [HCS9]; · iexact HCS9
  isplitl [HO]; · iexact HO
  isplitl [HDS7]; · iexact HDS7
  iexact HSB1

end Cert.KernelIdeal.Moe

end
-- ==== Proof.KernelIdealExcB.lean ====
/-
# The exchanges, piece by piece

Each theorem runs one piece of the body, from what the piece needs on one device to what it leaves.
-/
module

public import proofs.«01_k».proof.Proof.KernelIdealSteps

@[expose] public section

set_option maxRecDepth 16384

noncomputable section

namespace Cert.KernelIdeal.Moe

open Cert.KernelIdeal Cert.KernelIdeal.Gen

open Idealize.ShloMosaic
open Idealize.ShloMosaic.Memref (isWhole_whole)
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} (Sp : Spec m)
variable (K : Dev nD × CI → ℕ)

set_option maxHeartbeats 1600000 in
theorem part25_step (c : Dev nD) (v6 : BitVec 32) (v11 : BitVec 32) (v683 : BitVec 32) (Kt : (Σ' (v779 : BitVec 32), BitVec 32) → sProp 𝕄) :
    iprop(Env Sp K ∗ (owesE c (Oat 10 c) ∗ posR 7 c ∗ outP Sp 7 c ∗ sbAny 1 c ∗ preP 10 c)
      ∗ (∀ w, semVal (rCell c 7) 0 ∗ landing 7 c ∗ outP Sp 8 c ∗ sbRest 10 c ∗ owesE c (Oat 11 c) ∗ credS 10 c -∗ Kt w))
      ⊢ wpb c (k0_part25 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v6 v11 v683) Kt := by
  simp only [k0_part25_eq_skeleton]; unfold k0_part25_skel
  simp only [Prog.lift, Prog.bind_op, Prog.bind_ret, Prog.pure_eq_ret]
  iintro ⟨#HE, ⟨HO, HPR7, HOUT, HSB1, HPRE10⟩, Hk⟩
  iapply (waitR_step Sp K 7 10 (by decide) c rfl rfl) $$ [HO HPR7]
  · isplitr; · iexact HE
    isplitl [HO]; · iexact HO
    iexact HPR7
  iintro ⟨HO, HDR7, HRV7⟩
  iapply (loadRb_step Sp 7 c) $$ HRV7; iintro %v7 ⟨%hv7, HLA7⟩
  icases (outP_open Sp 7 c) $$ HOUT with ⟨%f7, %hf7, HOUT⟩
  iapply (wp_load 𝒱₀ (c : Thread nD τ) none Set.univ (m := outM) (Finset.subset_univ _)) $$ HOUT; iintro HOUT
  iapply (wp_load 𝒱₀ (c : Thread nD τ) none Set.univ (m := outM) (Finset.subset_univ _)) $$ HOUT; iintro HOUT
  iapply (outStore_step Sp 7 8 c _ _ (Sp.add 7 (by decide) c _ _ hf7 hv7)) $$ HOUT; iintro HOUT
  icases (outP_open Sp 8 c) $$ HOUT with ⟨%f8, %hf8, HOUT⟩
  iapply (wp_load 𝒱₀ (c : Thread nD τ) none Set.univ (m := outM) (Finset.subset_univ _)) $$ HOUT; iintro HOUT
  iapply (loadSb_step 1 c) $$ HSB1; iintro %_ HSB1
  iapply (storeSb_step Sp 10 1 (by decide) c _ (Sp.send 10 (by decide) c _ hf8)) $$ HSB1; iintro ⟨HSH10, HSR10⟩
  iapply (send_step Sp K 10 10 11 rfl rfl c (dev14_eq c) rfl rfl rfl rfl) $$ [HO HSH10 HPRE10]
  · isplitr; · iexact HE
    isplitl [HO]; · iexact HO
    isplitl [HSH10]; · iexact HSH10
    iexact HPRE10
  iintro ⟨HO, HCS10⟩
  ihave HOUT := (outP_close Sp 8 c f8 hf8) $$ HOUT
  iapply (wpb_ret c)
  iapply Hk
  isplitl [HDR7]; · iexact HDR7
  isplitl [HLA7]; · iexact HLA7
  isplitl [HOUT]; · iexact HOUT
  isplitl [HSR10]; · iexact HSR10
  isplitl [HO]; · iexact HO
  iexact HCS10

set_option maxHeartbeats 1600000 in
theorem part26_step (c : Dev nD) (v8 : BitVec 32) (v12 : BitVec 32) (v721 : BitVec 32) (Kt : (BitVec 32) → sProp 𝕄) :
    iprop(Env Sp K ∗ (owesE c (Oat 11 c) ∗ credS 8 c ∗ posS 8 c ∗ sbRest 8 c ∗ posR 8 c ∗ outP Sp 8 c)
      ∗ (∀ w, semVal (sCell c 8) 0 ∗ owesE c (Oat 11 c) ∗ semVal (rCell c 8) 0 ∗ landing 8 c ∗ outP Sp 9 c ∗ sbHas Sp 11 c ∗ sbRest 11 c -∗ Kt w))
      ⊢ wpb c (k0_part26 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v12 v721) Kt := by
  simp only [k0_part26_eq_skeleton]; unfold k0_part26_skel
  simp only [Prog.lift, Prog.bind_op, Prog.bind_ret, Prog.pure_eq_ret]
  iintro ⟨#HE, ⟨HO, HCS8, HPS8, HSR8, HPR8, HOUT⟩, Hk⟩
  iapply (waitS_step Sp K 8 11 c rfl rfl) $$ [HO HCS8 HPS8]
  · isplitr; · iexact HE
    isplitl [HO]; · iexact HO
    isplitl [HCS8]; · iexact HCS8
    iexact HPS8
  iintro ⟨HO, HDS8, HT⟩
  ihave HSB2 := (sb_join 8 2 (by decide) c) $$ [HT HSR8]
  · isplitl [HT]; · iexact HT
    iexact HSR8
  iapply (waitR_step Sp K 8 11 (by decide) c rfl rfl) $$ [HO HPR8]
  · isplitr; · iexact HE
    isplitl [HO]; · iexact HO
    iexact HPR8
  iintro ⟨HO, HDR8, HRV8⟩
  iapply (loadRb_step Sp 8 c) $$ HRV8; iintro %v8 ⟨%hv8, HLA8⟩
  icases (outP_open Sp 8 c) $$ HOUT with ⟨%f8, %hf8, HOUT⟩
  iapply (wp_load 𝒱₀ (c : Thread nD τ) none Set.univ (m := outM) (Finset.subset_univ _)) $$ HOUT; iintro HOUT
  iapply (wp_load 𝒱₀ (c : Thread nD τ) none Set.univ (m := outM) (Finset.subset_univ _)) $$ HOUT; iintro HOUT
  iapply (outStore_step Sp 8 9 c _ _ (Sp.add 8 (by decide) c _ _ hf8 hv8)) $$ HOUT; iintro HOUT
  icases (outP_open Sp 9 c) $$ HOUT with ⟨%f9, %hf9, HOUT⟩
  iapply (wp_load 𝒱₀ (c : Thread nD τ) none Set.univ (m := outM) (Finset.subset_univ _)) $$ HOUT; iintro HOUT
  iapply (loadSb_step 2 c) $$ HSB2; iintro %_ HSB2
  iapply (storeSb_step Sp 11 2 (by decide) c _ (Sp.send 11 (by decide) c _ hf9)) $$ HSB2; iintro ⟨HSH11, HSR11⟩
  ihave HOUT := (outP_close Sp 9 c f9 hf9) $$ HOUT
  iapply (wpb_ret c)
  iapply Hk
  isplitl [HDS8]; · iexact HDS8
  isplitl [HO]; · iexact HO
  isplitl [HDR8]; · iexact HDR8
  isplitl [HLA8]; · iexact HLA8
  isplitl [HOUT]; · iexact HOUT
  isplitl [HSH11]; · iexact HSH11
  iexact HSR11

set_option maxHeartbeats 1600000 in
theorem part27_step (c : Dev nD) (v8 : BitVec 32) (v13 : BitVec 32) (v741 : BitVec 32) (v759 : BitVec 32) (v817 : BitVec 32) (Kt : (Σ' (v835 : BitVec 32), BitVec 32) → sProp 𝕄) :
    iprop(Env Sp K ∗ (owesE c (Oat 11 c) ∗ sbHas Sp 11 c ∗ preP 11 c ∗ credS 9 c ∗ posS 9 c ∗ sbRest 9 c ∗ posR 9 c ∗ outP Sp 9 c)
      ∗ (∀ w, credS 11 c ∗ semVal (sCell c 9) 0 ∗ owesE c (Oat 12 c) ∗ semVal (rCell c 9) 0 ∗ landing 9 c ∗ outP Sp 10 c ∗ sbHas Sp 12 c ∗ sbRest 12 c -∗ Kt w))
      ⊢ wpb c (k0_part27 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v13 v741 v759 v817) Kt := by
  simp only [k0_part27_eq_skeleton]; unfold k0_part27_skel
  simp only [Prog.lift, Prog.bind_op, Prog.bind_ret, Prog.pure_eq_ret]
  iintro ⟨#HE, ⟨HO, HSH11, HPRE11, HCS9, HPS9, HSR9, HPR9, HOUT⟩, Hk⟩
  iapply (send_step Sp K 11 11 12 rfl rfl c (dev15_eq c) rfl rfl rfl rfl) $$ [HO HSH11 HPRE11]
  · isplitr; · iexact HE
    isplitl [HO]; · iexact HO
    isplitl [HSH11]; · iexact HSH11
    iexact HPRE11
  iintro ⟨HO, HCS11⟩
  iapply (waitS_step Sp K 9 12 c rfl rfl) $$ [HO HCS9 HPS9]
  · isplitr; · iexact HE
    isplitl [HO]; · iexact HO
    isplitl [HCS9]; · iexact HCS9
    iexact HPS9
  iintro ⟨HO, HDS9, HT⟩
  ihave HSB0 := (sb_join 9 0 (by decide) c) $$ [HT HSR9]
  · isplitl [HT]; · iexact HT
    iexact HSR9
  iapply (waitR_step Sp K 9 12 (by decide) c rfl rfl) $$ [HO HPR9]
  · isplitr; · iexact HE
    isplitl [HO]; · iexact HO
    iexact HPR9
  iintro ⟨HO, HDR9, HRV9⟩
  iapply (loadRb_step Sp 9 c) $$ HRV9; iintro %v9 ⟨%hv9, HLA9⟩
  icases (outP_open Sp 9 c) $$ HOUT with ⟨%f9, %hf9, HOUT⟩
  iapply (wp_load 𝒱₀ (c : Thread nD τ) none Set.univ (m := outM) (Finset.subset_univ _)) $$ HOUT; iintro HOUT
  iapply (outStore_step Sp 9 10 c _ _ (Sp.set 9 (by decide) c _ _ hf9 hv9)) $$ HOUT; iintro HOUT
  icases (outP_open Sp 10 c) $$ HOUT with ⟨%f10, %hf10, HOUT⟩
  iapply (wp_load 𝒱₀ (c : Thread nD τ) none Set.univ (m := outM) (Finset.subset_univ _)) $$ HOUT; iintro HOUT
  iapply (loadSb_step 0 c) $$ HSB0; iintro %_ HSB0
  iapply (storeSb_step Sp 12 0 (by decide) c _ (Sp.send 12 (by decide) c _ hf10)) $$ HSB0; iintro ⟨HSH12, HSR12⟩
  ihave HOUT := (outP_close Sp 10 c f10 hf10) $$ HOUT
  iapply (wpb_ret c)
  iapply Hk
  isplitl [HCS11]; · iexact HCS11
  isplitl [HDS9]; · iexact HDS9
  isplitl [HO]; · iexact HO
  isplitl [HDR9]; · iexact HDR9
  isplitl [HLA9]; · iexact HLA9
  isplitl [HOUT]; · iexact HOUT
  isplitl [HSH12]; · iexact HSH12
  iexact HSR12

set_option maxHeartbeats 1600000 in
theorem part28_step (c : Dev nD) (v8 : BitVec 32) (v10 : BitVec 32) (v11 : BitVec 32) (v12 : BitVec 32) (v779 : BitVec 32) (v797 : BitVec 32) (v851 : BitVec 32) (Kt : (Σ' (v869 : BitVec 32), BitVec 32) → sProp 𝕄) :
    iprop(Env Sp K ∗ (owesE c (Oat 12 c) ∗ sbHas Sp 12 c ∗ preP 12 c ∗ credS 10 c ∗ posS 10 c ∗ sbRest 10 c ∗ posR 10 c ∗ outP Sp 10 c)
      ∗ (∀ w, credS 12 c ∗ semVal (sCell c 10) 0 ∗ sbAny 1 c ∗ owesE c (Oat 13 c) ∗ semVal (rCell c 10) 0 ∗ landing 10 c ∗ outP Sp 11 c -∗ Kt w))
      ⊢ wpb c (k0_part28 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v10 v11 v12 v779 v797 v851) Kt := by
  simp only [k0_part28_eq_skeleton]; unfold k0_part28_skel
  simp only [Prog.lift, Prog.bind_op, Prog.bind_ret, Prog.pure_eq_ret]
  iintro ⟨#HE, ⟨HO, HSH12, HPRE12, HCS10, HPS10, HSR10, HPR10, HOUT⟩, Hk⟩
  iapply (send_step Sp K 12 12 13 rfl rfl c (dev16_eq c) rfl rfl rfl rfl) $$ [HO HSH12 HPRE12]
  · isplitr; · iexact HE
    isplitl [HO]; · iexact HO
    isplitl [HSH12]; · iexact HSH12
    iexact HPRE12
  iintro ⟨HO, HCS12⟩
  iapply (waitS_step Sp K 10 13 c rfl rfl) $$ [HO HCS10 HPS10]
  · isplitr; · iexact HE
    isplitl [HO]; · iexact HO
    isplitl [HCS10]; · iexact HCS10
    iexact HPS10
  iintro ⟨HO, HDS10, HT⟩
  ihave HSB1 := (sb_join 10 1 (by decide) c) $$ [HT HSR10]
  · isplitl [HT]; · iexact HT
    iexact HSR10
  iapply (waitR_step Sp K 10 13 (by decide) c rfl rfl) $$ [HO HPR10]
  · isplitr; · iexact HE
    isplitl [HO]; · iexact HO
    iexact HPR10
  iintro ⟨HO, HDR10, HRV10⟩
  iapply (loadRb_step Sp 10 c) $$ HRV10; iintro %v10 ⟨%hv10, HLA10⟩
  icases (outP_open Sp 10 c) $$ HOUT with ⟨%f10, %hf10, HOUT⟩
  iapply (wp_load 𝒱₀ (c : Thread nD τ) none Set.univ (m := outM) (Finset.subset_univ _)) $$ HOUT; iintro HOUT
  iapply (outStore_step Sp 10 11 c _ _ (Sp.set 10 (by decide) c _ _ hf10 hv10)) $$ HOUT; iintro HOUT
  iapply (wpb_ret c)
  iapply Hk
  isplitl [HCS12]; · iexact HCS12
  isplitl [HDS10]; · iexact HDS10
  isplitl [HSB1]; · iexact HSB1
  isplitl [HO]; · iexact HO
  isplitl [HDR10]; · iexact HDR10
  isplitl [HLA10]; · iexact HLA10
  iexact HOUT

set_option maxHeartbeats 1600000 in
theorem part29_step (c : Dev nD) (v10 : BitVec 32) (v12 : BitVec 32) (v13 : BitVec 32) (v885 : BitVec 32) (Kt : (BitVec 32) → sProp 𝕄) :
    iprop(Env Sp K ∗ (outP Sp 11 c ∗ sbAny 1 c ∗ owesE c (Oat 13 c) ∗ preP 13 c ∗ credS 11 c ∗ posS 11 c ∗ sbRest 11 c ∗ posR 11 c)
      ∗ (∀ w, outP Sp 11 c ∗ sbRest 13 c ∗ credS 13 c ∗ semVal (sCell c 11) 0 ∗ sbAny 2 c ∗ owesE c (Oat 14 c) ∗ semVal (rCell c 11) 0 ∗ recvPay Sp 11 c -∗ Kt w))
      ⊢ wpb c (k0_part29 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v10 v12 v13 v885) Kt := by
  simp only [k0_part29_eq_skeleton]; unfold k0_part29_skel
  simp only [Prog.lift, Prog.bind_op, Prog.bind_ret, Prog.pure_eq_ret]
  iintro ⟨#HE, ⟨HOUT, HSB1, HO, HPRE13, HCS11, HPS11, HSR11, HPR11⟩, Hk⟩
  icases (outP_open Sp 11 c) $$ HOUT with ⟨%f11, %hf11, HOUT⟩
  iapply (wp_load 𝒱₀ (c : Thread nD τ) none Set.univ (m := outM) (Finset.subset_univ _)) $$ HOUT; iintro HOUT
  iapply (loadSb_step 1 c) $$ HSB1; iintro %_ HSB1
  iapply (storeSb_step Sp 13 1 (by decide) c _ (Sp.send 13 (by decide) c _ hf11)) $$ HSB1; iintro ⟨HSH13, HSR13⟩
  iapply (send_step Sp K 13 13 14 rfl rfl c (dev17_eq c) rfl rfl rfl rfl) $$ [HO HSH13 HPRE13]
  · isplitr; · iexact HE
    isplitl [HO]; · iexact HO
    isplitl [HSH13]; · iexact HSH13
    iexact HPRE13
  iintro ⟨HO, HCS13⟩
  iapply (waitS_step Sp K 11 14 c rfl rfl) $$ [HO HCS11 HPS11]
  · isplitr; · iexact HE
    isplitl [HO]; · iexact HO
    isplitl [HCS11]; · iexact HCS11
    iexact HPS11
  iintro ⟨HO, HDS11, HT⟩
  ihave HSB2 := (sb_join 11 2 (by decide) c) $$ [HT HSR11]
  · isplitl [HT]; · iexact HT
    iexact HSR11
  iapply (waitR_step Sp K 11 14 (by decide) c rfl rfl) $$ [HO HPR11]
  · isplitr; · iexact HE
    isplitl [HO]; · iexact HO
    iexact HPR11
  iintro ⟨HO, HDR11, HRV11⟩
  ihave HOUT := (outP_close Sp 11 c f11 hf11) $$ HOUT
  iapply (wpb_ret c)
  iapply Hk
  isplitl [HOUT]; · iexact HOUT
  isplitl [HSR13]; · iexact HSR13
  isplitl [HCS13]; · iexact HCS13
  isplitl [HDS11]; · iexact HDS11
  isplitl [HSB2]; · iexact HSB2
  isplitl [HO]; · iexact HO
  isplitl [HDR11]; · iexact HDR11
  iexact HRV11

set_option maxHeartbeats 1600000 in
theorem part30_step (c : Dev nD) (v6 : BitVec 32) (v11 : BitVec 32) (v12 : BitVec 32) (v817 : BitVec 32) (v835 : BitVec 32) (Kt : (Σ' (v919 : BitVec 32) (v937 : BitVec 32) (v942 : BitVec 32), BitVec 32) → sProp 𝕄) :
    iprop(Env Sp K ∗ (recvPay Sp 11 c ∗ outP Sp 11 c ∗ sbAny 2 c ∗ owesE c (Oat 14 c) ∗ preP 14 c ∗ credS 12 c ∗ posS 12 c ∗ sbRest 12 c)
      ∗ (∀ w, landing 11 c ∗ outP Sp 12 c ∗ sbRest 14 c ∗ credS 14 c ∗ owesE c (Oat 15 c) ∗ semVal (sCell c 12) 0 ∗ sbAny 0 c -∗ Kt w))
      ⊢ wpb c (k0_part30 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v6 v11 v12 v817 v835) Kt := by
  simp only [k0_part30_eq_skeleton]; unfold k0_part30_skel
  simp only [Prog.lift, Prog.bind_op, Prog.bind_ret, Prog.pure_eq_ret]
  iintro ⟨#HE, ⟨HRV11, HOUT, HSB2, HO, HPRE14, HCS12, HPS12, HSR12⟩, Hk⟩
  iapply (loadRb_step Sp 11 c) $$ HRV11; iintro %v11 ⟨%hv11, HLA11⟩
  icases (outP_open Sp 11 c) $$ HOUT with ⟨%f11, %hf11, HOUT⟩
  iapply (wp_load 𝒱₀ (c : Thread nD τ) none Set.univ (m := outM) (Finset.subset_univ _)) $$ HOUT; iintro HOUT
  iapply (outStore_step Sp 11 12 c _ _ (Sp.set 11 (by decide) c _ _ hf11 hv11)) $$ HOUT; iintro HOUT
  icases (outP_open Sp 12 c) $$ HOUT with ⟨%f12, %hf12, HOUT⟩
  iapply (wp_load 𝒱₀ (c : Thread nD τ) none Set.univ (m := outM) (Finset.subset_univ _)) $$ HOUT; iintro HOUT
  iapply (loadSb_step 2 c) $$ HSB2; iintro %_ HSB2
  iapply (storeSb_step Sp 14 2 (by decide) c _ (Sp.send 14 (by decide) c _ hf12)) $$ HSB2; iintro ⟨HSH14, HSR14⟩
  iapply (send_step Sp K 14 14 15 rfl rfl c (dev18_eq c) rfl rfl rfl rfl) $$ [HO HSH14 HPRE14]
  · isplitr; · iexact HE
    isplitl [HO]; · iexact HO
    isplitl [HSH14]; · iexact HSH14
    iexact HPRE14
  iintro ⟨HO, HCS14⟩
  iapply (waitS_step Sp K 12 15 c rfl rfl) $$ [HO HCS12 HPS12]
  · isplitr; · iexact HE
    isplitl [HO]; · iexact HO
    isplitl [HCS12]; · iexact HCS12
    iexact HPS12
  iintro ⟨HO, HDS12, HT⟩
  ihave HSB0 := (sb_join 12 0 (by decide) c) $$ [HT HSR12]
  · isplitl [HT]; · iexact HT
    iexact HSR12
  ihave HOUT := (outP_close Sp 12 c f12 hf12) $$ HOUT
  iapply (wpb_ret c)
  iapply Hk
  isplitl [HLA11]; · iexact HLA11
  isplitl [HOUT]; · iexact HOUT
  isplitl [HSR14]; · iexact HSR14
  isplitl [HCS14]; · iexact HCS14
  isplitl [HO]; · iexact HO
  isplitl [HDS12]; · iexact HDS12
  iexact HSB0

set_option maxHeartbeats 1600000 in
theorem part31_step (c : Dev nD) (v6 : BitVec 32) (v11 : BitVec 32) (v851 : BitVec 32) (v869 : BitVec 32) (v942 : BitVec 32) (c0_i32_690 : BitVec 32) (Kt : (BitVec 32) → sProp 𝕄) :
    iprop(Env Sp K ∗ (owesE c (Oat 15 c) ∗ posR 12 c ∗ outP Sp 12 c ∗ sbAny 0 c ∗ preP 15 c)
      ∗ (∀ w, semVal (rCell c 12) 0 ∗ landing 12 c ∗ outP Sp 13 c ∗ sbRest 15 c ∗ owesE c (Oat 16 c) ∗ credS 15 c -∗ Kt w))
      ⊢ wpb c (k0_part31 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v6 v11 v851 v869 v942 c0_i32_690) Kt := by
  simp only [k0_part31_eq_skeleton]; unfold k0_part31_skel
  simp only [Prog.lift, Prog.bind_op, Prog.bind_ret, Prog.pure_eq_ret]
  iintro ⟨#HE, ⟨HO, HPR12, HOUT, HSB0, HPRE15⟩, Hk⟩
  iapply (waitR_step Sp K 12 15 (by decide) c rfl rfl) $$ [HO HPR12]
  · isplitr; · iexact HE
    isplitl [HO]; · iexact HO
    iexact HPR12
  iintro ⟨HO, HDR12, HRV12⟩
  iapply (loadRb_step Sp 12 c) $$ HRV12; iintro %v12 ⟨%hv12, HLA12⟩
  icases (outP_open Sp 12 c) $$ HOUT with ⟨%f12, %hf12, HOUT⟩
  iapply (wp_load 𝒱₀ (c : Thread nD τ) none Set.univ (m := outM) (Finset.subset_univ _)) $$ HOUT; iintro HOUT
  iapply (outStore_step Sp 12 13 c _ _ (Sp.set 12 (by decide) c _ _ hf12 hv12)) $$ HOUT; iintro HOUT
  icases (outP_open Sp 13 c) $$ HOUT with ⟨%f13, %hf13, HOUT⟩
  iapply (wp_load 𝒱₀ (c : Thread nD τ) none Set.univ (m := outM) (Finset.subset_univ _)) $$ HOUT; iintro HOUT
  iapply (loadSb_step 0 c) $$ HSB0; iintro %_ HSB0
  iapply (storeSb_step Sp 15 0 (by decide) c _ (Sp.send 15 (by decide) c _ hf13)) $$ HSB0; iintro ⟨HSH15, HSR15⟩
  iapply (send_step Sp K 15 15 16 rfl rfl c (dev19_eq c) rfl rfl rfl rfl) $$ [HO HSH15 HPRE15]
  · isplitr; · iexact HE
    isplitl [HO]; · iexact HO
    isplitl [HSH15]; · iexact HSH15
    iexact HPRE15
  iintro ⟨HO, HCS15⟩
  ihave HOUT := (outP_close Sp 13 c f13 hf13) $$ HOUT
  iapply (wpb_ret c)
  iapply Hk
  isplitl [HDR12]; · iexact HDR12
  isplitl [HLA12]; · iexact HLA12
  isplitl [HOUT]; · iexact HOUT
  isplitl [HSR15]; · iexact HSR15
  isplitl [HO]; · iexact HO
  iexact HCS15

set_option maxHeartbeats 1600000 in
theorem part32_step (c : Dev nD) (v8 : BitVec 32) (v12 : BitVec 32) (v13 : BitVec 32) (v885 : BitVec 32) (v903 : BitVec 32) (Kt : (BitVec 32) → sProp 𝕄) :
    iprop(Env Sp K ∗ (owesE c (Oat 16 c) ∗ credS 13 c ∗ posS 13 c ∗ sbRest 13 c ∗ posR 13 c ∗ outP Sp 13 c ∗ preP 16 c)
      ∗ (∀ w, semVal (sCell c 13) 0 ∗ semVal (rCell c 13) 0 ∗ landing 13 c ∗ outP Sp 14 c ∗ sbRest 16 c ∗ owesE c (Oat 17 c) ∗ credS 16 c -∗ Kt w))
      ⊢ wpb c (k0_part32 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v12 v13 v885 v903) Kt := by
  simp only [k0_part32_eq_skeleton]; unfold k0_part32_skel
  simp only [Prog.lift, Prog.bind_op, Prog.bind_ret, Prog.pure_eq_ret]
  iintro ⟨#HE, ⟨HO, HCS13, HPS13, HSR13, HPR13, HOUT, HPRE16⟩, Hk⟩
  iapply (waitS_step Sp K 13 16 c rfl rfl) $$ [HO HCS13 HPS13]
  · isplitr; · iexact HE
    isplitl [HO]; · iexact HO
    isplitl [HCS13]; · iexact HCS13
    iexact HPS13
  iintro ⟨HO, HDS13, HT⟩
  ihave HSB1 := (sb_join 13 1 (by decide) c) $$ [HT HSR13]
  · isplitl [HT]; · iexact HT
    iexact HSR13
  iapply (waitR_step Sp K 13 16 (by decide) c rfl rfl) $$ [HO HPR13]
  · isplitr; · iexact HE
    isplitl [HO]; · iexact HO
    iexact HPR13
  iintro ⟨HO, HDR13, HRV13⟩
  iapply (loadRb_step Sp 13 c) $$ HRV13; iintro %v13 ⟨%hv13, HLA13⟩
  icases (outP_open Sp 13 c) $$ HOUT with ⟨%f13, %hf13, HOUT⟩
  iapply (wp_load 𝒱₀ (c : Thread nD τ) none Set.univ (m := outM) (Finset.subset_univ _)) $$ HOUT; iintro HOUT
  iapply (outStore_step Sp 13 14 c _ _ (Sp.set 13 (by decide) c _ _ hf13 hv13)) $$ HOUT; iintro HOUT
  icases (outP_open Sp 14 c) $$ HOUT with ⟨%f14, %hf14, HOUT⟩
  iapply (wp_load 𝒱₀ (c : Thread nD τ) none Set.univ (m := outM) (Finset.subset_univ _)) $$ HOUT; iintro HOUT
  iapply (loadSb_step 1 c) $$ HSB1; iintro %_ HSB1
  iapply (storeSb_step Sp 16 1 (by decide) c _ (Sp.send 16 (by decide) c _ hf14)) $$ HSB1; iintro ⟨HSH16, HSR16⟩
  iapply (send_step Sp K 16 16 17 rfl rfl c (dev20_eq c) rfl rfl rfl rfl) $$ [HO HSH16 HPRE16]
  · isplitr; · iexact HE
    isplitl [HO]; · iexact HO
    isplitl [HSH16]; · iexact HSH16
    iexact HPRE16
  iintro ⟨HO, HCS16⟩
  ihave HOUT := (outP_close Sp 14 c f14 hf14) $$ HOUT
  iapply (wpb_ret c)
  iapply Hk
  isplitl [HDS13]; · iexact HDS13
  isplitl [HDR13]; · iexact HDR13
  isplitl [HLA13]; · iexact HLA13
  isplitl [HOUT]; · iexact HOUT
  isplitl [HSR16]; · iexact HSR16
  isplitl [HO]; · iexact HO
  iexact HCS16

set_option maxHeartbeats 1600000 in
theorem part33_step (c : Dev nD) (v8 : BitVec 32) (v10 : BitVec 32) (v11 : BitVec 32) (v13 : BitVec 32) (v919 : BitVec 32) (v937 : BitVec 32) (v987 : BitVec 32) (Kt : (Σ' (v1005 : BitVec 32), BitVec 32) → sProp 𝕄) :
    iprop(Env Sp K ∗ (owesE c (Oat 17 c) ∗ credS 14 c ∗ posS 14 c ∗ sbRest 14 c ∗ posR 14 c ∗ outP Sp 14 c)
      ∗ (∀ w, semVal (sCell c 14) 0 ∗ owesE c (Oat 17 c) ∗ semVal (rCell c 14) 0 ∗ landing 14 c ∗ outP Sp 15 c ∗ sbHas Sp 17 c ∗ sbRest 17 c -∗ Kt w))
      ⊢ wpb c (k0_part33 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v8 v10 v11 v13 v919 v937 v987) Kt := by
  simp only [k0_part33_eq_skeleton]; unfold k0_part33_skel
  simp only [Prog.lift, Prog.bind_op, Prog.bind_ret, Prog.pure_eq_ret]
  iintro ⟨#HE, ⟨HO, HCS14, HPS14, HSR14, HPR14, HOUT⟩, Hk⟩
  iapply (waitS_step Sp K 14 17 c rfl rfl) $$ [HO HCS14 HPS14]
  · isplitr; · iexact HE
    isplitl [HO]; · iexact HO
    isplitl [HCS14]; · iexact HCS14
    iexact HPS14
  iintro ⟨HO, HDS14, HT⟩
  ihave HSB2 := (sb_join 14 2 (by decide) c) $$ [HT HSR14]
  · isplitl [HT]; · iexact HT
    iexact HSR14
  iapply (waitR_step Sp K 14 17 (by decide) c rfl rfl) $$ [HO HPR14]
  · isplitr; · iexact HE
    isplitl [HO]; · iexact HO
    iexact HPR14
  iintro ⟨HO, HDR14, HRV14⟩
  iapply (loadRb_step Sp 14 c) $$ HRV14; iintro %v14 ⟨%hv14, HLA14⟩
  icases (outP_open Sp 14 c) $$ HOUT with ⟨%f14, %hf14, HOUT⟩
  iapply (wp_load 𝒱₀ (c : Thread nD τ) none Set.univ (m := outM) (Finset.subset_univ _)) $$ HOUT; iintro HOUT
  iapply (outStore_step Sp 14 15 c _ _ (Sp.set 14 (by decide) c _ _ hf14 hv14)) $$ HOUT; iintro HOUT
  icases (outP_open Sp 15 c) $$ HOUT with ⟨%f15, %hf15, HOUT⟩
  iapply (wp_load 𝒱₀ (c : Thread nD τ) none Set.univ (m := outM) (Finset.subset_univ _)) $$ HOUT; iintro HOUT
  iapply (loadSb_step 2 c) $$ HSB2; iintro %_ HSB2
  iapply (storeSb_step Sp 17 2 (by decide) c _ (Sp.send 17 (by decide) c _ hf15)) $$ HSB2; iintro ⟨HSH17, HSR17⟩
  ihave HOUT := (outP_close Sp 15 c f15 hf15) $$ HOUT
  iapply (wpb_ret c)
  iapply Hk
  isplitl [HDS14]; · iexact HDS14
  isplitl [HO]; · iexact HO
  isplitl [HDR14]; · iexact HDR14
  isplitl [HLA14]; · iexact HLA14
  isplitl [HOUT]; · iexact HOUT
  isplitl [HSH17]; · iexact HSH17
  iexact HSR17

set_option maxHeartbeats 1600000 in
theorem part34_step (c : Dev nD) (v10 : BitVec 32) (v11 : BitVec 32) (v971 : BitVec 32) (v1021 : BitVec 32) (Kt : (BitVec 32) → sProp 𝕄) :
    iprop(Env Sp K ∗ (owesE c (Oat 17 c) ∗ sbHas Sp 17 c ∗ preP 17 c ∗ credS 15 c ∗ posS 15 c ∗ sbRest 15 c ∗ posR 15 c ∗ outP Sp 15 c)
      ∗ (∀ w, credS 17 c ∗ semVal (sCell c 15) 0 ∗ sbAny 0 c ∗ owesE c (Oat 18 c) ∗ semVal (rCell c 15) 0 ∗ landing 15 c ∗ outP Sp 16 c -∗ Kt w))
      ⊢ wpb c (k0_part34 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v10 v11 v971 v1021) Kt := by
  simp only [k0_part34_eq_skeleton]; unfold k0_part34_skel
  simp only [Prog.lift, Prog.bind_op, Prog.bind_ret, Prog.pure_eq_ret]
  iintro ⟨#HE, ⟨HO, HSH17, HPRE17, HCS15, HPS15, HSR15, HPR15, HOUT⟩, Hk⟩
  iapply (send_step Sp K 17 17 18 rfl rfl c (dev21_eq c) rfl rfl rfl rfl) $$ [HO HSH17 HPRE17]
  · isplitr; · iexact HE
    isplitl [HO]; · iexact HO
    isplitl [HSH17]; · iexact HSH17
    iexact HPRE17
  iintro ⟨HO, HCS17⟩
  iapply (waitS_step Sp K 15 18 c rfl rfl) $$ [HO HCS15 HPS15]
  · isplitr; · iexact HE
    isplitl [HO]; · iexact HO
    isplitl [HCS15]; · iexact HCS15
    iexact HPS15
  iintro ⟨HO, HDS15, HT⟩
  ihave HSB0 := (sb_join 15 0 (by decide) c) $$ [HT HSR15]
  · isplitl [HT]; · iexact HT
    iexact HSR15
  iapply (waitR_step Sp K 15 18 (by decide) c rfl rfl) $$ [HO HPR15]
  · isplitr; · iexact HE
    isplitl [HO]; · iexact HO
    iexact HPR15
  iintro ⟨HO, HDR15, HRV15⟩
  iapply (loadRb_step Sp 15 c) $$ HRV15; iintro %v15 ⟨%hv15, HLA15⟩
  icases (outP_open Sp 15 c) $$ HOUT with ⟨%f15, %hf15, HOUT⟩
  iapply (wp_load 𝒱₀ (c : Thread nD τ) none Set.univ (m := outM) (Finset.subset_univ _)) $$ HOUT; iintro HOUT
  iapply (outStore_step Sp 15 16 c _ _ (Sp.set 15 (by decide) c _ _ hf15 hv15)) $$ HOUT; iintro HOUT
  iapply (wpb_ret c)
  iapply Hk
  isplitl [HCS17]; · iexact HCS17
  isplitl [HDS15]; · iexact HDS15
  isplitl [HSB0]; · iexact HSB0
  isplitl [HO]; · iexact HO
  isplitl [HDR15]; · iexact HDR15
  isplitl [HLA15]; · iexact HLA15
  iexact HOUT

set_option maxHeartbeats 1600000 in
theorem part35_step (c : Dev nD) (v12 : BitVec 32) (v13 : BitVec 32) (v1005 : BitVec 32) (v1039 : BitVec 32) (Kt : (FVec F S320x1024 .f32) → sProp 𝕄) :
    iprop(Env Sp K ∗ (owesE c (Oat 18 c) ∗ credS 16 c ∗ posS 16 c ∗ sbRest 16 c ∗ posR 16 c ∗ outP Sp 16 c ∗ credS 17 c ∗ posS 17 c ∗ sbRest 17 c ∗ posR 17 c)
      ∗ (∀ (v : FVec F S320x1024 .f32), semVal (sCell c 16) 0 ∗ sbAny 1 c ∗ semVal (rCell c 16) 0 ∗ landing 16 c ∗ outNext Sp 17 18 c v ∗ semVal (sCell c 17) 0 ∗ sbAny 2 c ∗ owesE c (Oat 18 c) ∗ semVal (rCell c 17) 0 ∗ landing 17 c -∗ Kt v))
      ⊢ wpb c (k0_part35 xM (isWhole_whole _) rwM (isWhole_whole _) ixM (isWhole_whole _) wM (isWhole_whole _) outM (isWhole_whole _) xbM (isWhole_whole _) ohsM (isWhole_whole _) ohuM (isWhole_whole _) gxM (isWhole_whole _) hsM (isWhole_whole _) wbM (isWhole_whole _) cc0_scratch6 (Memref.whole cc0_scratch7) (isWhole_whole _) (Memref.whole cc0_scratch8) (isWhole_whole _) (Memref.whole cc0_scratch9) (isWhole_whole _) (Memref.whole cc0_scratch10) (isWhole_whole _) (Memref.whole cc0_scratch11) (isWhole_whole _) (Memref.whole cc0_scratch12) (isWhole_whole _) cc0_scratch13 cc0_scratch14 c v12 v13 v1005 v1039) Kt := by
  simp only [k0_part35_eq_skeleton]; unfold k0_part35_skel
  simp only [Prog.lift, Prog.bind_op, Prog.bind_ret, Prog.pure_eq_ret]
  iintro ⟨#HE, ⟨HO, HCS16, HPS16, HSR16, HPR16, HOUT, HCS17, HPS17, HSR17, HPR17⟩, Hk⟩
  iapply (waitS_step Sp K 16 18 c rfl rfl) $$ [HO HCS16 HPS16]
  · isplitr; · iexact HE
    isplitl [HO]; · iexact HO
    isplitl [HCS16]; · iexact HCS16
    iexact HPS16
  iintro ⟨HO, HDS16, HT⟩
  ihave HSB1 := (sb_join 16 1 (by decide) c) $$ [HT HSR16]
  · isplitl [HT]; · iexact HT
    iexact HSR16
  iapply (waitR_step Sp K 16 18 (by decide) c rfl rfl) $$ [HO HPR16]
  · isplitr; · iexact HE
    isplitl [HO]; · iexact HO
    iexact HPR16
  iintro ⟨HO, HDR16, HRV16⟩
  iapply (loadRb_step Sp 16 c) $$ HRV16; iintro %v16 ⟨%hv16, HLA16⟩
  icases (outP_open Sp 16 c) $$ HOUT with ⟨%f16, %hf16, HOUT⟩
  iapply (wp_load 𝒱₀ (c : Thread nD τ) none Set.univ (m := outM) (Finset.subset_univ _)) $$ HOUT; iintro HOUT
  iapply (outStore_step Sp 16 17 c _ _ (Sp.set 16 (by decide) c _ _ hf16 hv16)) $$ HOUT; iintro HOUT
  iapply (waitS_step Sp K 17 18 c rfl rfl) $$ [HO HCS17 HPS17]
  · isplitr; · iexact HE
    isplitl [HO]; · iexact HO
    isplitl [HCS17]; · iexact HCS17
    iexact HPS17
  iintro ⟨HO, HDS17, HT⟩
  ihave HSB2 := (sb_join 17 2 (by decide) c) $$ [HT HSR17]
  · isplitl [HT]; · iexact HT
    iexact HSR17
  iapply (waitR_step Sp K 17 18 (by decide) c rfl rfl) $$ [HO HPR17]
  · isplitr; · iexact HE
    isplitl [HO]; · iexact HO
    iexact HPR17
  iintro ⟨HO, HDR17, HRV17⟩
  iapply (loadRb_step Sp 17 c) $$ HRV17; iintro %v17 ⟨%hv17, HLA17⟩
  icases (outP_open Sp 17 c) $$ HOUT with ⟨%f17, %hf17, HOUT⟩
  iapply (wp_load 𝒱₀ (c : Thread nD τ) none Set.univ (m := outM) (Finset.subset_univ _)) $$ HOUT; iintro HOUT
  ihave HOUT := (outNext_close Sp 17 18 c f17 _ (Sp.set 17 (by decide) c _ _ hf17 hv17)) $$ HOUT
  iapply (wpb_ret c)
  iapply Hk
  isplitl [HDS16]; · iexact HDS16
  isplitl [HSB1]; · iexact HSB1
  isplitl [HDR16]; · iexact HDR16
  isplitl [HLA16]; · iexact HLA16
  isplitl [HOUT]; · iexact HOUT
  isplitl [HDS17]; · iexact HDS17
  isplitl [HSB2]; · iexact HSB2
  isplitl [HO]; · iexact HO
  isplitl [HDR17]; · iexact HDR17
  iexact HLA17

end Cert.KernelIdeal.Moe

end
-- ==== Proof.KernelIdealBody.lean ====
/-
# The whole body on one device
-/
module

public import proofs.«01_k».proof.Proof.KernelIdealBuffers
public import proofs.«01_k».proof.Proof.KernelIdealLocal
public import proofs.«01_k».proof.Proof.KernelIdealExcA
public import proofs.«01_k».proof.Proof.KernelIdealExcB

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} (Sp : Spec m)
variable (K : Dev nD × CI → ℕ)

theorem jslot_or (j : Fin 8) (hj : 2 ≤ j.val) : ¬ (jslot j).val < 2 ∨ jround j = 1 := by revert j; decide

theorem wpb_bind (c : Dev nD) {α β : Type} (P : Prog (TpuEff nD τ sig (Elt F) Λ₀ .tc) α) (k : α → Prog (TpuEff nD τ sig (Elt F) Λ₀ .tc) β) (Q : β → sProp 𝕄) :
    wpb c P (fun a => wpb c (k a) Q) ⊢ wpb c (P >>= k) Q := by
  unfold wpb; exact Entails.of_eq (wp_bind ..).symm

theorem w_done (j : Fin 8) (hj : 2 ≤ j.val) (c : Dev nD) : iprop(Env Sp K ∗ posW1 j c) ⊢ iprop(|={Set.univ}=> semVal (wCell c (jslot j)) 0) :=
  w_close Sp K (jslot j) (jround j + 1) (fun r hr => if_neg fun h => by
    have := jslot_or j hj
    omega) c

def xtok (p : Fin 18) (c : Dev nD) : sProp 𝕄 := iprop(dutyTok ER (sCell c p) 0 0 ∗ dutyTok ER (rCell (par p c) p) 0 0)
def jtok (j : Fin 8) (c : Dev nD) : sProp 𝕄 := dutyTok ER (wCell c (jslot j)) (jround j) 0
def posB (e : Fin 6) (c : Dev nD) : sProp 𝕄 := atPos ER (wCell c e) 0 ∅ 0
abbrev btok (a : Fin 3) (c : Dev nD) : sProp 𝕄 := dutyTok ER (barCell (ax a c)) 0 a

/-- What device `c` starts with of the protocol: its tokens, its positions, its credits. -/
def ghost (c : Dev nD) : sProp 𝕄 :=
  iprop((bigSep Finset.univ fun a : Fin 3 => btok a c) ∗ (bigSep Finset.univ fun p : Fin 18 => xtok p c) ∗ (bigSep Finset.univ fun j : Fin 8 => jtok j c)
    ∗ atPos ER (barCell c) 0 ∅ 0 ∗ (bigSep Finset.univ fun e : Fin 6 => posB e c) ∗ (bigSep Finset.univ fun p : Fin 18 => posS p c)
    ∗ (bigSep Finset.univ fun p : Fin 18 => posR p c) ∗ cred (tallyAt (barCell c) () 3))

/-- The scratch buffers, whole, at whatever they hold. -/
def scratch (c : Dev nD) : sProp 𝕄 :=
  iprop((∃ f, (xbM.view.loc (c : Thread nD τ) ↦{fullShare} f)) ∗ (∃ f, (ohsM.view.loc (c : Thread nD τ) ↦{fullShare} f)) ∗ (∃ f, (ohuM.view.loc (c : Thread nD τ) ↦{fullShare} f))
    ∗ (∃ f, (gxM.view.loc (c : Thread nD τ) ↦{fullShare} f)) ∗ (∃ f, (hsM.view.loc (c : Thread nD τ) ↦{fullShare} f)) ∗ (∃ f, (wbM.view.loc (c : Thread nD τ) ↦{fullShare} f))
    ∗ sbAny 0 c ∗ sbAny 1 c ∗ sbAny 2 c
    ∗ (∃ f, ((Memref.whole cc0_scratch10 : Memref sig .tc .vmem S1296x1024 .bf16).view.loc (c : Thread nD τ)) ↦{fullShare} f)
    ∗ (∃ f, ((Memref.whole cc0_scratch11 : Memref sig .tc .vmem S1296x1024 .bf16).view.loc (c : Thread nD τ)) ↦{fullShare} f)
    ∗ (∃ f, ((Memref.whole cc0_scratch12 : Memref sig .tc .vmem S1184x1024 .bf16).view.loc (c : Thread nD τ)) ↦{fullShare} f))

variable (m) in
/-- The arguments on device `c`. -/
def argsAt (c : Dev nD) : sProp 𝕄 :=
  iprop((xM.view.loc (c : Thread nD τ) ↦{fullShare} (m ((c : Thread nD τ).loc main_arg0) : XB F)) ∗ (rwM.view.loc (c : Thread nD τ) ↦{fullShare} (m ((c : Thread nD τ).loc main_arg1) : RB F))
    ∗ (ixM.view.loc (c : Thread nD τ) ↦{fullShare} (m ((c : Thread nD τ).loc main_arg2) : IB F)) ∗ (wM.view.loc (c : Thread nD τ) ↦{fullShare} m ((c : Thread nD τ).loc main_arg3)))

/-- The protocol's semaphores at zero. -/
def semsZero (c : Dev nD) : sProp 𝕄 :=
  iprop(semVal (barCell c) 0 ∗ (bigSep Finset.univ fun e : Fin 6 => semVal (wCell c e) 0) ∗ (bigSep Finset.univ fun p : Fin 18 => semVal (sCell c p) 0)
    ∗ (bigSep Finset.univ fun p : Fin 18 => semVal (rCell c p) 0))

def bodyOut (c : Dev nD) : sProp 𝕄 := iprop(owesE c (Oat 18 c) ∗ argsAt m c ∗ outP Sp 18 c ∗ scratch c ∗ semsZero c)

theorem jobIn_intro (j : Fin 8) (c : Dev nD) : iprop(sliceP m j c ∗ jtok j c) ⊢ jobIn m j c := by unfold jobIn jtok; exact .rfl
theorem preP_intro (p : Fin 18) (c : Dev nD) : iprop(landing p (par p c) ∗ xtok p c) ⊢ (preP p c : sProp 𝕄) := by unfold preP xtok; exact .rfl

set_option maxHeartbeats 8000000 in
/-- The body on device `c`. -/
theorem body_run (c : Dev nD) (Kt : PUnit → sProp 𝕄) :
    iprop(Env Sp K ∗ ghost c ∗ scratch c ∗ owesE c (O₀ c) ∗ argsAt m c ∗ outAny c ∗ (bodyOut Sp c -∗ Kt ⟨⟩))
      ⊢ wpb c (cc0_body xM (Memref.isWhole_whole _) rwM (Memref.isWhole_whole _) ixM (Memref.isWhole_whole _) wM (Memref.isWhole_whole _) outM (Memref.isWhole_whole _) xbM (Memref.isWhole_whole _) ohsM (Memref.isWhole_whole _) ohuM (Memref.isWhole_whole _) gxM (Memref.isWhole_whole _) hsM (Memref.isWhole_whole _) wbM (Memref.isWhole_whole _) cc0_scratch6 (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14) Kt := by
  simp only [cc0_body_eq_skeleton]; unfold cc0_body_skel
  unfold ghost scratch argsAt
  iintro ⟨#HE, ⟨HTB, HXT, HJT, HPB, HPOSB, HPOSS, HPOSR, HCB⟩, ⟨⟨%fx, HXB⟩, ⟨%fs, HOHS⟩, ⟨%fu, HOHU⟩, ⟨%fg, HGX⟩, ⟨%fh, HHS⟩, HWB, HSB0, HSB1, HSB2, HR0, HR1, HR2⟩, HO, ⟨HX, HRW, HIX, HW⟩, HOUT, Hk⟩
  ihave HTB := (Entails.of_eq (bs3 _)) $$ HTB
  icases HTB with ⟨HT0, HT1, HT2⟩
  ihave HXT := (Entails.of_eq (bs18 _)) $$ HXT
  icases HXT with ⟨HXT0, HXT1, HXT2, HXT3, HXT4, HXT5, HXT6, HXT7, HXT8, HXT9, HXT10, HXT11, HXT12, HXT13, HXT14, HXT15, HXT16, HXT17⟩
  ihave HJT := (Entails.of_eq (bs8 _)) $$ HJT
  icases HJT with ⟨HJT0, HJT1, HJT2, HJT3, HJT4, HJT5, HJT6, HJT7⟩
  ihave HPOSB := (Entails.of_eq (bs6 _)) $$ HPOSB
  icases HPOSB with ⟨HPW0, HPW1, HPW2, HPW3, HPW4, HPW5⟩
  ihave HPW0 := (Entails.of_eq (show posB (F := F) 0 c = posW 0 c from rfl)) $$ HPW0
  ihave HPW1 := (Entails.of_eq (show posB (F := F) 1 c = posW 1 c from rfl)) $$ HPW1
  ihave HPW2 := (Entails.of_eq (show posB (F := F) 2 c = posW 2 c from rfl)) $$ HPW2
  ihave HPW3 := (Entails.of_eq (show posB (F := F) 3 c = posW 3 c from rfl)) $$ HPW3
  ihave HPW4 := (Entails.of_eq (show posB (F := F) 4 c = posW 4 c from rfl)) $$ HPW4
  ihave HPW5 := (Entails.of_eq (show posB (F := F) 5 c = posW 5 c from rfl)) $$ HPW5
  ihave HPOSS := (Entails.of_eq (bs18 _)) $$ HPOSS
  icases HPOSS with ⟨HPS0, HPS1, HPS2, HPS3, HPS4, HPS5, HPS6, HPS7, HPS8, HPS9, HPS10, HPS11, HPS12, HPS13, HPS14, HPS15, HPS16, HPS17⟩
  ihave HPOSR := (Entails.of_eq (bs18 _)) $$ HPOSR
  icases HPOSR with ⟨HPR0, HPR1, HPR2, HPR3, HPR4, HPR5, HPR6, HPR7, HPR8, HPR9, HPR10, HPR11, HPR12, HPR13, HPR14, HPR15, HPR16, HPR17⟩
  ihave HWB := (slots_split c) $$ HWB
  ihave HWB := (Entails.of_eq (bs6 _)) $$ HWB
  icases HWB with ⟨HSL0, HSL1, HSL2, HSL3, HSL4, HSL5⟩
  ihave HW := (Entails.of_eq (slices_split c)) $$ HW
  ihave HW := (Entails.of_eq (bs8 _)) $$ HW
  icases HW with ⟨HSC0, HSC1, HSC2, HSC3, HSC4, HSC5, HSC6, HSC7⟩
  ihave HR0 := (rb0_split c) $$ HR0
  icases HR0 with ⟨⟨HLA0, HLA3, HLA6, HLA9, HLA12, HLA15⟩, HRR0⟩
  ihave HR1 := (rb1_split c) $$ HR1
  icases HR1 with ⟨⟨HLA1, HLA4, HLA7, HLA10, HLA13, HLA16⟩, HRR1⟩
  ihave HR2 := (rb2_split c) $$ HR2
  icases HR2 with ⟨⟨HLA2, HLA5, HLA8, HLA11, HLA14, HLA17⟩, HRR2⟩
  ihave HLN0 := (bar_in0 c) $$ [HLA0 HLA5 HLA7 HLA10 HLA14 HLA15]
  · isplitl [HLA0]; · iexact HLA0
    isplitl [HLA5]; · iexact HLA5
    isplitl [HLA7]; · iexact HLA7
    isplitl [HLA10]; · iexact HLA10
    isplitl [HLA14]; · iexact HLA14
    iexact HLA15
  ihave HLN1 := (bar_in1 c) $$ [HLA1 HLA3 HLA8 HLA11 HLA12 HLA16]
  · isplitl [HLA1]; · iexact HLA1
    isplitl [HLA3]; · iexact HLA3
    isplitl [HLA8]; · iexact HLA8
    isplitl [HLA11]; · iexact HLA11
    isplitl [HLA12]; · iexact HLA12
    iexact HLA16
  ihave HLN2 := (bar_in2 c) $$ [HLA2 HLA4 HLA6 HLA9 HLA13 HLA17]
  · isplitl [HLA2]; · iexact HLA2
    isplitl [HLA4]; · iexact HLA4
    isplitl [HLA6]; · iexact HLA6
    isplitl [HLA9]; · iexact HLA9
    isplitl [HLA13]; · iexact HLA13
    iexact HLA17
  ihave HJ0 := (jobIn_intro 0 c) $$ [HSC0 HJT0]
  · isplitl [HSC0]; · iexact HSC0
    iexact HJT0
  ihave HJ1 := (jobIn_intro 1 c) $$ [HSC1 HJT1]
  · isplitl [HSC1]; · iexact HSC1
    iexact HJT1
  ihave HJ2 := (jobIn_intro 2 c) $$ [HSC2 HJT2]
  · isplitl [HSC2]; · iexact HSC2
    iexact HJT2
  ihave HJ3 := (jobIn_intro 3 c) $$ [HSC3 HJT3]
  · isplitl [HSC3]; · iexact HSC3
    iexact HJT3
  ihave HJ4 := (jobIn_intro 4 c) $$ [HSC4 HJT4]
  · isplitl [HSC4]; · iexact HSC4
    iexact HJT4
  ihave HJ5 := (jobIn_intro 5 c) $$ [HSC5 HJT5]
  · isplitl [HSC5]; · iexact HSC5
    iexact HJT5
  ihave HJ6 := (jobIn_intro 6 c) $$ [HSC6 HJT6]
  · isplitl [HSC6]; · iexact HSC6
    iexact HJT6
  ihave HJ7 := (jobIn_intro 7 c) $$ [HSC7 HJT7]
  · isplitl [HSC7]; · iexact HSC7
    iexact HJT7
  iapply (wpb_bind c)
  iapply (part1_step Sp K c  _)
  isplitr; · iexact HE
  isplitl [HJ0 HSL0 HJ1 HSL1]
  · isplitl [HJ0]; · iexact HJ0
    isplitl [HSL0]; · iexact HSL0
    isplitl [HJ1]; · iexact HJ1
    iexact HSL1
  iintro %d %v2 %v6 %v8 %v10 %v11 %v12 %v13 ⟨%h, HRUN0, HRUN1⟩
  obtain ⟨rfl, rfl⟩ := h
  try dsimp only
  iapply (wpb_bind c)
  iapply (part2_step Sp K c _  _)
  isplitr; · iexact HE
  isplitl [HJ2 HSL2 HJ3 HSL3 HJ4 HSL4 HJ5 HSL5 HO HT0 HLN0]
  · isplitl [HJ2]; · iexact HJ2
    isplitl [HSL2]; · iexact HSL2
    isplitl [HJ3]; · iexact HJ3
    isplitl [HSL3]; · iexact HSL3
    isplitl [HJ4]; · iexact HJ4
    isplitl [HSL4]; · iexact HSL4
    isplitl [HJ5]; · iexact HJ5
    isplitl [HSL5]; · iexact HSL5
    isplitl [HO]; · iexact HO
    isplitl [HT0]; · iexact HT0
    iexact HLN0
  iintro  ⟨HRUN2, HRUN3, HRUN4, HRUN5, HO⟩
  try dsimp only
  iapply (wpb_bind c)
  iapply (part3_step Sp K c _ _ (m ((c : Thread nD τ).loc main_arg0)) (m ((c : Thread nD τ).loc main_arg1)) (m ((c : Thread nD τ).loc main_arg2)) fx _)
  isplitr; · iexact HE
  isplitl [HO HT1 HLN1 HT2 HLN2 HCB HPB HX HRW HIX HXB]
  · isplitl [HO]; · iexact HO
    isplitl [HT1]; · iexact HT1
    isplitl [HLN1]; · iexact HLN1
    isplitl [HT2]; · iexact HT2
    isplitl [HLN2]; · iexact HLN2
    isplitl [HCB]; · iexact HCB
    isplitl [HPB]; · iexact HPB
    isplitl [HX]; · iexact HX
    isplitl [HRW]; · iexact HRW
    isplitl [HIX]; · iexact HIX
    iexact HXB
  iintro  ⟨HO, HDB, HBP, HX, HRW, HIX, HXB⟩
  try dsimp only
  iapply (wpb_bind c)
  iapply (part4_step c (m ((c : Thread nD τ).loc main_arg0)) (m ((c : Thread nD τ).loc main_arg1)) (m ((c : Thread nD τ).loc main_arg2)) _)
  try dsimp only
  iapply (wpb_bind c)
  iapply (part5_step Sp K c _ _ _ _ _ _ fu fs _)
  isplitr; · iexact HE
  isplitl [HOHU HOHS]
  · isplitl [HOHU]; · iexact HOHU
    iexact HOHS
  iintro  ⟨HOHU, HOHS⟩
  try dsimp only
  iapply (wpb_bind c)
  iapply (part6_step Sp K c _ _ _ _ _ _)
  isplitr; · iexact HE
  isplitl [HOHU HOHS]
  · isplitl [HOHU]; · iexact HOHU
    iexact HOHS
  iintro  ⟨HOHU, HOHS⟩
  try dsimp only
  iapply (wpb_bind c)
  iapply (part7_step Sp K c _ _ _ _ _ _ _ _)
  isplitr; · iexact HE
  isplitl [HOHU HOHS]
  · isplitl [HOHU]; · iexact HOHU
    iexact HOHS
  iintro  ⟨HOHU, HOHS⟩
  try dsimp only
  iapply (wpb_bind c)
  iapply (part8_step Sp K c _ _ _ _ fh _)
  isplitr; · iexact HE
  isplitl [HOHS HXB HGX HHS HO HRUN0 HPW0]
  · isplitl [HOHS]; · iexact HOHS
    isplitl [HXB]; · iexact HXB
    isplitl [HGX]; · iexact HGX
    isplitl [HHS]; · iexact HHS
    isplitl [HO]; · iexact HO
    isplitl [HRUN0]; · iexact HRUN0
    iexact HPW0
  iintro  ⟨HOHS, HXB, HGX, HHS, HO, HRC0, HSL0, HQ0, HSC0⟩
  try dsimp only
  iapply (wpb_bind c)
  iapply (part9_step Sp K c _ _ _)
  isplitr; · iexact HE
  isplitl [HGX HHS HO HJ6 HSL0 HQ0 HRC0 HRUN1 HPW1 HJ7]
  · isplitl [HGX]; · iexact HGX
    isplitl [HHS]; · iexact HHS
    isplitl [HO]; · iexact HO
    isplitl [HJ6]; · iexact HJ6
    isplitl [HSL0]; · iexact HSL0
    isplitl [HQ0]; · iexact HQ0
    isplitl [HRC0]; · iexact HRC0
    isplitl [HRUN1]; · iexact HRUN1
    isplitl [HPW1]; · iexact HPW1
    iexact HJ7
  iintro  ⟨HGX, HHS, HO, HRUN6, HPW6, HSC1, HRUN7, HPW7⟩
  try dsimp only
  iapply (wpb_bind c)
  iapply (part10_step Sp K c _ _ _)
  isplitr; · iexact HE
  isplitl [HGX HHS HO HRUN2 HPW2 HRUN3 HPW3]
  · isplitl [HGX]; · iexact HGX
    isplitl [HHS]; · iexact HHS
    isplitl [HO]; · iexact HO
    isplitl [HRUN2]; · iexact HRUN2
    isplitl [HPW2]; · iexact HPW2
    isplitl [HRUN3]; · iexact HRUN3
    iexact HPW3
  iintro  ⟨HGX, HHS, HO, HSL2, HQ2, HSC2, HSL3, HQ3, HSC3⟩
  try dsimp only
  iapply (wpb_bind c)
  iapply (part11_step Sp K c _ _ _)
  isplitr; · iexact HE
  isplitl [HGX HHS HO HRUN4 HPW4 HRUN5 HPW5]
  · isplitl [HGX]; · iexact HGX
    isplitl [HHS]; · iexact HHS
    isplitl [HO]; · iexact HO
    isplitl [HRUN4]; · iexact HRUN4
    isplitl [HPW4]; · iexact HPW4
    isplitl [HRUN5]; · iexact HRUN5
    iexact HPW5
  iintro  ⟨HGX, HHS, HO, HSL4, HQ4, HSC4, HSL5, HQ5, HSC5⟩
  try dsimp only
  iapply (wpb_bind c)
  iapply (part12_step Sp K c _ _ _)
  isplitr; · iexact HE
  isplitl [HGX HHS HO HRUN6 HPW6 HRUN7 HPW7]
  · isplitl [HGX]; · iexact HGX
    isplitl [HHS]; · iexact HHS
    isplitl [HO]; · iexact HO
    isplitl [HRUN6]; · iexact HRUN6
    isplitl [HPW6]; · iexact HPW6
    isplitl [HRUN7]; · iexact HRUN7
    iexact HPW7
  iintro  ⟨HGX, HHS, HO, HSL6, HQ6, HSC6, HSL7, HQ7, HSC7⟩
  try dsimp only
  icases HBP with ⟨HBP0, HBP1, HBP2⟩
  ihave HBP0 := (bar_out0 c) $$ HBP0
  icases HBP0 with ⟨HLA0, HLA5, HLA7, HLA10, HLA14, HLA15⟩
  ihave HBP1 := (bar_out1 c) $$ HBP1
  icases HBP1 with ⟨HLA1, HLA3, HLA8, HLA11, HLA12, HLA16⟩
  ihave HBP2 := (bar_out2 c) $$ HBP2
  icases HBP2 with ⟨HLA2, HLA4, HLA6, HLA9, HLA13, HLA17⟩
  ihave HPRE0 := (preP_intro 0 c) $$ [HLA0 HXT0]
  · isplitl [HLA0]; · iexact HLA0
    iexact HXT0
  ihave HPRE1 := (preP_intro 1 c) $$ [HLA1 HXT1]
  · isplitl [HLA1]; · iexact HLA1
    iexact HXT1
  ihave HPRE2 := (preP_intro 2 c) $$ [HLA2 HXT2]
  · isplitl [HLA2]; · iexact HLA2
    iexact HXT2
  ihave HPRE3 := (preP_intro 3 c) $$ [HLA3 HXT3]
  · isplitl [HLA3]; · iexact HLA3
    iexact HXT3
  ihave HPRE4 := (preP_intro 4 c) $$ [HLA4 HXT4]
  · isplitl [HLA4]; · iexact HLA4
    iexact HXT4
  ihave HPRE5 := (preP_intro 5 c) $$ [HLA5 HXT5]
  · isplitl [HLA5]; · iexact HLA5
    iexact HXT5
  ihave HPRE6 := (preP_intro 6 c) $$ [HLA6 HXT6]
  · isplitl [HLA6]; · iexact HLA6
    iexact HXT6
  ihave HPRE7 := (preP_intro 7 c) $$ [HLA7 HXT7]
  · isplitl [HLA7]; · iexact HLA7
    iexact HXT7
  ihave HPRE8 := (preP_intro 8 c) $$ [HLA8 HXT8]
  · isplitl [HLA8]; · iexact HLA8
    iexact HXT8
  ihave HPRE9 := (preP_intro 9 c) $$ [HLA9 HXT9]
  · isplitl [HLA9]; · iexact HLA9
    iexact HXT9
  ihave HPRE10 := (preP_intro 10 c) $$ [HLA10 HXT10]
  · isplitl [HLA10]; · iexact HLA10
    iexact HXT10
  ihave HPRE11 := (preP_intro 11 c) $$ [HLA11 HXT11]
  · isplitl [HLA11]; · iexact HLA11
    iexact HXT11
  ihave HPRE12 := (preP_intro 12 c) $$ [HLA12 HXT12]
  · isplitl [HLA12]; · iexact HLA12
    iexact HXT12
  ihave HPRE13 := (preP_intro 13 c) $$ [HLA13 HXT13]
  · isplitl [HLA13]; · iexact HLA13
    iexact HXT13
  ihave HPRE14 := (preP_intro 14 c) $$ [HLA14 HXT14]
  · isplitl [HLA14]; · iexact HLA14
    iexact HXT14
  ihave HPRE15 := (preP_intro 15 c) $$ [HLA15 HXT15]
  · isplitl [HLA15]; · iexact HLA15
    iexact HXT15
  ihave HPRE16 := (preP_intro 16 c) $$ [HLA16 HXT16]
  · isplitl [HLA16]; · iexact HLA16
    iexact HXT16
  ihave HPRE17 := (preP_intro 17 c) $$ [HLA17 HXT17]
  · isplitl [HLA17]; · iexact HLA17
    iexact HXT17
  have hL : LocalOKm m c (ohu3 c (m ((c : Thread nD τ).loc main_arg0)) (m ((c : Thread nD τ).loc main_arg1)) (m ((c : Thread nD τ).loc main_arg2)) fu) (hs7 (m ((c : Thread nD τ).loc main_arg3)) (gx c (m ((c : Thread nD τ).loc main_arg0)) (m ((c : Thread nD τ).loc main_arg1)) (m ((c : Thread nD τ).loc main_arg2)) fs) fh) := ⟨fu, fs, fh, rfl, rfl⟩
  iapply (wpb_bind c)
  iapply (part13_step Sp K c _ _ _ _ _ _ hL _)
  isplitr; · iexact HE
  isplitl [HOHU HHS HSB0 HO HPRE0]
  · isplitl [HOHU]; · iexact HOHU
    isplitl [HHS]; · iexact HHS
    isplitl [HSB0]; · iexact HSB0
    isplitl [HO]; · iexact HO
    iexact HPRE0
  iintro %w13 %v440 ⟨%h1, HOHU, HHS, HSR0, HO, HCS0⟩
  try dsimp only
  iapply (wpb_bind c)
  iapply (part14_step Sp K c _ _ _ _ _ _ _ hL h1 _)
  isplitr; · iexact HE
  isplitl [HSB1 HO HPRE1 HOHU HHS HSB2]
  · isplitl [HSB1]; · iexact HSB1
    isplitl [HO]; · iexact HO
    isplitl [HPRE1]; · iexact HPRE1
    isplitl [HOHU]; · iexact HOHU
    isplitl [HHS]; · iexact HHS
    iexact HSB2
  iintro %w14 ⟨HSR1, HO, HCS1, HOHU, HHS, HSH2, HSR2⟩
  try dsimp only
  iapply (wpb_bind c)
  iapply (part15_step Sp K c _ _ _ _ _ hL _)
  isplitr; · iexact HE
  isplitl [HO HSH2 HPRE2 HOHU HHS HOUT HCS0 HPS0 HSR0]
  · isplitl [HO]; · iexact HO
    isplitl [HSH2]; · iexact HSH2
    isplitl [HPRE2]; · iexact HPRE2
    isplitl [HOHU]; · iexact HOHU
    isplitl [HHS]; · iexact HHS
    isplitl [HOUT]; · iexact HOUT
    isplitl [HCS0]; · iexact HCS0
    isplitl [HPS0]; · iexact HPS0
    iexact HSR0
  iintro %w15 ⟨HCS2, HOHU, HHS, HOUT, HO, HDS0, HSB0⟩
  try dsimp only
  iapply (wpb_bind c)
  iapply (part16_step Sp K c _ _ _ _ _)
  isplitr; · iexact HE
  isplitl [HO HPR0 HOUT HSB0 HPRE3]
  · isplitl [HO]; · iexact HO
    isplitl [HPR0]; · iexact HPR0
    isplitl [HOUT]; · iexact HOUT
    isplitl [HSB0]; · iexact HSB0
    iexact HPRE3
  iintro %w16 ⟨HDR0, HLA0, HOUT, HSR3, HO, HCS3⟩
  try dsimp only
  iapply (wpb_bind c)
  iapply (part17_step Sp K c _ _ _ _ _ _ _)
  isplitr; · iexact HE
  isplitl [HO HCS1 HPS1 HSR1 HPR1 HOUT]
  · isplitl [HO]; · iexact HO
    isplitl [HCS1]; · iexact HCS1
    isplitl [HPS1]; · iexact HPS1
    isplitl [HSR1]; · iexact HSR1
    isplitl [HPR1]; · iexact HPR1
    iexact HOUT
  iintro %w17 ⟨HDS1, HO, HDR1, HLA1, HOUT, HSH4, HSR4⟩
  try dsimp only
  iapply (wpb_bind c)
  iapply (part18_step Sp K c _ _ _ _ _ _)
  isplitr; · iexact HE
  isplitl [HO HSH4 HPRE4 HCS2 HPS2 HSR2 HPR2 HOUT]
  · isplitl [HO]; · iexact HO
    isplitl [HSH4]; · iexact HSH4
    isplitl [HPRE4]; · iexact HPRE4
    isplitl [HCS2]; · iexact HCS2
    isplitl [HPS2]; · iexact HPS2
    isplitl [HSR2]; · iexact HSR2
    isplitl [HPR2]; · iexact HPR2
    iexact HOUT
  iintro %w18 ⟨HCS4, HDS2, HSB2, HO, HDR2, HLA2, HOUT⟩
  obtain ⟨w18_0, w18_1⟩ := w18
  try dsimp only
  iapply (wpb_bind c)
  iapply (part19_step Sp K c _ _ _ _ _ _)
  isplitr; · iexact HE
  isplitl [HOUT HSB2 HO HPRE5 HCS3 HPS3 HSR3]
  · isplitl [HOUT]; · iexact HOUT
    isplitl [HSB2]; · iexact HSB2
    isplitl [HO]; · iexact HO
    isplitl [HPRE5]; · iexact HPRE5
    isplitl [HCS3]; · iexact HCS3
    isplitl [HPS3]; · iexact HPS3
    iexact HSR3
  iintro %w19 ⟨HOUT, HSR5, HCS5, HO, HDS3, HSB0⟩
  try dsimp only
  iapply (wpb_bind c)
  iapply (part20_step Sp K c _ _ _ _)
  isplitr; · iexact HE
  isplitl [HO HPR3 HOUT HSB0 HPRE6]
  · isplitl [HO]; · iexact HO
    isplitl [HPR3]; · iexact HPR3
    isplitl [HOUT]; · iexact HOUT
    isplitl [HSB0]; · iexact HSB0
    iexact HPRE6
  iintro %w20 ⟨HDR3, HLA3, HOUT, HSR6, HO, HCS6⟩
  try dsimp only
  iapply (wpb_bind c)
  iapply (part21_step Sp K c _ _ _ _ _)
  isplitr; · iexact HE
  isplitl [HO HCS4 HPS4 HSR4 HPR4 HOUT]
  · isplitl [HO]; · iexact HO
    isplitl [HCS4]; · iexact HCS4
    isplitl [HPS4]; · iexact HPS4
    isplitl [HSR4]; · iexact HSR4
    isplitl [HPR4]; · iexact HPR4
    iexact HOUT
  iintro %w21 ⟨HDS4, HO, HDR4, HLA4, HOUT, HSH7, HSR7⟩
  try dsimp only
  iapply (wpb_bind c)
  iapply (part22_step Sp K c _ _ _ _ _ _)
  isplitr; · iexact HE
  isplitl [HO HSH7 HPRE7 HCS5 HPS5 HSR5 HPR5 HOUT]
  · isplitl [HO]; · iexact HO
    isplitl [HSH7]; · iexact HSH7
    isplitl [HPRE7]; · iexact HPRE7
    isplitl [HCS5]; · iexact HCS5
    isplitl [HPS5]; · iexact HPS5
    isplitl [HSR5]; · iexact HSR5
    isplitl [HPR5]; · iexact HPR5
    iexact HOUT
  iintro %w22 %v708 ⟨%h8, HCS7, HDS5, HSB2, HO, HDR5, HLA5, HOUT⟩
  try dsimp only
  iapply (wpb_bind c)
  iapply (part23_step Sp K c _ _ _ _ _ _ h8 _)
  isplitr; · iexact HE
  isplitl [HSB2 HO HPRE8 HCS6 HPS6 HSR6 HPR6 HOUT]
  · isplitl [HSB2]; · iexact HSB2
    isplitl [HO]; · iexact HO
    isplitl [HPRE8]; · iexact HPRE8
    isplitl [HCS6]; · iexact HCS6
    isplitl [HPS6]; · iexact HPS6
    isplitl [HSR6]; · iexact HSR6
    isplitl [HPR6]; · iexact HPR6
    iexact HOUT
  iintro %w23 %v737 ⟨HSR8, HCS8, HDS6, HSB0, HO, HDR6, HLA6, HOUT⟩
  try dsimp only
  iapply (wpb_bind c)
  iapply (part24_step Sp K c _ _ _ _ _ _)
  isplitr; · iexact HE
  isplitl [HOUT HSB0 HO HPRE9 HCS7 HPS7 HSR7]
  · isplitl [HOUT]; · iexact HOUT
    isplitl [HSB0]; · iexact HSB0
    isplitl [HO]; · iexact HO
    isplitl [HPRE9]; · iexact HPRE9
    isplitl [HCS7]; · iexact HCS7
    isplitl [HPS7]; · iexact HPS7
    iexact HSR7
  iintro %w24 ⟨HOUT, HSR9, HCS9, HO, HDS7, HSB1⟩
  obtain ⟨w24_0, w24_1⟩ := w24
  try dsimp only
  iapply (wpb_bind c)
  iapply (part25_step Sp K c _ _ _ _)
  isplitr; · iexact HE
  isplitl [HO HPR7 HOUT HSB1 HPRE10]
  · isplitl [HO]; · iexact HO
    isplitl [HPR7]; · iexact HPR7
    isplitl [HOUT]; · iexact HOUT
    isplitl [HSB1]; · iexact HSB1
    iexact HPRE10
  iintro %w25 ⟨HDR7, HLA7, HOUT, HSR10, HO, HCS10⟩
  obtain ⟨w25_0, w25_1⟩ := w25
  try dsimp only
  iapply (wpb_bind c)
  iapply (part26_step Sp K c _ _ _ _)
  isplitr; · iexact HE
  isplitl [HO HCS8 HPS8 HSR8 HPR8 HOUT]
  · isplitl [HO]; · iexact HO
    isplitl [HCS8]; · iexact HCS8
    isplitl [HPS8]; · iexact HPS8
    isplitl [HSR8]; · iexact HSR8
    isplitl [HPR8]; · iexact HPR8
    iexact HOUT
  iintro %w26 ⟨HDS8, HO, HDR8, HLA8, HOUT, HSH11, HSR11⟩
  try dsimp only
  iapply (wpb_bind c)
  iapply (part27_step Sp K c _ _ _ _ _ _)
  isplitr; · iexact HE
  isplitl [HO HSH11 HPRE11 HCS9 HPS9 HSR9 HPR9 HOUT]
  · isplitl [HO]; · iexact HO
    isplitl [HSH11]; · iexact HSH11
    isplitl [HPRE11]; · iexact HPRE11
    isplitl [HCS9]; · iexact HCS9
    isplitl [HPS9]; · iexact HPS9
    isplitl [HSR9]; · iexact HSR9
    isplitl [HPR9]; · iexact HPR9
    iexact HOUT
  iintro %w27 ⟨HCS11, HDS9, HO, HDR9, HLA9, HOUT, HSH12, HSR12⟩
  obtain ⟨w27_0, w27_1⟩ := w27
  try dsimp only
  iapply (wpb_bind c)
  iapply (part28_step Sp K c _ _ _ _ _ _ _ _)
  isplitr; · iexact HE
  isplitl [HO HSH12 HPRE12 HCS10 HPS10 HSR10 HPR10 HOUT]
  · isplitl [HO]; · iexact HO
    isplitl [HSH12]; · iexact HSH12
    isplitl [HPRE12]; · iexact HPRE12
    isplitl [HCS10]; · iexact HCS10
    isplitl [HPS10]; · iexact HPS10
    isplitl [HSR10]; · iexact HSR10
    isplitl [HPR10]; · iexact HPR10
    iexact HOUT
  iintro %w28 ⟨HCS12, HDS10, HSB1, HO, HDR10, HLA10, HOUT⟩
  obtain ⟨w28_0, w28_1⟩ := w28
  try dsimp only
  iapply (wpb_bind c)
  iapply (part29_step Sp K c _ _ _ _ _)
  isplitr; · iexact HE
  isplitl [HOUT HSB1 HO HPRE13 HCS11 HPS11 HSR11 HPR11]
  · isplitl [HOUT]; · iexact HOUT
    isplitl [HSB1]; · iexact HSB1
    isplitl [HO]; · iexact HO
    isplitl [HPRE13]; · iexact HPRE13
    isplitl [HCS11]; · iexact HCS11
    isplitl [HPS11]; · iexact HPS11
    isplitl [HSR11]; · iexact HSR11
    iexact HPR11
  iintro %w29 ⟨HOUT, HSR13, HCS13, HDS11, HSB2, HO, HDR11, HRV11⟩
  try dsimp only
  iapply (wpb_bind c)
  iapply (part30_step Sp K c _ _ _ _ _ _)
  isplitr; · iexact HE
  isplitl [HRV11 HOUT HSB2 HO HPRE14 HCS12 HPS12 HSR12]
  · isplitl [HRV11]; · iexact HRV11
    isplitl [HOUT]; · iexact HOUT
    isplitl [HSB2]; · iexact HSB2
    isplitl [HO]; · iexact HO
    isplitl [HPRE14]; · iexact HPRE14
    isplitl [HCS12]; · iexact HCS12
    isplitl [HPS12]; · iexact HPS12
    iexact HSR12
  iintro %w30 ⟨HLA11, HOUT, HSR14, HCS14, HO, HDS12, HSB0⟩
  obtain ⟨w30_0, w30_1, w30_2, w30_3⟩ := w30
  try dsimp only
  iapply (wpb_bind c)
  iapply (part31_step Sp K c _ _ _ _ _ _ _)
  isplitr; · iexact HE
  isplitl [HO HPR12 HOUT HSB0 HPRE15]
  · isplitl [HO]; · iexact HO
    isplitl [HPR12]; · iexact HPR12
    isplitl [HOUT]; · iexact HOUT
    isplitl [HSB0]; · iexact HSB0
    iexact HPRE15
  iintro %w31 ⟨HDR12, HLA12, HOUT, HSR15, HO, HCS15⟩
  try dsimp only
  iapply (wpb_bind c)
  iapply (part32_step Sp K c _ _ _ _ _ _)
  isplitr; · iexact HE
  isplitl [HO HCS13 HPS13 HSR13 HPR13 HOUT HPRE16]
  · isplitl [HO]; · iexact HO
    isplitl [HCS13]; · iexact HCS13
    isplitl [HPS13]; · iexact HPS13
    isplitl [HSR13]; · iexact HSR13
    isplitl [HPR13]; · iexact HPR13
    isplitl [HOUT]; · iexact HOUT
    iexact HPRE16
  iintro %w32 ⟨HDS13, HDR13, HLA13, HOUT, HSR16, HO, HCS16⟩
  try dsimp only
  iapply (wpb_bind c)
  iapply (part33_step Sp K c _ _ _ _ _ _ _ _)
  isplitr; · iexact HE
  isplitl [HO HCS14 HPS14 HSR14 HPR14 HOUT]
  · isplitl [HO]; · iexact HO
    isplitl [HCS14]; · iexact HCS14
    isplitl [HPS14]; · iexact HPS14
    isplitl [HSR14]; · iexact HSR14
    isplitl [HPR14]; · iexact HPR14
    iexact HOUT
  iintro %w33 ⟨HDS14, HO, HDR14, HLA14, HOUT, HSH17, HSR17⟩
  obtain ⟨w33_0, w33_1⟩ := w33
  try dsimp only
  iapply (wpb_bind c)
  iapply (part34_step Sp K c _ _ _ _ _)
  isplitr; · iexact HE
  isplitl [HO HSH17 HPRE17 HCS15 HPS15 HSR15 HPR15 HOUT]
  · isplitl [HO]; · iexact HO
    isplitl [HSH17]; · iexact HSH17
    isplitl [HPRE17]; · iexact HPRE17
    isplitl [HCS15]; · iexact HCS15
    isplitl [HPS15]; · iexact HPS15
    isplitl [HSR15]; · iexact HSR15
    isplitl [HPR15]; · iexact HPR15
    iexact HOUT
  iintro %w34 ⟨HCS17, HDS15, HSB0, HO, HDR15, HLA15, HOUT⟩
  try dsimp only
  iapply (wpb_bind c)
  iapply (part35_step Sp K c _ _ _ _ _)
  isplitr; · iexact HE
  isplitl [HO HCS16 HPS16 HSR16 HPR16 HOUT HCS17 HPS17 HSR17 HPR17]
  · isplitl [HO]; · iexact HO
    isplitl [HCS16]; · iexact HCS16
    isplitl [HPS16]; · iexact HPS16
    isplitl [HSR16]; · iexact HSR16
    isplitl [HPR16]; · iexact HPR16
    isplitl [HOUT]; · iexact HOUT
    isplitl [HCS17]; · iexact HCS17
    isplitl [HPS17]; · iexact HPS17
    isplitl [HSR17]; · iexact HSR17
    iexact HPR17
  iintro %v1079 ⟨HDS16, HSB1, HDR16, HLA16, HOUT, HDS17, HSB2, HO, HDR17, HLA17⟩
  try dsimp only
  icases (outNext_open Sp 17 18 c v1079) $$ HOUT with ⟨%f17, %hf17, HOUT⟩
  simp only [Prog.lift, Prog.bind_op, Prog.bind_ret, Prog.pure_eq_ret]
  iapply (outStore_step Sp 17 18 c _ _ hf17) $$ HOUT; iintro HOUT
  imod (w_done Sp K 2 (by decide) c) $$ [HQ2] with HDW2
  · isplitr; · iexact HE
    iexact HQ2
  imod (w_done Sp K 3 (by decide) c) $$ [HQ3] with HDW3
  · isplitr; · iexact HE
    iexact HQ3
  imod (w_done Sp K 4 (by decide) c) $$ [HQ4] with HDW4
  · isplitr; · iexact HE
    iexact HQ4
  imod (w_done Sp K 5 (by decide) c) $$ [HQ5] with HDW5
  · isplitr; · iexact HE
    iexact HQ5
  imod (w_done Sp K 6 (by decide) c) $$ [HQ6] with HDW6
  · isplitr; · iexact HE
    iexact HQ6
  imod (w_done Sp K 7 (by decide) c) $$ [HQ7] with HDW7
  · isplitr; · iexact HE
    iexact HQ7
  iapply (wpb_ret c)
  iapply Hk
  unfold bodyOut argsAt scratch semsZero
  isplitl [HO]; · iexact HO
  isplitl [HX HRW HIX HSC0 HSC1 HSC2 HSC3 HSC4 HSC5 HSC6 HSC7]
  · isplitl [HX]; · iexact HX
    isplitl [HRW]; · iexact HRW
    isplitl [HIX]; · iexact HIX
    iapply (Entails.of_eq (slices_split c).symm)
    iapply (Entails.of_eq (bs8 _).symm)
    isplitl [HSC0]; · iexact HSC0
    isplitl [HSC1]; · iexact HSC1
    isplitl [HSC2]; · iexact HSC2
    isplitl [HSC3]; · iexact HSC3
    isplitl [HSC4]; · iexact HSC4
    isplitl [HSC5]; · iexact HSC5
    isplitl [HSC6]; · iexact HSC6
    iexact HSC7
  isplitl [HOUT]; · iexact HOUT
  isplitl [HXB HOHS HOHU HGX HHS HSB0 HSB1 HSB2 HRR0 HRR1 HRR2 HSL6 HSL7 HSL2 HSL3 HSL4 HSL5 HLA0 HLA1 HLA2 HLA3 HLA4 HLA5 HLA6 HLA7 HLA8 HLA9 HLA10 HLA11 HLA12 HLA13 HLA14 HLA15 HLA16 HLA17]
  · isplitl [HXB]; · iexists _; iexact HXB
    isplitl [HOHS]; · iexists _; iexact HOHS
    isplitl [HOHU]; · iexists _; iexact HOHU
    isplitl [HGX]; · iexists _; iexact HGX
    isplitl [HHS]; · iexists _; iexact HHS
    isplitl [HSL6 HSL7 HSL2 HSL3 HSL4 HSL5]
    · iapply (slots_join c)
      iapply (Entails.of_eq (bs6 _).symm)
      isplitl [HSL6]; · iexact HSL6
      isplitl [HSL7]; · iexact HSL7
      isplitl [HSL2]; · iexact HSL2
      isplitl [HSL3]; · iexact HSL3
      isplitl [HSL4]; · iexact HSL4
      iexact HSL5
    isplitl [HSB0]; · iexact HSB0
    isplitl [HSB1]; · iexact HSB1
    isplitl [HSB2]; · iexact HSB2
    isplitl [HLA0 HLA3 HLA6 HLA9 HLA12 HLA15 HRR0]
    · iapply (rb0_join c)
      isplitl [HLA0 HLA3 HLA6 HLA9 HLA12 HLA15]
      · isplitl [HLA0]; · iexact HLA0
        isplitl [HLA3]; · iexact HLA3
        isplitl [HLA6]; · iexact HLA6
        isplitl [HLA9]; · iexact HLA9
        isplitl [HLA12]; · iexact HLA12
        iexact HLA15
      iexact HRR0
    isplitl [HLA1 HLA4 HLA7 HLA10 HLA13 HLA16 HRR1]
    · iapply (rb1_join c)
      isplitl [HLA1 HLA4 HLA7 HLA10 HLA13 HLA16]
      · isplitl [HLA1]; · iexact HLA1
        isplitl [HLA4]; · iexact HLA4
        isplitl [HLA7]; · iexact HLA7
        isplitl [HLA10]; · iexact HLA10
        isplitl [HLA13]; · iexact HLA13
        iexact HLA16
      iexact HRR1
    iapply (rb2_join c)
    isplitl [HLA2 HLA5 HLA8 HLA11 HLA14 HLA17]
    · isplitl [HLA2]; · iexact HLA2
      isplitl [HLA5]; · iexact HLA5
      isplitl [HLA8]; · iexact HLA8
      isplitl [HLA11]; · iexact HLA11
      isplitl [HLA14]; · iexact HLA14
      iexact HLA17
    iexact HRR2
  isplitl [HDB]; · iexact HDB
  isplitl [HDW6 HDW7 HDW2 HDW3 HDW4 HDW5]
  · iapply (Entails.of_eq (bs6 _).symm)
    isplitl [HDW6]; · iexact HDW6
    isplitl [HDW7]; · iexact HDW7
    isplitl [HDW2]; · iexact HDW2
    isplitl [HDW3]; · iexact HDW3
    isplitl [HDW4]; · iexact HDW4
    iexact HDW5
  isplitl [HDS0 HDS1 HDS2 HDS3 HDS4 HDS5 HDS6 HDS7 HDS8 HDS9 HDS10 HDS11 HDS12 HDS13 HDS14 HDS15 HDS16 HDS17]
  · iapply (Entails.of_eq (bs18 _).symm)
    isplitl [HDS0]; · iexact HDS0
    isplitl [HDS1]; · iexact HDS1
    isplitl [HDS2]; · iexact HDS2
    isplitl [HDS3]; · iexact HDS3
    isplitl [HDS4]; · iexact HDS4
    isplitl [HDS5]; · iexact HDS5
    isplitl [HDS6]; · iexact HDS6
    isplitl [HDS7]; · iexact HDS7
    isplitl [HDS8]; · iexact HDS8
    isplitl [HDS9]; · iexact HDS9
    isplitl [HDS10]; · iexact HDS10
    isplitl [HDS11]; · iexact HDS11
    isplitl [HDS12]; · iexact HDS12
    isplitl [HDS13]; · iexact HDS13
    isplitl [HDS14]; · iexact HDS14
    isplitl [HDS15]; · iexact HDS15
    isplitl [HDS16]; · iexact HDS16
    iexact HDS17
  iapply (Entails.of_eq (bs18 _).symm)
  isplitl [HDR0]; · iexact HDR0
  isplitl [HDR1]; · iexact HDR1
  isplitl [HDR2]; · iexact HDR2
  isplitl [HDR3]; · iexact HDR3
  isplitl [HDR4]; · iexact HDR4
  isplitl [HDR5]; · iexact HDR5
  isplitl [HDR6]; · iexact HDR6
  isplitl [HDR7]; · iexact HDR7
  isplitl [HDR8]; · iexact HDR8
  isplitl [HDR9]; · iexact HDR9
  isplitl [HDR10]; · iexact HDR10
  isplitl [HDR11]; · iexact HDR11
  isplitl [HDR12]; · iexact HDR12
  isplitl [HDR13]; · iexact HDR13
  isplitl [HDR14]; · iexact HDR14
  isplitl [HDR15]; · iexact HDR15
  isplitl [HDR16]; · iexact HDR16
  iexact HDR17

end Cert.KernelIdeal.Moe

end
-- ==== Proof.KernelIdealFund.lean ====
/-
# The protocol's start

The tokens, positions and credits of the exchange's protocol are minted once for the whole mesh and dealt to the devices.
-/
module

public import proofs.«01_k».proof.Proof.KernelIdealBody

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} (Sp : Spec m)

/-! ## The protocol's ghost state, minted and dealt -/

theorem bs_comm {A B : Type} [Fintype A] [Fintype B] (Φ : A → B → sProp 𝕄) :
    (bigSep Finset.univ fun a : A => bigSep Finset.univ fun b : B => Φ a b) = bigSep Finset.univ fun b : B => bigSep Finset.univ fun a : A => Φ a b := by
  rw [← bigSep_univ_prod (fun x : A × B => Φ x.1 x.2), bigSep_univ_equiv (Equiv.prodComm B A), bigSep_univ_prod]; rfl

theorem ci_split (Φ : CI → sProp 𝕄) : bigSep Finset.univ Φ = iprop(Φ (.inl ()) ∗ bigSep Finset.univ fun k : Fin 6 ⊕ (Fin 18 ⊕ Fin 18) => Φ (.inr k)) := by
  rw [bigSep_univ_sum, show (Finset.univ : Finset Unit) = {()} from rfl, bigSep_singleton]; rfl
theorem own_split (Φ : Fin 6 ⊕ (Fin 18 ⊕ Fin 18) → sProp 𝕄) : bigSep Finset.univ Φ
    = iprop((bigSep Finset.univ fun e : Fin 6 => Φ (.inl e)) ∗ (bigSep Finset.univ fun p : Fin 18 => Φ (.inr (.inl p))) ∗ bigSep Finset.univ fun p : Fin 18 => Φ (.inr (.inr p))) := by
  rw [bigSep_univ_sum, bigSep_univ_sum]; rfl

theorem kcell_injective : Function.Injective (fun ck : Dev nD × CI => kcell ck.1 ck.2) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨_, kcell_injective⟩

/-- The duties of one device's cells: the barrier's three, the weight loads' eight, the sends', the receives'. -/
abbrev TI : Type := Fin 3 ⊕ (Fin 8 ⊕ (Fin 18 ⊕ Fin 18))

def tokK : TI → CI × ℕ × Fin 3
  | .inl a => (.inl (), 0, a)
  | .inr (.inl j) => (.inr (.inl (jslot j)), jround j, 0)
  | .inr (.inr (.inl p)) => (.inr (.inr (.inl p)), 0, 0)
  | .inr (.inr (.inr p)) => (.inr (.inr (.inr p)), 0, 0)

theorem tokK_injective : Function.Injective tokK := by
  rintro (a | j | p | p) (a' | j' | p' | p') h <;> simp only [tokK, Prod.mk.injEq, Sum.inl.injEq, Sum.inr.injEq, reduceCtorEq, false_and] at h
  · rw [h.2.2]
  · obtain ⟨h1, h2, -⟩ := h
    rw [← jobOf_slot j, ← jobOf_slot j', h1, h2]
  · rw [h.1]
  · rw [h.1]

def tokOf (ci : Dev nD × TI) : GSem nD τ sig × ℕ × Fin 3 := (kcell ci.1 (tokK ci.2).1, (tokK ci.2).2)

theorem tokOf_injective : Function.Injective tokOf := by
  rintro ⟨c, k⟩ ⟨c', k'⟩ h
  have h1 : c = c' := congrArg (fun g : GSem nD τ sig × ℕ × Fin 3 => g.1.1.1) h
  have h2 : (tokK k).1 = (tokK k').1 := csem_injective (congrArg (fun g : GSem nD τ sig × ℕ × Fin 3 => g.1.2) h)
  have h3 : (tokK k).2 = (tokK k').2 := congrArg (fun g : GSem nD τ sig × ℕ × Fin 3 => g.2) h
  rw [h1, tokK_injective (Prod.ext h2 h3)]

def ringToks : Finset (GSem nD τ sig × ℕ × Fin 3) := Finset.univ.map ⟨tokOf, tokOf_injective⟩

def u₀ : UU := (initOf (Pipeline.cells cfgs cellOf_inj) (Pipeline.launchToks cfgs cellOf_inj), initOf ringCells ringToks)

/-- The tokens of device `c`'s own cells' duties. -/
def toks (c : Dev nD) : sProp 𝕄 :=
  iprop((bigSep Finset.univ fun a : Fin 3 => dutyTok ER (barCell c) 0 a) ∗ (bigSep Finset.univ fun j : Fin 8 => jtok j c)
    ∗ (bigSep Finset.univ fun p : Fin 18 => dutyTok ER (sCell c p) 0 0) ∗ (bigSep Finset.univ fun p : Fin 18 => dutyTok ER (rCell c p) 0 0))

/-- What is dealt to device `c` at the launch. -/
def G (c : Dev nD) : sProp 𝕄 :=
  iprop((bigSep Finset.univ fun k : CI => roundState ER (rd Sp) (kcell c k) 0)
    ∗ (bigSep Finset.univ fun k : CI => iprop(atPos ER (kcell c k) 0 ∅ 0 ∗ reached ER (kcell c k) 0)) ∗ toks c)

theorem cells_eq (Φ : GSem nD τ sig → sProp 𝕄) : bigSep ringCells Φ = bigSep Finset.univ fun c : Dev nD => bigSep Finset.univ fun k : CI => Φ (kcell c k) := by
  unfold ringCells; rw [bigSep_map, bigSep_univ_prod]; rfl

theorem toks_eq : bigSep ringToks (fun x => (dutyTok ER x.1 x.2.1 x.2.2 : sProp 𝕄)) = bigSep Finset.univ fun c : Dev nD => toks c := by
  unfold ringToks; rw [bigSep_map, bigSep_univ_prod]
  exact bigSep_congr fun c _ => by unfold toks; rw [bigSep_univ_sum, bigSep_univ_sum, bigSep_univ_sum]; rfl

theorem fund_ring : BI.own (ER (initOf ringCells ringToks)) ⊢ (|==> bigSep Finset.univ (G Sp) : sProp 𝕄) := by
  iintro HX
  imod (Rounds.fund ER (rd Sp) ringCells ringToks) $$ HX with ⟨Hst, Hr, Hat, Htok⟩
  imodintro
  ihave Hst' := (Entails.of_eq (cells_eq fun g => roundState ER (rd Sp) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_eq) $$ Htok
  unfold G; simp only [bigSep_sep']
  isplitl [Hst']; · iexact Hst'
  isplitl [Hat' Hr']
  · isplitl [Hat'] <;> iassumption
  iexact Htok'

/-- The kernel's own semaphores: the weight slots', the sends', the receives'. -/
abbrev osem : Fin 6 ⊕ (Fin 18 ⊕ Fin 18) → SemLoc sig := fun k => csem (.inr k)

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell c k) 0 : sProp 𝕄) := by
  rw [unscopedSems0_eq, ci_split]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G Sp c)
      ⊢ |={Set.univ}=> iprop((bigSep Finset.univ fun k : CI => iprop(∃ κ : ℕ, cellInv ER (rd Sp) κ (kcell c k)))
          ∗ (bigSep Finset.univ fun k : CI => iprop(atPos ER (kcell c k) 0 ∅ 0 ∗ reached ER (kcell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell c k) 0) ∗ bigSep Finset.univ fun k : CI => roundState ER (rd Sp) (kcell c k) 0)
      ⊢ (|={Set.univ}=> bigSep Finset.univ fun k : CI => iprop(∃ κ : ℕ, cellInv ER (rd Sp) κ (kcell c k)) : sProp 𝕄) from by
        rw [← bigSep_sep']
        exact (bigSep_mono fun k _ => (Rounds.body_intro ER (rd Sp) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` itself pays. -/
def payToks (c : Dev nD) : sProp 𝕄 :=
  iprop((bigSep Finset.univ fun a : Fin 3 => btok a c) ∗ (bigSep Finset.univ fun j : Fin 8 => jtok j c) ∗ (bigSep Finset.univ fun p : Fin 18 => xtok p c))

def poses (c : Dev nD) : sProp 𝕄 := bigSep Finset.univ fun k : CI => atPos ER (kcell c k) 0 ∅ 0

theorem btok_around : (bigSep Finset.univ fun c : Dev nD => bigSep Finset.univ fun a : Fin 3 => (dutyTok ER (barCell c) 0 a : sProp 𝕄))
    = bigSep Finset.univ fun c : Dev nD => bigSep Finset.univ fun a : Fin 3 => btok a c := by
  rw [bs_comm, bs_comm (fun (c : Dev nD) (a : Fin 3) => btok a c)]
  exact bigSep_congr fun a _ => bigSep_univ_equiv (axE a) (fun c : Dev nD => (dutyTok ER (barCell c) 0 a : sProp 𝕄))

theorem rtok_around : (bigSep Finset.univ fun c : Dev nD => bigSep Finset.univ fun p : Fin 18 => (dutyTok ER (rCell c p) 0 0 : sProp 𝕄))
    = bigSep Finset.univ fun c : Dev nD => bigSep Finset.univ fun p : Fin 18 => (dutyTok ER (rCell (par p c) p) 0 0 : sProp 𝕄) := by
  rw [bs_comm, bs_comm (fun (c : Dev nD) (p : Fin 18) => (dutyTok ER (rCell (par p c) p) 0 0 : sProp 𝕄))]
  exact bigSep_congr fun p _ => bigSep_univ_equiv (parE p) (fun c : Dev nD => (dutyTok ER (rCell c p) 0 0 : sProp 𝕄))

theorem xtok_split (c : Dev nD) : (bigSep Finset.univ fun p : Fin 18 => xtok p c : sProp 𝕄)
    = iprop((bigSep Finset.univ fun p : Fin 18 => dutyTok ER (sCell c p) 0 0) ∗ bigSep Finset.univ fun p : Fin 18 => dutyTok ER (rCell (par p c) p) 0 0) := by
  unfold xtok; rw [bigSep_sep']

theorem toks_around : (bigSep Finset.univ fun c : Dev nD => (toks c : sProp 𝕄)) ⊢ bigSep Finset.univ fun c : Dev nD => payToks c := by
  unfold toks payToks
  simp only [xtok_split]
  rw [bigSep_sep', bigSep_sep', bigSep_sep', bigSep_sep', bigSep_sep', bigSep_sep', btok_around, rtok_around]

/-- What device `c` has of the protocol before the credits. -/
def G' (c : Dev nD) : sProp 𝕄 := iprop(∃ K, records Sp K ∗ poses c ∗ payToks c)

theorem g_intro (K : Dev nD × CI → ℕ) (c : Dev nD) : iprop(records Sp K ∗ (poses c ∗ payToks c)) ⊢ G' Sp c := by
  unfold G'
  iintro H
  iexists K
  iexact H

theorem regroup :
    (bigSep Finset.univ fun c : Dev nD => iprop((bigSep Finset.univ fun k : CI => iprop(∃ κ : ℕ, cellInv ER (rd Sp) κ (kcell c k)))
          ∗ (bigSep Finset.univ fun k : CI => iprop(atPos ER (kcell c k) 0 ∅ 0 ∗ reached ER (kcell c k) 0)) ∗ toks c) : sProp 𝕄)
      ⊢ bigSep Finset.univ (G' Sp) := by
  rw [bigSep_sep', bigSep_sep', ← bigSep_univ_prod (fun ck : Dev nD × CI => iprop(∃ κ : ℕ, cellInv ER (rd Sp) κ (kcell ck.1 ck.2))),
    bigSep_congr (s := Finset.univ) (fun (c : Dev nD) _ => bigSep_sep' Finset.univ (fun k : CI => (atPos ER (kcell c k) 0 ∅ 0 : sProp 𝕄)) (fun k => reached ER (kcell c k) 0)),
    bigSep_sep', ← bigSep_univ_prod (fun ck : Dev nD × CI => (reached ER (kcell ck.1 ck.2) 0 : sProp 𝕄))]
  iintro ⟨HI, ⟨Hat, #HR⟩, Htok⟩
  ihave HK := (BI.bigSep_exists_pi Finset.univ (fun (ck : Dev nD × CI) (κ : ℕ) => (cellInv ER (rd Sp) κ (kcell ck.1 ck.2) : sProp 𝕄))) $$ HI
  icases HK with ⟨%K, #HI⟩
  ihave Htk := (toks_around (F := F)) $$ Htok
  iapply (BI.bigSep_with_persistent (R := records Sp K) fun c _ => g_intro Sp K c)
  isplitr
  · unfold records; isplitl; · iexact HI
    iexact HR
  · iapply (Entails.of_eq (bigSep_sep' Finset.univ (fun c : Dev nD => (poses c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G Sp c) : sProp 𝕄)
    ⊢ |={Set.univ}=> bigSep Finset.univ (G' Sp) :=
  ((bigSep_mono fun c _ => core_alloc Sp c).trans (bigSep_fupd _ _)).trans (BI.fupd_mono (regroup Sp))

/-! ## The credits -/

theorem cred_bar (a : Fin 3) (c : Dev nD) :
    (Pipeline.launchCred (fun d : Dev nD => (tallyAt (barCell (ax a d)) () 1 : CellTallies nD τ sig Unit)) c : sProp 𝕄) ⊢ cred (tallyAt (barCell c) () 1) :=
  Pipeline.launchCred_tallyAt (SemLoc.reg barS) (ax a) (ax a) (ax_ax a) (ax_ax a) () 1 c

theorem cred_recv (p : Fin 18) (c : Dev nD) :
    (Pipeline.launchCred (fun d : Dev nD => (tallyAt (rCell (par p d) p) () (NP p) : CellTallies nD τ sig Unit)) c : sProp 𝕄) ⊢ cred (tallyAt (rCell c p) () (NP p)) :=
  Pipeline.launchCred_tallyAt (SemLoc.dma (rIx p)) (par p) (par p) (par_par p) (par_par p) () (NP p) c

theorem Oat_zero : (Oat 0 : Dev nD → CellTallies nD τ sig Unit) = fun c => ∑ p ∈ (Finset.univ : Finset (Fin 18)), tallyAt (rCell (par p c) p) () (NP p) := by
  funext c; unfold Oat; rw [Finset.filter_true_of_mem fun p _ => Nat.zero_le _]

theorem creds (c : Dev nD) :
    (Pipeline.launchCred O₀ c : sProp 𝕄)
      ⊢ iprop(cred (tallyAt (barCell c) () 3) ∗ bigSep Finset.univ fun p : Fin 18 => cred (tallyAt (rCell c p) () (NP p))) := by
  have e : (Pipeline.launchCred O₀ c : sProp 𝕄) = iprop((((bigSep Finset.univ fun p : Fin 18 => Pipeline.launchCred (fun d : Dev nD => (tallyAt (rCell (par p d) p) () (NP p) : CellTallies nD τ sig Unit)) c)
      ∗ Pipeline.launchCred (fun d : Dev nD => (tallyAt (barCell (ax 2 d)) () 1 : CellTallies nD τ sig Unit)) c)
      ∗ Pipeline.launchCred (fun d : Dev nD => (tallyAt (barCell (ax 1 d)) () 1 : CellTallies nD τ sig Unit)) c)
      ∗ Pipeline.launchCred (fun d : Dev nD => (tallyAt (barCell (ax 0 d)) () 1 : CellTallies nD τ sig Unit)) c) := by
    rw [show (O₀ : Dev nD → CellTallies nD τ sig Unit) = fun d => O₁ d + tallyAt (barCell (ax 0 d)) () 1 from rfl, Pipeline.launchCred_add,
      show (O₁ : Dev nD → CellTallies nD τ sig Unit) = fun d => O₂ d + tallyAt (barCell (ax 1 d)) () 1 from rfl, Pipeline.launchCred_add,
      show (O₂ : Dev nD → CellTallies nD τ sig Unit) = fun d => Oat 0 d + tallyAt (barCell (ax 2 d)) () 1 from rfl, Pipeline.launchCred_add,
      Oat_zero, Pipeline.launchCred_sum]
  rw [e]
  have hm : (bigSep Finset.univ fun p : Fin 18 => Pipeline.launchCred (fun d : Dev nD => (tallyAt (rCell (par p d) p) () (NP p) : CellTallies nD τ sig Unit)) c : sProp 𝕄)
      ⊢ bigSep Finset.univ fun p : Fin 18 => cred (tallyAt (rCell c p) () (NP p)) := bigSep_mono fun p _ => cred_recv p c
  iintro ⟨⟨⟨H, H2⟩, H1⟩, H0⟩
  ihave H := hm $$ H
  ihave H0 := (cred_bar 0 c) $$ H0
  ihave H1 := (cred_bar 1 c) $$ H1
  ihave H2 := (cred_bar 2 c) $$ H2
  isplitl [H0 H1 H2]
  · have e3 : (tallyAt (barCell c) () 3 : CellTallies nD τ sig Unit) = tallyAt (barCell c) () 1 + tallyAt (barCell c) () 1 + tallyAt (barCell c) () 1 := by
      show tallyAt (barCell c) () (1 + 1 + 1) = _
      rw [tallyAt_add, tallyAt_add]
    rw [e3]
    iapply (cred_add _ _).2
    isplitl [H0 H1]
    · iapply (cred_add _ _).2
      isplitl [H0]; · iexact H0
      iexact H1
    iexact H2
  iexact H

theorem ghost_intro (c : Dev nD) :
    iprop(poses c ∗ payToks c ∗ cred (tallyAt (barCell c) () 3) ∗ bigSep Finset.univ fun p : Fin 18 => cred (tallyAt (rCell c p) () (NP p))) ⊢ (ghost c : sProp 𝕄) := by
  unfold poses payToks ghost posB posS posR
  rw [ci_split, own_split, bigSep_sep']
  iintro ⟨⟨HB, HW, HS, HR⟩, ⟨HT, HJ, HX⟩, HC, HCR⟩
  isplitl [HT]; · iexact HT
  isplitl [HX]; · iexact HX
  isplitl [HJ]; · iexact HJ
  isplitl [HB]; · iexact HB
  isplitl [HW]; · iexact HW
  isplitl [HS]; · iexact HS
  isplitl [HR HCR]
  · isplitl [HR]; · iexact HR
    iexact HCR
  iexact HC

end Cert.KernelIdeal.Moe

end
-- ==== Proof.KernelIdealLaunch.lean ====
/-
# The launch

From the body on one device to the run of the whole mesh: every device's arguments are unchanged, its semaphores are
back at zero, and its result satisfies what the specification says of the accumulator after the last step.
-/
module

public import proofs.«01_k».proof.Proof.KernelIdealFund
public import proofs.«01_k».proof.Proof.Gen.KernelIdeal.Frame
public import Idealize.ShloMosaic.Lib.Pipeline.ArrRel
public import Idealize.ShloMosaic.Lib.Pipeline.CollectiveSegs
public import Idealize.ShloMosaic.Lib.Quiescent

@[expose] public section

set_option maxRecDepth 16384

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} (Sp : Spec m)

/-! ## The proof's data -/

/-- What device `c` enters the kernel with besides its buffers. -/
def start (c : Dev nD) : sProp 𝕄 :=
  iprop((∃ K, Env Sp K) ∗ ghost c ∗ (wM.view.loc (c : Thread nD τ) ↦{fullShare} m ((c : Thread nD τ).loc main_arg3)))

def Φ₀ (c : Dev nD) : sProp 𝕄 := iprop(start Sp c ∗ scratch c)
variable (m) in
def Φ₁ (c : Dev nD) : sProp 𝕄 :=
  iprop(scratch c ∗ semsZero c ∗ (wM.view.loc (c : Thread nD τ) ↦{fullShare} m ((c : Thread nD τ).loc main_arg3)))

def rdats (_ : Fin 1) (c : Dev nD) : Pipeline.RDat τ (Elt F) Unit ℕ UU ℕ cfg0 c where
  A w := m ((cfg0.win w).arr.view.loc (c : Thread nD τ))
  after w _ _ := match w with
    | ⟨0, _⟩ => fun _ => True
    | ⟨1, _⟩ => fun _ => True
    | ⟨2, _⟩ => fun _ => True
    | ⟨3, _⟩ => fun X => Sp.Out 18 c X
  Φ t := match t with
    | ⟨0, _⟩ => Φ₀ Sp c
    | ⟨_ + 1, _⟩ => Φ₁ m c
  q _ := fullShare
  owed t := match t with
    | ⟨0, _⟩ => O₀ c
    | ⟨_ + 1, _⟩ => 0

theorem share_eq (c : Dev nD) (w : Fin cfg0.W) : (rdats Sp 0 c).share w = fullShare := by unfold Pipeline.RDat.share; split <;> rfl

theorem read0 (t : Fin cfg0.N) (f : XB F) : (win0_0.blk t).view.read (Elt F) f = f := by
  rw [fin_N0 t]; funext j; exact congrArg f (funext fun a => Fin.ext (by fin_cases a <;> exact (Nat.zero_add _).trans (Nat.one_mul _)))
theorem read1 (t : Fin cfg0.N) (f : RB F) : (win0_1.blk t).view.read (Elt F) f = f := by
  rw [fin_N0 t]; funext j; exact congrArg f (funext fun a => Fin.ext (by fin_cases a <;> exact (Nat.zero_add _).trans (Nat.one_mul _)))
theorem read2 (t : Fin cfg0.N) (f : IB F) : (win0_2.blk t).view.read (Elt F) f = f := by
  rw [fin_N0 t]; funext j; exact congrArg f (funext fun a => Fin.ext (by fin_cases a <;> exact (Nat.zero_add _).trans (Nat.one_mul _)))

theorem finds0 (c : Dev nD) (t : Fin cfg0.N) (Y : XB F) (h : (rdats Sp 0 c).Finds 0 t Y) : Y = (m ((c : Thread nD τ).loc main_arg0) : XB F) := by
  obtain ⟨d, rfl⟩ := ((rdats Sp 0 c).finds_of_fetch (fetch0_0 t) Y).mp h
  exact read0 (F := F) t _
theorem finds1 (c : Dev nD) (t : Fin cfg0.N) (Y : RB F) (h : (rdats Sp 0 c).Finds 1 t Y) : Y = (m ((c : Thread nD τ).loc main_arg1) : RB F) := by
  obtain ⟨d, rfl⟩ := ((rdats Sp 0 c).finds_of_fetch (fetch0_1 t) Y).mp h
  exact read1 (F := F) t _
theorem finds2 (c : Dev nD) (t : Fin cfg0.N) (Y : IB F) (h : (rdats Sp 0 c).Finds 2 t Y) : Y = (m ((c : Thread nD τ).loc main_arg2) : IB F) := by
  obtain ⟨d, rfl⟩ := ((rdats Sp 0 c).finds_of_fetch (fetch0_2 t) Y).mp h
  exact read2 (F := F) t _

/-- A staging buffer, whole, at named contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_intro (c : Dev nD) (b : Ref sig .tc) (X : b.ty.Contents (Elt F)) : (((c : Thread nD τ).loc b) ↦{fullShare} X : sProp 𝕄) ⊢ stg c b X := by
  unfold stg
  iintro H
  iexists X
  isplitr; · ipureintro; rfl
  iexact H

def bodyPre (c : Dev nD) (Y3 : XB F) : sProp 𝕄 :=
  iprop(Φ₀ Sp c ∗ (rdats Sp 0 c).owesAt () t0_0.castSucc
    ∗ stg c cc0_stg0_0 (m ((c : Thread nD τ).loc main_arg0) : XB F) ∗ stg c cc0_stg1_0 (m ((c : Thread nD τ).loc main_arg1) : RB F)
    ∗ stg c cc0_stg2_0 (m ((c : Thread nD τ).loc main_arg2) : IB F) ∗ stg c cc0_stg3_0 Y3)

def bodyPost (c : Dev nD) : sProp 𝕄 :=
  iprop(Φ₁ m c ∗ (rdats Sp 0 c).owesAt () t0_0.succ
    ∗ (∃ X, ⌜True⌝ ∗ stg c cc0_stg0_0 X) ∗ (∃ X, ⌜True⌝ ∗ stg c cc0_stg1_0 X) ∗ (∃ X, ⌜True⌝ ∗ stg c cc0_stg2_0 X)
    ∗ (∃ X, ⌜Sp.Out 18 c X⌝ ∗ stg c cc0_stg3_0 X))

theorem bodyPost_intro (c : Dev nD) : bodyOut Sp c ⊢ bodyPost Sp c := by
  unfold bodyOut bodyPost Φ₁ argsAt outP owesE Pipeline.RDat.owesAt Pipeline.owesWithin
  rw [show (rdats Sp 0 c).owed t0_0.succ = Oat 18 c from (Oat_end c).symm]
  iintro ⟨⟨%W, HO⟩, ⟨HX, HRW, HIX, HW⟩, ⟨%f, %hf, HOUT⟩, HS, HZ⟩
  isplitl [HS HZ HW]
  · isplitl [HS]; · iexact HS
    isplitl [HZ]; · iexact HZ
    iexact HW
  isplitl [HO]
  · iexists W
    isplitr; · ipureintro; exact fun _ _ => Or.inl trivial
    iexact HO
  isplitl [HX]
  · iexists (m ((c : Thread nD τ).loc main_arg0) : XB F)
    isplitr; · ipureintro; trivial
    iapply (stg_intro c cc0_stg0_0 (m ((c : Thread nD τ).loc main_arg0) : XB F)); iexact HX
  isplitl [HRW]
  · iexists (m ((c : Thread nD τ).loc main_arg1) : RB F)
    isplitr; · ipureintro; trivial
    iapply (stg_intro c cc0_stg1_0 (m ((c : Thread nD τ).loc main_arg1) : RB F)); iexact HRW
  isplitl [HIX]
  · iexists (m ((c : Thread nD τ).loc main_arg2) : IB F)
    isplitr; · ipureintro; trivial
    iapply (stg_intro c cc0_stg2_0 (m ((c : Thread nD τ).loc main_arg2) : IB F)); iexact HIX
  iexists f
  isplitr; · ipureintro; exact hf
  iapply (stg_intro c cc0_stg3_0 f); iexact HOUT

theorem sound_body (c : Dev nD) (Y3 : XB F) :
    bodyPre Sp c Y3 ⊢ wpb c (cc0_body xM (Memref.isWhole_whole _) rwM (Memref.isWhole_whole _) ixM (Memref.isWhole_whole _) wM (Memref.isWhole_whole _) outM (Memref.isWhole_whole _) xbM (Memref.isWhole_whole _) ohsM (Memref.isWhole_whole _) ohuM (Memref.isWhole_whole _) gxM (Memref.isWhole_whole _) hsM (Memref.isWhole_whole _) wbM (Memref.isWhole_whole _) cc0_scratch6 (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14) (fun _ => bodyPost Sp c) := by
  unfold bodyPre Φ₀ start Pipeline.RDat.owesAt Pipeline.owesWithin
  rw [show (rdats Sp 0 c).owed t0_0.castSucc = O₀ c from rfl]
  iintro ⟨⟨⟨⟨%K, HE⟩, HG, HW⟩, HS⟩, ⟨%W, %hW, HO⟩, ⟨%f0, %h0, HX⟩, ⟨%f1, %h1, HRW⟩, ⟨%f2, %h2, HIX⟩, ⟨%f3, %h3, HOUT⟩⟩
  subst h0 h1 h2 h3
  iapply (body_run Sp K c fun _ => bodyPost Sp c)
  isplitl [HE]; · iexact HE
  isplitl [HG]; · iexact HG
  isplitl [HS]; · iexact HS
  isplitl [HO]; · (unfold owesE; iexists W; iexact HO)
  isplitl [HX HRW HIX HW]
  · unfold argsAt
    isplitl [HX]; · iexact HX
    isplitl [HRW]; · iexact HRW
    isplitl [HIX]; · iexact HIX
    iexact HW
  isplitl [HOUT]
  · unfold outAny; iexists f3; iexact HOUT
  iintro H
  iapply (bodyPost_intro Sp c); iexact H

/-- The kernel's body meets what the pipeline asks of it. -/
theorem body_obligation (c : Dev nD) : (rdats Sp 0 c).BodyObligation (defs₀ (F := F)) 𝒱₀ () Set.univ := fun t Y hY => by
  have h0 := finds0 Sp c t (Y 0) (hY 0)
  have h1 := finds1 Sp c t (Y 1) (hY 1)
  have h2 := finds2 Sp c t (Y 2) (hY 2)
  revert hY h0 h1 h2
  rw [fin_N0 t]
  intro hY h0 h1 h2
  rw [bigSep_W0, bigSep_W0, h0, h1, h2]
  have hb := sound_body Sp c (Y 3)
  unfold bodyPre bodyPost stg at hb
  simp only [← owns_whole_eq] at hb
  exact hb

/-! ## The launch -/

theorem ownSemFacts : Pipeline.OwnSemFacts cfg0.spec osem := by decide +kernel

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Sp c)
      ⊢ |={Set.univ}=> iprop(start Sp c ∗ emp) := by
  rw [Pipeline.unscopedRestP_none, unscopedRest0_eq]
  iintro ⟨HW, Hlev, Hcr, -, HG⟩
  ihave Hc := (creds (F := F) c) $$ Hcr
  icases Hc with ⟨H1, HN⟩
  unfold G'
  icases HG with ⟨%K, HR, HP, HT⟩
  imodintro
  unfold start Env
  isplitl
  · isplitl [HR Hlev]
    · iexists K
      isplitl [HR]; · iexact HR
      iexact Hlev
    isplitl [HP HT H1 HN]
    · iapply (ghost_intro (F := F) c)
      isplitl [HP]; · iexact HP
      isplitl [HT]; · iexact HT
      isplitl [H1]; · iexact H1
      iexact HN
    iexact HW
  · iempintro

theorem scratch_eq (c : Dev nD) : (Pipeline.scopedRest cfg0.spec c : sProp 𝕄) = scratch c := by
  rw [scopedRest0_eq]; rfl

theorem phi0_intro (c : Dev nD) :
    iprop(start Sp c ∗ Pipeline.prefHeld Pipeline.Prefetch.none c (fun _ => fullShare.right) (fun k => k.elim0) ∗ Pipeline.scopedRest cfg0.spec c)
      ⊢ (rdats Sp 0 c).Φ 0 := by
  rw [show (rdats Sp 0 c).Φ 0 = Φ₀ Sp c from rfl, scratch_eq]
  unfold Φ₀
  iintro ⟨Hs, -, Hr⟩
  isplitl [Hs]; · iexact Hs
  iexact Hr

variable (m) in
/-- What device `c` leaves besides the arrays. -/
def leftover (c : Dev nD) : sProp 𝕄 := iprop(unscopedSems0 c ∗ (wM.view.loc (c : Thread nD τ) ↦{fullShare} m ((c : Thread nD τ).loc main_arg3)))

theorem phi1_exit (c : Dev nD) :
    (rdats Sp 0 c).Φ (Fin.last cfg0.N) ⊢ iprop(leftover m c ∗ Pipeline.ownSems0 osem c ∗ Pipeline.scopedRest cfg0.spec c) := by
  rw [show (rdats Sp 0 c).Φ (Fin.last cfg0.N) = Φ₁ m c from rfl, scratch_eq]
  unfold leftover Pipeline.ownSems0
  rw [unscopedSems0_eq, own_split]
  unfold Φ₁ semsZero
  iintro ⟨Hr, ⟨HB, HWS, HSS, HRS⟩, HW⟩
  isplitl [HB HW]
  · isplitl [HB]; · iexact HB
    iexact HW
  isplitl [HWS HSS HRS]
  · isplitl [HWS]; · iexact HWS
    isplitl [HSS]; · iexact HSS
    iexact HRS
  iexact Hr

theorem waits (c : Dev nD) : (levAts L lv : sProp 𝕄) ⊢ Pipeline.RDat.cellsWaits cfgs (rdats Sp) () 0 c :=
  Pipeline.RDat.cellsWaits_intro cfgs (rdats Sp) () 0 c fun w s t => by
    have h0 : lvK (kindOf (.dma ((cfg0.win w).sem s))) = 0 := by fin_cases w <;> fin_cases s <;> rfl
    rcases t with ⟨_ | _, ht⟩
    · exact mayWait_O₀ c _ h0
    · show (levAts L lv : sProp 𝕄) ⊢ MayWait (c : Thread nD τ) _ () 0
      rw [← Oat_end c]
      exact mayWait_Oat c _ 18 (by rw [h0]; decide)

/-! ## The run -/

/-- What a device's arrays hold at the end. -/
def Final (r : PUnit × MemSt nD τ sig (Elt F)) : Prop :=
  ∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ Sp.Out 18 c (r.2.mem ((c.tc : Thread nD τ).loc main_v1))

theorem arr0 (c : Dev nD) (f) (h : (rdats Sp 0 c).ArrAt 0 cfg0.N f) : f = (m ((c : Thread nD τ).loc main_arg0) : XB F) := by
  have := (rdats Sp 0 c).ArrAt_in 0 rfl cfg0.N
  rw [this] at h; exact h
theorem arr1 (c : Dev nD) (f) (h : (rdats Sp 0 c).ArrAt 1 cfg0.N f) : f = (m ((c : Thread nD τ).loc main_arg1) : RB F) := by
  have := (rdats Sp 0 c).ArrAt_in 1 rfl cfg0.N
  rw [this] at h; exact h
theorem arr2 (c : Dev nD) (f) (h : (rdats Sp 0 c).ArrAt 2 cfg0.N f) : f = (m ((c : Thread nD τ).loc main_arg2) : IB F) := by
  have := (rdats Sp 0 c).ArrAt_in 2 rfl cfg0.N
  rw [this] at h; exact h

theorem whole3 : (cfg0.win 3).WholeAt t0_0 := by decide +kernel

theorem arr3 (c : Dev nD) (f : XB F) (h : (rdats Sp 0 c).ArrAt 3 cfg0.N f) : Sp.Out 18 c f := by
  obtain ⟨X, ⟨Y, -, hX⟩, hf⟩ := h.emb_eq_of_wholeAt whole3
  have hX' : Sp.Out 18 c X := hX
  have e : f = (X : XB F) := funext fun j => hf j
  rw [e]; exact hX'

set_option maxRecDepth 20000 in
theorem run_main (ρ : Dev nD → PrngReg) :
    θ_run defs (onTc (τ := τ) (main (F := F))) ⟨m, fun _ => 0, ρ⟩ (fun r => Final Sp r ∧ r.2.sem = fun _ => 0) :=
  Pipeline.RDat.θ_run_region_owing_glob_pf (fun p => (cfgs p).toPCfg) (fun p => (cfgs p).toPCfg_adm) (rdats Sp) () cellOf_inj (0 : Fin 1)
    winFacts0.to₀ ownSemFacts (Pipeline.PreFacts.none _) EP defs₀ 𝒱₀ m ρ main
    (hmain := fun c => (main_chain c).trans rfl)
    (hbody := body_obligation Sp) (hne := block_pos0) (harr := arr_whole0) (hstage := stage_whole0) (hshare := share_eq Sp)
    (hdistinct := winFacts0.arr_inj)
    (O₀ := O₀) (howed₀ := fun _ => rfl) (howedN := fun _ => rfl)
    (L := L) (lv := lv) (hL := L_of_ne) (hwaits := waits Sp)
    (G := G Sp) (G' := G' Sp) (u₀ := u₀)
    (hu₀ := by
      unfold u₀
      iintro Hu
      ihave H := (ownU_pair _ _) $$ Hu
      icases H with ⟨HP, HX⟩
      imod (fund_ring Sp) $$ HX with HG
      imodintro
      isplitl [HP] <;> iassumption)
    (hglob := glob Sp)
    (hA := fun _ _ => rfl) (hpf := fun _ k => k.elim0)
    (X := start Sp) (Y := leftover m) (Z := fun _ => iprop(emp))
    (hX := start_intro Sp ρ) (hin := phi0_intro Sp) (hout := phi1_exit Sp)
    (QY := fun c s => (∀ sm : SemLoc sig, sm.isScoped .tc = false → s.sem ((c.tc : Thread nD τ), sm) = 0)
      ∧ s.mem ((c.tc : Thread nD τ).loc main_arg3) = m ((c.tc : Thread nD τ).loc main_arg3))
    (hY := fun c s' => by
      unfold leftover
      iintro ⟨⟨Hu, HW⟩, -, HSI⟩
      icombine HSI HW gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      iexact HSI)
    (hQ := fun s h hs => ⟨fun c => ⟨arr0 Sp c _ ((h c).1 0), arr1 Sp c _ ((h c).1 1), arr2 Sp c _ ((h c).1 2), (h c).2.2.2, arr3 Sp c _ ((h c).1 3)⟩,
      sem_eq_zero hs fun c => (h c).2.2.1⟩)

end Cert.KernelIdeal.Moe

end
-- ==== Proof.KernelIdealValue.lean ====
module

public import proofs.«01_k».proof.Proof.KernelIdealProtocol
public import Idealize.ShloMosaic.Lib.Pointwise
public import Idealize.ShloMosaic.Lib.WordCmp
public import Idealize.ShloMosaic.Lib.StableHlo.Predicate

@[expose] public section

set_option maxRecDepth 16384

noncomputable section

namespace Cert.KernelIdeal.Moe

open Cert.KernelIdeal Cert.KernelIdeal.Gen

open Idealize.ShloMosaic
open Idealize.ShloMosaic.TcCoe
open Idealize.SL.Sem

/-! ### The routing, written plainly -/

section Route

variable (X : XB Ideal) (R : RB Ideal) (I : IB Ideal)

/-- The score of expert `e` for token `i`. -/
def score (i : Fin 2048) (e : Fin 64) : EReal := ∑ d, X (ix2 i d) * R (ix2 d e)

/-- The exponential of a score less the greatest of its row. -/
def pr (i : Fin 2048) (e : Fin 64) : EReal :=
  Ideal.exp (score X R i e - Finset.fold max (Ideal.ofBits .f32 0xFF800000#32) (fun e => score X R i e) Finset.univ)

/-- What token `i`'s `k`-th choice has of it. -/
def pk (k : Fin 2) (i : Fin 2048) : EReal := ∑ e : Fin 64, if BitVec.ofNat 32 e.val = I (ix2 i k) then pr X R i e else 0

/-- The weight of token `i`'s `k`-th choice. -/
def wk (k : Fin 2) (i : Fin 2048) : EReal := Ideal.div (pk X R I k i) (pk X R I 0 i + pk X R I 1 i)

/-- The weight of expert `e` for token `i`. -/
def gt (e : Fin 64) (i : Fin 2048) : EReal :=
  (if BitVec.ofNat 32 e.val = I (ix2 i 0) then wk X R I 0 i else 0) + (if BitVec.ofNat 32 e.val = I (ix2 i 1) then wk X R I 1 i else 0)

/-- How many tokens before `i` use expert `e`. -/
def before (e : Fin 64) (i : Fin 2048) : ℕ := (Finset.univ.filter fun i' : Fin 2048 => i' < i ∧ 0 < gt X R I e i').card

end Route

/-- The `j`-th expert of device `c`. -/
def ex (c : Dev nD) (j : Fin 8) : Fin 64 := ⟨8 * c.val + j.val, by have := c.isLt; have := j.isLt; simp only [nD] at *; omega⟩

theorem coe_sum {ι : Type} (s : Finset ι) (f : ι → ℝ) : ((∑ x ∈ s, f x : ℝ) : EReal) = ∑ x ∈ s, (f x : EReal) :=
  map_sum (⟨⟨Real.toEReal, EReal.coe_zero⟩, EReal.coe_add⟩ : ℝ →+ EReal) f s

theorem sel_eq {n : ℕ} (a b : BitVec n) {α : Type} (x y : α) : Scalar.select (IntOp.cmpi .eq a b) x y = if a = b then x else y := by
  unfold Scalar.select; exact if_congr StableHlo.Predicate.cmpi_eq_iff rfl rfl

theorem word_ex (c : Dev nD) (j : Fin 8) : IntOp.addi (BitVec.ofNat 32 j.val) (Scalar.muli (wd c) 8#32) = BitVec.ofNat 32 (ex c j).val := by
  revert c j; unfold wd ex; decide

section Gate

variable (c : Dev nD) (X : XB Ideal) (R : RB Ideal) (I : IB Ideal)

theorem pr_eq (i : Fin 2048) (e : Fin 64) : k0_pay2 (F := Ideal) X R (ix2 i e) = pr X R i e := by
  pointwise [k0_pay2]
  rfl

theorem col0_eq (i : Fin 2048) : col0 (F := Ideal) I (ix2 i 0) = I (ix2 i 0) := by
  show View.ld I (Rect.unit (s := S2048x2) ![0, 0] S2048x1.size inb_S2048x2_S2048x1_0_0) (ix2 i 0) = _
  pointwise

theorem col1_eq (i : Fin 2048) : col1 (F := Ideal) I (ix2 i 0) = I (ix2 i 1) := by
  show View.ld I (Rect.unit (s := S2048x2) ![0, 1] S2048x1.size inb_S2048x2_S2048x1_0_1) (ix2 i 0) = _
  pointwise

theorem gate_eq (i : Fin 2048) (j : Fin 8) : g110 (F := Ideal) c X R I (ix2 i j) = gt X R I (ex c j) i := by
  have h (i e) := pr_eq X R i e
  have h0 := col0_eq I i
  have h1 := col1_eq I i
  unfold g110
  generalize col0 (F := Ideal) I = C0 at h0 ⊢
  generalize col1 (F := Ideal) I = C1 at h1 ⊢
  pointwise [k0_pay7,k0_pay5,k0_pay3,k0_pay4,k0_pay6,zf]
  simp only [h0, h1, h, word_ex, sel_eq]
  rfl

theorem word_bit (b : BitVec 1) (φ : FTy) : (FloatOps.sitofp (F := Ideal) φ (BitVec.setWidth 32 b) : EReal) = if b = 1#1 then 1 else 0 := by
  have : b = 0#1 ∨ b = 1#1 := by revert b; decide
  rcases this with rfl | rfl
  · show ((((BitVec.setWidth 32 0#1).toInt : ℤ) : ℝ) : EReal) = _
    norm_num
  · show ((((BitVec.setWidth 32 1#1).toInt : ℤ) : ℝ) : EReal) = _
    norm_num

theorem mask_eq (i : Fin 2048) (j : Fin 8) : (g115 (F := Ideal) c X R I (ix2 i j) : EReal) = if 0 < gt X R I (ex c j) i then 1 else 0 := by
  have h := gate_eq c X R I i j
  unfold g110 at h
  unfold g115
  generalize k0_pay5 (F := Ideal) X R (col0 I) = P5 at h ⊢
  generalize k0_pay6 (F := Ideal) (col1 I) = P6 at h ⊢
  generalize zf (F := Ideal) = Z at h ⊢
  pointwise [k0_pay8]
  rw [h, word_bit]
  by_cases h0 : 0 < gt X R I (ex c j) i <;> simp [h0]

/-- A row of the triangle against the mask counts the tokens before the row. -/
theorem count_eq (M : FVec Ideal S2048x8 .bf16) (e : Fin 64) (j : Fin 8) (hM : ∀ i, (M (ix2 i j) : EReal) = if 0 < gt X R I e i then 1 else 0) (i : Fin 2048) :
    (∑ x : Fin 2048, FloatOps.sitofp (F := Ideal) FTy.f32 (BitVec.setWidth 32 (IntOp.cmpi .slt (BitVec.ofNat 32 x.val) (BitVec.ofNat 32 i.val))) * M (ix2 x j) : EReal) = ((before X R I e i : ℝ) : EReal) := by
  have h (x : Fin 2048) : (FloatOps.sitofp (F := Ideal) FTy.f32 (BitVec.setWidth 32 (IntOp.cmpi .slt (BitVec.ofNat 32 x.val) (BitVec.ofNat 32 i.val))) * M (ix2 x j) : EReal)
      = (((if x < i ∧ 0 < gt X R I e x then 1 else 0 : ℕ) : ℝ) : EReal) := by
    rw [word_bit, hM, if_congr (WordCmp.cmpi_slt_ofNat_eq_one_iff (by omega) (by omega)) rfl rfl]
    by_cases h1 : x < i <;> by_cases h2 : 0 < gt X R I e x <;> simp [h1, h2, Fin.lt_def.symm]
  rw [Finset.sum_congr rfl fun x _ => h x, before, Finset.card_filter]
  rw [Nat.cast_sum, coe_sum]

theorem toWord (n : ℕ) (h : n ≤ 2048) : FloatOps.fptosi (F := Ideal) (φ := .f32) 32 (((n : ℝ) : EReal)) = BitVec.ofNat 32 n := by
  show Ideal.fptosi 32 _ = _
  rw [Ideal.fptosi, Ideal.toIntClamped_coe, if_pos (by positivity), Int.floor_natCast, max_eq_right, min_eq_right]
  · simp
  · norm_num; omega
  · norm_num

theorem before_le (e : Fin 64) (i : Fin 2048) : before X R I e i ≤ 2048 :=
  (Finset.card_filter_le _ _).trans (by simp)

theorem off_word (a b : ℕ) : IntOp.addi (BitVec.ofNat 32 a) (BitVec.ofNat 32 b) = BitVec.ofNat 32 (b + a) := by
  rw [Nat.add_comm]; exact (BitVec.ofNat_add ..).symm

theorem r124 (i : Fin 512) (j : Fin 8) : (g124 (F := Ideal) c X R I (ix2 i j) : EReal) = ((before X R I (ex c j) ⟨i.val, by omega⟩ : ℝ) : EReal) := by
  have h (i) := mask_eq c X R I i j
  have hc := count_eq X R I (g115 c X R I) (ex c j) j h
  unfold g115 at hc
  unfold g124
  generalize zf (F := Ideal) = Z at hc ⊢
  pointwise [k0_pay9]
  simp only [off_word, Nat.zero_add]
  exact hc ⟨i.val, by omega⟩

theorem r133 (i : Fin 512) (j : Fin 8) : (g133 (F := Ideal) c X R I (ix2 i j) : EReal) = ((before X R I (ex c j) ⟨512 + i.val, by omega⟩ : ℝ) : EReal) := by
  have h (i) := mask_eq c X R I i j
  have hc := count_eq X R I (g115 c X R I) (ex c j) j h
  unfold g115 at hc
  unfold g133
  generalize zf (F := Ideal) = Z at hc ⊢
  pointwise [k0_pay10]
  simp only [off_word, Nat.zero_add]
  exact hc ⟨512 + i.val, by omega⟩

theorem rank_eq (i : Fin 2048) (j : Fin 8) : g153 (F := Ideal) c X R I (ix2 i j) = BitVec.ofNat 32 (before X R I (ex c j) i) := by
  have h (i) := mask_eq c X R I i j
  have hc := count_eq X R I (g115 c X R I) (ex c j) j h
  have h4 (i) := r124 c X R I i j
  have h3 (i) := r133 c X R I i j
  unfold g153
  generalize g115 (F := Ideal) c X R I = PR at hc ⊢
  generalize g124 (F := Ideal) c X R I = PR4 at h4 ⊢
  generalize g133 (F := Ideal) c X R I = PR5 at h3 ⊢
  pointwise [k0_pay12, io0, k0_pay11]
  rw [← toWord _ (before_le X R I _ _)]
  congr 1
  simp only [off_word]
  by_cases h1 : i.val < 512
  · rw [dif_pos h1]; exact h4 ⟨i.val, h1⟩
  by_cases h2 : i.val - 512 < 512
  · rw [dif_neg h1, dif_pos h2, h3 ⟨i.val - 512, h2⟩]; simp only [show 512 + (i.val - 512) = i.val by omega]
  by_cases h5 : i.val - 512 - 512 < 512
  · rw [dif_neg h1, dif_neg h2, dif_pos h5, show 1024 + (i.val - 512 - 512) = i.val by omega]; exact hc i
  · rw [dif_neg h1, dif_neg h2, dif_neg h5, show 1536 + (i.val - 512 - 512 - 512) = i.val by omega]; exact hc i

end Gate

/-! ### The tables of places and their use -/

/-- The expert, of a device's eight, whose places hold `q`. -/
def qj (q : Fin 1024) : Fin 8 := ⟨q.val / 128, by omega⟩

/-- One entry of a table of places, from a token's weight and its rank among the expert's tokens. -/
def oh (x : EReal) (g : EReal) (r : BitVec 32) (q : Fin 1024) : EReal :=
  Scalar.select (IntOp.andi (IntOp.cmpi .eq r (IntOp.andi (BitVec.ofNat 32 q.val) 127#32)) (BitVec.ofBool (decide (0 < g)))) x 0

theorem oh_eq (x g : EReal) (b : ℕ) (hb : b ≤ 2048) (q : Fin 1024) : oh x g (BitVec.ofNat 32 b) q = if b = q.val % 128 ∧ 0 < g then x else 0 := by
  have hq : IntOp.andi (BitVec.ofNat 32 q.val) 127#32 = BitVec.ofNat 32 (q.val % 128) := by
    show BitVec.ofNat 32 q.val &&& 127#32 = _
    apply BitVec.eq_of_toNat_eq
    rw [BitVec.toNat_and]
    have := Nat.and_two_pow_sub_one_eq_mod q.val 7
    simp only [BitVec.toNat_ofNat]
    rw [Nat.mod_eq_of_lt (show q.val < 2 ^ 32 by omega), Nat.mod_eq_of_lt (show q.val % 128 < 2 ^ 32 by omega)]
    exact this
  have hw : (BitVec.ofNat 32 b = BitVec.ofNat 32 (q.val % 128)) ↔ b = q.val % 128 := by
    rw [BitVec.toNat_eq]; simp only [BitVec.toNat_ofNat]; omega
  unfold oh
  rw [hq]
  unfold Scalar.select
  refine if_congr ?_ rfl rfl
  rw [WordCmp.cmpi_eq_eq]; simp only [hw]
  by_cases h1 : b = q.val % 128 <;> by_cases h2 : 0 < g <;> simp [h1, h2, IntOp.andi]

/-- What rows `o … o + n` written over the whole of a buffer's row hold. -/
theorem put_rows {N n K o : ℕ} {α : Type} (f : (⟨2, ![N, K]⟩ : Shape).Idx → α) (w : (⟨2, ![n, K]⟩ : Shape).Idx → α)
    (h : (⟨2, ![N, K]⟩ : Shape).Slices ![o, 0] ⟨2, ![n, K]⟩) (i : Fin N) (q : Fin K) :
    updateSlice f w ![o, 0] h (ix2 i q) = if h : o ≤ i.val ∧ i.val < o + n then w (ix2 ⟨i.val - o, by omega⟩ q) else f (ix2 i q) := by
  rw [updateSlice_apply]
  exact dite_congr (propext (by simp [Fin.forall_fin_two])) (fun _ => congrArg w ((Shape.Idx.norm2 _).trans rfl)) fun _ => rfl

/-- Rows read off a table. -/
theorem get_rows {N n K o : ℕ} {α : Type} (f : (⟨2, ![N, K]⟩ : Shape).Idx → α)
    (h : (⟨2, ![N, K]⟩ : Shape).Slices ![o, 0] ⟨2, ![n, K]⟩) (i : Fin n) (q : Fin K) (hb : o + i.val < N) :
    extractStridedSlice ⟨2, ![n, K]⟩ ![o, 0] f h (ix2 i q) = f (ix2 ⟨o + i.val, hb⟩ q) :=
  congrArg f ((Shape.Idx.norm2 _).trans (congrArg (ix2 _) (Fin.ext (Nat.zero_add q.val))))

theorem pay15_eq (g : FVec Ideal S2048x8 .f32) (a : FVec Ideal S2048x8 .bf16) (b d : FVec Ideal S512x8 .f32) (i : Fin 512) (q : Fin 1024) :
    (k0_pay15 (F := Ideal) g a b d io0 k0_pay11 (ix2 i q) : EReal) = oh 1 (g (ix2 ⟨i.val, by omega⟩ (qj q))) (k0_pay12 a b d io0 k0_pay11 (ix2 ⟨i.val, by omega⟩ (qj q))) q := by
  unfold k0_pay15 k0_pay14
  generalize k0_pay12 a b d io0 k0_pay11 = r
  pointwise [k0_pay13]
  rfl

theorem pay17_eq (g : FVec Ideal S2048x8 .f32) (a : FVec Ideal S2048x8 .bf16) (b d : FVec Ideal S512x8 .f32) (i : Fin 512) (q : Fin 1024) :
    (k0_pay17 (k0_pay16 (F := Ideal) g a b d io0 k0_pay11) (ix2 i q) : EReal) = oh (g (ix2 ⟨i.val, by omega⟩ (qj q))) (g (ix2 ⟨i.val, by omega⟩ (qj q))) (k0_pay12 a b d io0 k0_pay11 (ix2 ⟨i.val, by omega⟩ (qj q))) q := by
  unfold k0_pay16 k0_pay14
  generalize k0_pay12 a b d io0 k0_pay11 = r
  pointwise [k0_pay13, k0_pay17]
  rfl

theorem pay20_eq (g : FVec Ideal S2048x8 .f32) (r : IVec S2048x8 32) (i : Fin 512) (q : Fin 1024) :
    (k0_pay20 (F := Ideal) g r (ix2 i q) : EReal) = oh 1 (g (ix2 ⟨512 + i.val, by omega⟩ (qj q))) (r (ix2 ⟨512 + i.val, by omega⟩ (qj q))) q := by
  pointwise [k0_pay20, k0_pay19, k0_pay18]
  rfl

theorem pay21_eq (g : FVec Ideal S2048x8 .f32) (r : IVec S2048x8 32) (i : Fin 512) (q : Fin 1024) :
    (k0_pay21 (F := Ideal) g r (ix2 i q) : EReal) = oh (g (ix2 ⟨512 + i.val, by omega⟩ (qj q))) (g (ix2 ⟨512 + i.val, by omega⟩ (qj q))) (r (ix2 ⟨512 + i.val, by omega⟩ (qj q))) q := by
  pointwise [k0_pay21, k0_pay19, k0_pay18]
  rfl

theorem pay26_eq (g : FVec Ideal S2048x8 .f32) (r : IVec S2048x8 32) (i : Fin 512) (q : Fin 1024) :
    (k0_pay26 (F := Ideal) (k0_pay22 g) (k0_pay23 r) k0_pay24 (ix2 i q) : EReal) = oh 1 (g (ix2 ⟨1024 + i.val, by omega⟩ (qj q))) (r (ix2 ⟨1024 + i.val, by omega⟩ (qj q))) q := by
  pointwise [k0_pay26, k0_pay22, k0_pay23, k0_pay24, k0_pay25]
  rfl

theorem pay27_eq (g : FVec Ideal S2048x8 .f32) (r : IVec S2048x8 32) (i : Fin 512) (q : Fin 1024) :
    (k0_pay27 (F := Ideal) (k0_pay22 g) (k0_pay23 r) k0_pay24 (ix2 i q) : EReal) = oh (g (ix2 ⟨1024 + i.val, by omega⟩ (qj q))) (g (ix2 ⟨1024 + i.val, by omega⟩ (qj q))) (r (ix2 ⟨1024 + i.val, by omega⟩ (qj q))) q := by
  pointwise [k0_pay27, k0_pay22, k0_pay23, k0_pay24, k0_pay25]
  rfl

theorem pay30_eq (g : FVec Ideal S2048x8 .f32) (r : IVec S2048x8 32) (i : Fin 512) (q : Fin 1024) :
    (k0_pay30 (F := Ideal) g r (ix2 i q) : EReal) = oh 1 (g (ix2 ⟨1536 + i.val, by omega⟩ (qj q))) (r (ix2 ⟨1536 + i.val, by omega⟩ (qj q))) q := by
  pointwise [k0_pay30, k0_pay28, k0_pay29]
  rfl

theorem pay32_eq (g : FVec Ideal S2048x8 .f32) (r : IVec S2048x8 32) (i : Fin 512) (q : Fin 1024) :
    (k0_pay32 (F := Ideal) (k0_pay31 g r) (ix2 i q) : EReal) = oh (g (ix2 ⟨1536 + i.val, by omega⟩ (qj q))) (g (ix2 ⟨1536 + i.val, by omega⟩ (qj q))) (r (ix2 ⟨1536 + i.val, by omega⟩ (qj q))) q := by
  pointwise [k0_pay32, k0_pay31, k0_pay28, k0_pay29]
  rfl

theorem pay34_eq (w : Vec Ideal S1x1024x1024 .f32) (G : Vec Ideal S128x1024 .bf16) (i : Fin 128) (h : Fin 1024) :
    (k0_pay34 (F := Ideal) w G (ix2 i h) : EReal) = ∑ d, G (ix2 i d) * w (ix3 0 d h) := by
  pointwise [k0_pay34]

theorem pay35_eq (w : Vec Ideal S1x1024x1024 .f32) (G : Vec Ideal S128x1024 .bf16) (i : Fin 128) (h : Fin 1024) :
    (k0_pay35 (F := Ideal) w G (ix2 i h) : EReal) = ∑ d, G (ix2 i d) * w (ix3 0 d h) := by
  pointwise [k0_pay35]

theorem pay36_eq (w : Vec Ideal S1x1024x1024 .f32) (G : Vec Ideal S128x1024 .bf16) (i : Fin 128) (h : Fin 1024) :
    (k0_pay36 (F := Ideal) w G (ix2 i h) : EReal) = ∑ d, G (ix2 i d) * w (ix3 0 d h) := by
  pointwise [k0_pay36]

theorem pay37_eq (w : Vec Ideal S1x1024x1024 .f32) (G : Vec Ideal S128x1024 .bf16) (i : Fin 128) (h : Fin 1024) :
    (k0_pay37 (F := Ideal) w G (ix2 i h) : EReal) = ∑ d, G (ix2 i d) * w (ix3 0 d h) := by
  pointwise [k0_pay37]

theorem pay38_eq (w : Vec Ideal S1x1024x1024 .f32) (G : Vec Ideal S128x1024 .bf16) (i : Fin 128) (h : Fin 1024) :
    (k0_pay38 (F := Ideal) w G (ix2 i h) : EReal) = ∑ d, G (ix2 i d) * w (ix3 0 d h) := by
  pointwise [k0_pay38]

theorem pay39_eq (w : Vec Ideal S1x1024x1024 .f32) (G : Vec Ideal S128x1024 .bf16) (i : Fin 128) (h : Fin 1024) :
    (k0_pay39 (F := Ideal) w G (ix2 i h) : EReal) = ∑ d, G (ix2 i d) * w (ix3 0 d h) := by
  pointwise [k0_pay39]

theorem pay40_eq (w : Vec Ideal S1x1024x1024 .f32) (G : Vec Ideal S128x1024 .bf16) (i : Fin 128) (h : Fin 1024) :
    (k0_pay40 (F := Ideal) w G (ix2 i h) : EReal) = ∑ d, G (ix2 i d) * w (ix3 0 d h) := by
  pointwise [k0_pay40]

theorem pay41_eq (w : Vec Ideal S1x1024x1024 .f32) (G : Vec Ideal S128x1024 .bf16) (i : Fin 128) (h : Fin 1024) :
    (k0_pay42 (k0_pay41 (F := Ideal) w G) (ix2 i h) : EReal) = ∑ d, G (ix2 i d) * w (ix3 0 d h) := by
  pointwise [k0_pay41, k0_pay42]

section Tables

variable (c : Dev nD) (X : XB Ideal) (R : RB Ideal) (I : IB Ideal) (W : WB Ideal)

/-- Token `i` holds place `q` of the device's. -/
abbrev hit (i : Fin 2048) (q : Fin 1024) : Prop := before X R I (ex c (qj q)) i = q.val % 128 ∧ 0 < gt X R I (ex c (qj q)) i

/-- Four blocks of rows written one after another make a table. -/
theorem table4 (T : (⟨2, ![2048, 1024]⟩ : Shape).Idx → EReal) (f : (⟨2, ![2048, 1024]⟩ : Shape).Idx → EReal) (w0 w1 w2 w3 : (⟨2, ![512, 1024]⟩ : Shape).Idx → EReal) (h0 h1 h2 h3)
    (e0 : ∀ i q, w0 (ix2 i q) = T (ix2 ⟨i.val, by omega⟩ q)) (e1 : ∀ i q, w1 (ix2 i q) = T (ix2 ⟨512 + i.val, by omega⟩ q))
    (e2 : ∀ i q, w2 (ix2 i q) = T (ix2 ⟨1024 + i.val, by omega⟩ q)) (e3 : ∀ i q, w3 (ix2 i q) = T (ix2 ⟨1536 + i.val, by omega⟩ q)) :
    updateSlice (updateSlice (updateSlice (updateSlice f w0 ![0, 0] h0) w1 ![512, 0] h1) w2 ![1024, 0] h2) w3 ![1536, 0] h3 = T := by
  funext j
  obtain ⟨i, q, rfl⟩ : ∃ i q, j = ix2 i q := ⟨j 0, j 1, eq_ix2 j⟩
  rw [put_rows, put_rows, put_rows, put_rows]
  have hi := i.isLt
  split_ifs with g3 g2 g1 g0
  · rw [e3]; simp only [show 1536 + (i.val - 1536) = i.val by omega]
  · rw [e2]; simp only [show 1024 + (i.val - 1024) = i.val by omega]
  · rw [e1]; simp only [show 512 + (i.val - 512) = i.val by omega]
  · rw [e0]; rfl
  · omega

/-- The table of places. -/
def tabU : (⟨2, ![2048, 1024]⟩ : Shape).Idx → EReal := fun j => oh 1 (g110 (F := Ideal) c X R I (ix2 (j 0) (qj (j 1)))) (g153 (F := Ideal) c X R I (ix2 (j 0) (qj (j 1)))) (j 1)

/-- The table of places, weighted. -/
def tabS : (⟨2, ![2048, 1024]⟩ : Shape).Idx → EReal := fun j => oh (g110 (F := Ideal) c X R I (ix2 (j 0) (qj (j 1)))) (g110 (F := Ideal) c X R I (ix2 (j 0) (qj (j 1)))) (g153 (F := Ideal) c X R I (ix2 (j 0) (qj (j 1)))) (j 1)

theorem ohu_tab (f) : ohu3 (F := Ideal) c X R I f = tabU c X R I := by
  refine Eq.trans ?_ (table4 (tabU c X R I) f _ _ _ _ (by decide) (by decide) (by decide) (by decide)
    (pay15_eq (g110 c X R I) (g115 c X R I) (g124 c X R I) (g133 c X R I)) (pay20_eq (g110 c X R I) (g153 c X R I)) (pay26_eq (g110 c X R I) (g153 c X R I)) (pay30_eq (g110 c X R I) (g153 c X R I)))
  exact (View.write_whole_slice_unit cc0_scratch2 _ _ _ _ _).trans (congrArg (updateSlice · _ _ _) ((View.write_whole_slice_unit cc0_scratch2 _ _ _ _ _).trans
    (congrArg (updateSlice · _ _ _) ((View.write_whole_slice_unit cc0_scratch2 _ _ _ _ _).trans (congrArg (updateSlice · _ _ _) (View.write_whole_slice_unit cc0_scratch2 _ _ _ _ _))))))

theorem ohu_eq (f) (i : Fin 2048) (q : Fin 1024) : (ohu3 (F := Ideal) c X R I f (ix2 i q) : EReal) = if hit c X R I i q then 1 else 0 := by
  rw [ohu_tab]
  show oh 1 (g110 (F := Ideal) c X R I (ix2 i (qj q))) (g153 (F := Ideal) c X R I (ix2 i (qj q))) q = _
  rw [gate_eq, rank_eq, oh_eq _ _ _ (before_le X R I _ _)]

theorem ohs_tab (f) : ohs3 (F := Ideal) c X R I f = tabS c X R I := by
  refine Eq.trans ?_ (table4 (tabS c X R I) f _ _ _ _ (by decide) (by decide) (by decide) (by decide)
    (pay17_eq (g110 c X R I) (g115 c X R I) (g124 c X R I) (g133 c X R I)) (pay21_eq (g110 c X R I) (g153 c X R I)) (pay27_eq (g110 c X R I) (g153 c X R I)) (pay32_eq (g110 c X R I) (g153 c X R I)))
  exact (View.write_whole_slice_unit cc0_scratch1 _ _ _ _ _).trans (congrArg (updateSlice · _ _ _) ((View.write_whole_slice_unit cc0_scratch1 _ _ _ _ _).trans
    (congrArg (updateSlice · _ _ _) ((View.write_whole_slice_unit cc0_scratch1 _ _ _ _ _).trans (congrArg (updateSlice · _ _ _) (View.write_whole_slice_unit cc0_scratch1 _ _ _ _ _))))))

theorem ohs_eq (f) (i : Fin 2048) (q : Fin 1024) : (ohs3 (F := Ideal) c X R I f (ix2 i q) : EReal) = if hit c X R I i q then gt X R I (ex c (qj q)) i else 0 := by
  rw [ohs_tab]
  show oh (g110 (F := Ideal) c X R I (ix2 i (qj q))) (g110 (F := Ideal) c X R I (ix2 i (qj q))) (g153 (F := Ideal) c X R I (ix2 i (qj q))) q = _
  rw [gate_eq, rank_eq, oh_eq _ _ _ (before_le X R I _ _)]

/-- The tokens gathered to the places. -/
theorem gx_eq (f) (q d : Fin 1024) : (gx (F := Ideal) c X R I f (ix2 q d) : EReal) = ∑ i, (if hit c X R I i q then gt X R I (ex c (qj q)) i else 0) * X (ix2 i d) := by
  have h (i q) := ohs_eq c X R I f i q
  unfold gx
  generalize ohs3 (F := Ideal) c X R I f = S at h ⊢
  pointwise [k0_pay33, k0_pay1]
  simp only [h]

theorem wj_eq (j : Fin 8) (d h : Fin 1024) : wj (F := Ideal) W j (ix3 0 d h) = W (ix3 j d h) := by
  refine congrArg W ((Shape.Idx.norm3 _).trans ?_)
  refine congr (congr (congrArg ix3 (Fin.ext ?_)) (Fin.ext ?_)) (Fin.ext ?_)
  · show j.val + 1 * 0 = _; omega
  · show 0 + 1 * d.val = _; omega
  · show 0 + 1 * h.val = _; omega

/-- What the places' rows become under the experts' matrices. -/
def rowsW (G : Vec Ideal S1024x1024 .bf16) : (⟨2, ![1024, 1024]⟩ : Shape).Idx → EReal :=
  fun j => ∑ d : Fin 1024, (G (ix2 (j 0) d) * W (ix3 (qj (j 0)) d (j 1)) : EReal)

/-- One expert's rows of them. -/
theorem rows_eq (G : Vec Ideal S1024x1024 .bf16) (j : Fin 8) (o : ℕ) (ho : o = 128 * j.val) (hb : (⟨2, ![1024, 1024]⟩ : Shape).Slices ![o, 0] ⟨2, ![128, 1024]⟩)
    (i : Fin 128) (h : Fin 1024) :
    (∑ d : Fin 1024, (extractStridedSlice ⟨2, ![128, 1024]⟩ ![o, 0] G hb (ix2 i d) * wj (F := Ideal) W j (ix3 0 d h) : EReal)) = rowsW W G (ix2 ⟨o + i.val, by omega⟩ h) := by
  refine Finset.sum_congr rfl fun d _ => ?_
  rw [get_rows G hb i d (by omega), wj_eq]
  have : qj ⟨o + i.val, by omega⟩ = j := Fin.ext (by simp only [qj]; omega)
  show _ = (G (ix2 ⟨o + i.val, by omega⟩ d) * W (ix3 (qj ⟨o + i.val, by omega⟩) d h) : EReal)
  rw [this]

theorem table8 (T f : (⟨2, ![1024, 1024]⟩ : Shape).Idx → EReal) (w : Fin 8 → (⟨2, ![128, 1024]⟩ : Shape).Idx → EReal) (h0 h1 h2 h3 h4 h5 h6 h7)
    (e : ∀ j i q, w j (ix2 i q) = T (ix2 ⟨128 * j.val + i.val, by omega⟩ q)) :
    updateSlice (updateSlice (updateSlice (updateSlice (updateSlice (updateSlice (updateSlice (updateSlice f (w 0) ![0, 0] h0) (w 1) ![128, 0] h1) (w 2) ![256, 0] h2)
      (w 3) ![384, 0] h3) (w 4) ![512, 0] h4) (w 5) ![640, 0] h5) (w 6) ![768, 0] h6) (w 7) ![896, 0] h7 = T := by
  funext j
  obtain ⟨i, q, rfl⟩ : ∃ i q, j = ix2 i q := ⟨j 0, j 1, eq_ix2 j⟩
  rw [put_rows, put_rows, put_rows, put_rows, put_rows, put_rows, put_rows, put_rows]
  have hi := i.isLt
  have g (j : Fin 8) (o : ℕ) (ho : o = 128 * j.val) (h : o ≤ i.val ∧ i.val < o + 128) : w j (ix2 ⟨i.val - o, by omega⟩ q) = T (ix2 i q) := by
    rw [e]; congr 2; exact Fin.ext (show 128 * j.val + (i.val - o) = i.val by omega)
  split_ifs with g7 g6 g5 g4 g3 g2 g1 g0
  · exact g 7 896 rfl g7
  · exact g 6 768 rfl g6
  · exact g 5 640 rfl g5
  · exact g 4 512 rfl g4
  · exact g 3 384 rfl g3
  · exact g 2 256 rfl g2
  · exact g 1 128 rfl g1
  · exact g 0 0 rfl g0
  · omega

/-- The eight blocks written. -/
def blk8 (G : Vec Ideal S1024x1024 .bf16) (j : Fin 8) : (⟨2, ![128, 1024]⟩ : Shape).Idx → EReal :=
  match j with
  | 0 => k0_pay34 (F := Ideal) (wj W 0) (gxM.view.readAt (Elt Ideal) rh0.toLoadRect G)
  | 1 => k0_pay35 (F := Ideal) (wj W 1) (gxM.view.readAt (Elt Ideal) rh1.toLoadRect G)
  | 2 => k0_pay36 (F := Ideal) (wj W 2) (gxM.view.readAt (Elt Ideal) rh2.toLoadRect G)
  | 3 => k0_pay37 (F := Ideal) (wj W 3) (gxM.view.readAt (Elt Ideal) rh3.toLoadRect G)
  | 4 => k0_pay38 (F := Ideal) (wj W 4) (gxM.view.readAt (Elt Ideal) rh4.toLoadRect G)
  | 5 => k0_pay39 (F := Ideal) (wj W 5) (gxM.view.readAt (Elt Ideal) rh5.toLoadRect G)
  | 6 => k0_pay40 (F := Ideal) (wj W 6) (gxM.view.readAt (Elt Ideal) rh6.toLoadRect G)
  | 7 => k0_pay42 (k0_pay41 (F := Ideal) (wj W 7) (gxM.view.readAt (Elt Ideal) rh7.toLoadRect G))

theorem blk8_eq (G : Vec Ideal S1024x1024 .bf16) (j : Fin 8) (i : Fin 128) (h : Fin 1024) :
    blk8 W G j (ix2 i h) = rowsW W G (ix2 ⟨128 * j.val + i.val, by omega⟩ h) := by
  match j with
  | 0 => exact (pay34_eq ..).trans ((congrArg (fun g : (⟨2, ![128, 1024]⟩ : Shape).Idx → EReal => ∑ d : Fin 1024, (g (ix2 i d) * wj (F := Ideal) W 0 (ix3 0 d h) : EReal)) (View.ld_unit G _ _ inb_S1024x1024_S128x1024_0_0)).trans (rows_eq W G 0 0 rfl (by decide) i h))
  | 1 => exact (pay35_eq ..).trans ((congrArg (fun g : (⟨2, ![128, 1024]⟩ : Shape).Idx → EReal => ∑ d : Fin 1024, (g (ix2 i d) * wj (F := Ideal) W 1 (ix3 0 d h) : EReal)) (View.ld_unit G _ _ inb_S1024x1024_S128x1024_128_0)).trans (rows_eq W G 1 128 rfl (by decide) i h))
  | 2 => exact (pay36_eq ..).trans ((congrArg (fun g : (⟨2, ![128, 1024]⟩ : Shape).Idx → EReal => ∑ d : Fin 1024, (g (ix2 i d) * wj (F := Ideal) W 2 (ix3 0 d h) : EReal)) (View.ld_unit G _ _ inb_S1024x1024_S128x1024_256_0)).trans (rows_eq W G 2 256 rfl (by decide) i h))
  | 3 => exact (pay37_eq ..).trans ((congrArg (fun g : (⟨2, ![128, 1024]⟩ : Shape).Idx → EReal => ∑ d : Fin 1024, (g (ix2 i d) * wj (F := Ideal) W 3 (ix3 0 d h) : EReal)) (View.ld_unit G _ _ inb_S1024x1024_S128x1024_384_0)).trans (rows_eq W G 3 384 rfl (by decide) i h))
  | 4 => exact (pay38_eq ..).trans ((congrArg (fun g : (⟨2, ![128, 1024]⟩ : Shape).Idx → EReal => ∑ d : Fin 1024, (g (ix2 i d) * wj (F := Ideal) W 4 (ix3 0 d h) : EReal)) (View.ld_unit G _ _ inb_S1024x1024_S128x1024_512_0)).trans (rows_eq W G 4 512 rfl (by decide) i h))
  | 5 => exact (pay39_eq ..).trans ((congrArg (fun g : (⟨2, ![128, 1024]⟩ : Shape).Idx → EReal => ∑ d : Fin 1024, (g (ix2 i d) * wj (F := Ideal) W 5 (ix3 0 d h) : EReal)) (View.ld_unit G _ _ inb_S1024x1024_S128x1024_640_0)).trans (rows_eq W G 5 640 rfl (by decide) i h))
  | 6 => exact (pay40_eq ..).trans ((congrArg (fun g : (⟨2, ![128, 1024]⟩ : Shape).Idx → EReal => ∑ d : Fin 1024, (g (ix2 i d) * wj (F := Ideal) W 6 (ix3 0 d h) : EReal)) (View.ld_unit G _ _ inb_S1024x1024_S128x1024_768_0)).trans (rows_eq W G 6 768 rfl (by decide) i h))
  | 7 => exact (pay41_eq ..).trans ((congrArg (fun g : (⟨2, ![128, 1024]⟩ : Shape).Idx → EReal => ∑ d : Fin 1024, (g (ix2 i d) * wj (F := Ideal) W 7 (ix3 0 d h) : EReal)) (View.ld_unit G _ _ inb_S1024x1024_S128x1024_896_0)).trans (rows_eq W G 7 896 rfl (by decide) i h))

theorem hs_tab (G f : Vec Ideal S1024x1024 .bf16) : hs7 (F := Ideal) W G f = rowsW W G := by
  refine Eq.trans ?_ (table8 (rowsW W G) f (blk8 W G) (by decide) (by decide) (by decide) (by decide) (by decide) (by decide) (by decide) (by decide) (blk8_eq W G))
  exact ((View.write_whole_slice_unit cc0_scratch4 _ _ _ _ _).trans (congrArg (updateSlice · _ _ _) ((View.write_whole_slice_unit cc0_scratch4 _ _ _ _ _).trans (congrArg (updateSlice · _ _ _) ((View.write_whole_slice_unit cc0_scratch4 _ _ _ _ _).trans (congrArg (updateSlice · _ _ _) ((View.write_whole_slice_unit cc0_scratch4 _ _ _ _ _).trans (congrArg (updateSlice · _ _ _) ((View.write_whole_slice_unit cc0_scratch4 _ _ _ _ _).trans (congrArg (updateSlice · _ _ _) ((View.write_whole_slice_unit cc0_scratch4 _ _ _ _ _).trans (congrArg (updateSlice · _ _ _) ((View.write_whole_slice_unit cc0_scratch4 _ _ _ _ _).trans (congrArg (updateSlice · _ _ _) (View.write_whole_slice_unit cc0_scratch4 _ _ _ _ _)))))))))))))))

end Tables

end Cert.KernelIdeal.Moe
end
-- ==== Proof.KernelIdealPlaces.lean ====
module

public import proofs.«01_k».proof.Proof.KernelIdealValue

@[expose] public section

set_option maxRecDepth 16384

noncomputable section

namespace Cert.KernelIdeal.Moe

open Cert.KernelIdeal Cert.KernelIdeal.Gen

open Idealize.ShloMosaic
open Idealize.ShloMosaic.TcCoe
open Idealize.SL.Sem

/-! ### What one device's experts give, place by place and token by token -/

/-- A sum over the places, expert by expert. -/
theorem sum_places (f : Fin 1024 → EReal) : ∑ q, f q = ∑ j : Fin 8, ∑ s : Fin 128, f ⟨128 * j.val + s.val, by omega⟩ := by
  rw [← Fintype.sum_prod_type', ← (finProdFinEquiv (m := 8) (n := 128)).sum_comp f]
  exact Finset.sum_congr rfl fun x _ => congrArg f (Fin.ext (by simp [finProdFinEquiv]; omega))

/-- A nonnegative finite factor goes into a sum. -/
theorem mul_sum_coe {ι : Type} (s : Finset ι) (f : ι → EReal) (r : ℝ) (hr : 0 ≤ r) : (r : EReal) * ∑ x ∈ s, f x = ∑ x ∈ s, (r : EReal) * f x := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

section Places

variable (c : Dev nD) (X : XB Ideal) (R : RB Ideal) (I : IB Ideal) (W : WB Ideal)

/-- No expert is used by more tokens than it has places. -/
def Fits : Prop := ∀ e, (Finset.univ.filter fun i : Fin 2048 => 0 < gt X R I e i).card ≤ 128

/-- Every weight is a nonnegative real number. -/
def Tame : Prop := ∀ e i, ∃ r : ℝ, 0 ≤ r ∧ gt X R I e i = r

variable {X R I}

theorem before_lt_before (e : Fin 64) {i i' : Fin 2048} (h : i < i') (hi : 0 < gt X R I e i) : before X R I e i < before X R I e i' := by
  refine Finset.card_lt_card ⟨fun x hx => ?_, fun hs => ?_⟩
  · have := (Finset.mem_filter.1 hx).2
    exact Finset.mem_filter.2 ⟨Finset.mem_univ _, this.1.trans h, this.2⟩
  · exact absurd (Finset.mem_filter.1 (hs (Finset.mem_filter.2 ⟨Finset.mem_univ i, h, hi⟩))).2.1 (lt_irrefl _)

theorem before_inj (e : Fin 64) {i i' : Fin 2048} (hi : 0 < gt X R I e i) (hi' : 0 < gt X R I e i') (h : before X R I e i = before X R I e i') : i = i' := by
  rcases lt_trichotomy i i' with hl | he | hl
  · exact absurd h (before_lt_before e hl hi).ne
  · exact he
  · exact absurd h (before_lt_before e hl hi').ne'

theorem before_lt (hc : Fits X R I) (e : Fin 64) {i : Fin 2048} (hi : 0 < gt X R I e i) : before X R I e i < 128 := by
  refine lt_of_lt_of_le (Finset.card_lt_card ⟨fun x hx => ?_, fun hs => ?_⟩) (hc e)
  · exact Finset.mem_filter.2 ⟨Finset.mem_univ _, (Finset.mem_filter.1 hx).2.2⟩
  · exact absurd (Finset.mem_filter.1 (hs (Finset.mem_filter.2 ⟨Finset.mem_univ i, hi⟩))).2.1 (lt_irrefl _)

variable (X R I)

/-- What expert `e`, of matrix `w`, adds to token `i`. -/
def adds (e : Fin 64) (w : Fin 1024 → Fin 1024 → EReal) (i : Fin 2048) (h : Fin 1024) : EReal := gt X R I e i * ∑ d : Fin 1024, X (ix2 i d) * w d h

/-- What device `c` adds to token `i`. -/
def part (i : Fin 2048) (h : Fin 1024) : EReal := ∑ j : Fin 8, adds X R I (ex c j) (fun d h => W (ix3 j d h)) i h

variable {X R I}

/-- One expert's places give each of its tokens what the expert adds to it. -/
theorem places_eq (hc : Fits X R I) (hg : Tame X R I) (e : Fin 64) (w : Fin 1024 → Fin 1024 → EReal) (i : Fin 2048) (h : Fin 1024) :
    (∑ s : Fin 128, (if before X R I e i = s.val ∧ 0 < gt X R I e i then 1 else 0 : EReal) *
      ∑ d, (∑ i', (if before X R I e i' = s.val ∧ 0 < gt X R I e i' then gt X R I e i' else 0) * X (ix2 i' d) : EReal) * w d h) = adds X R I e w i h := by
  obtain ⟨r, hr, hri⟩ := hg e i
  by_cases hp : 0 < gt X R I e i
  · rw [Finset.sum_eq_single ⟨before X R I e i, before_lt hc e hp⟩]
    · rw [if_pos ⟨rfl, hp⟩, one_mul, adds, hri, mul_sum_coe _ _ _ hr]
      refine Finset.sum_congr rfl fun d _ => ?_
      rw [Finset.sum_eq_single i]
      · rw [if_pos ⟨rfl, hp⟩, hri, mul_assoc]
      · intro i' _ hne
        rw [if_neg (fun hh => hne (before_inj e hh.2 hp hh.1)), zero_mul]
      · exact fun hh => absurd (Finset.mem_univ _) hh
    · intro s _ hne
      rw [if_neg (fun hh => hne (Fin.ext hh.1.symm)), zero_mul]
    · exact fun hh => absurd (Finset.mem_univ _) hh
  · have h0 : gt X R I e i = 0 := by
      refine le_antisymm (not_lt.1 hp) ?_
      rw [hri]; exact_mod_cast hr
    rw [adds, h0, zero_mul]
    refine Finset.sum_eq_zero fun s _ => ?_
    rw [if_neg (fun hh => lt_irrefl _ hh.2), zero_mul]

/-- Rows taken back from the places. -/
def take (fo : Vec Ideal S2048x1024 .bf16) (fh : Vec Ideal S1024x1024 .bf16) (i : Fin 2048) (h : Fin 1024) : EReal := ∑ q : Fin 1024, (fo (ix2 i q) * fh (ix2 q h) : EReal)

theorem rowsW_ix (G : Vec Ideal S1024x1024 .bf16) (q h : Fin 1024) : rowsW W G (ix2 q h) = ∑ d : Fin 1024, (G (ix2 q d) * W (ix3 (qj q) d h) : EReal) := rfl

theorem take_eq (hc : Fits X R I) (hg : Tame X R I) {fo fh} (hl : LocalOK (F := Ideal) c X R I W fo fh) (i : Fin 2048) (h : Fin 1024) :
    take fo fh i h = part c X R I W i h := by
  obtain ⟨f₁, f₂, f₃, rfl, rfl⟩ := hl
  unfold take part
  rw [sum_places, hs_tab]
  refine Finset.sum_congr rfl fun j _ => Eq.trans ?_ (places_eq hc hg (ex c j) (fun d h => W (ix3 j d h)) i h)
  refine Finset.sum_congr rfl fun s _ => ?_
  have hj : qj ⟨128 * j.val + s.val, by omega⟩ = j := Fin.ext (by simp only [qj]; omega)
  have hm : (128 * j.val + s.val) % 128 = s.val := by omega
  rw [ohu_eq, rowsW_ix]
  simp only [gx_eq, hit, hj, hm]

end Places

end Cert.KernelIdeal.Moe
end
-- ==== Proof.KernelIdealExchange.lean ====
module

public import proofs.«01_k».proof.Proof.KernelIdealPlaces

@[expose] public section

set_option maxRecDepth 16384

noncomputable section

namespace Cert.KernelIdeal.Moe

open Cert.KernelIdeal Cert.KernelIdeal.Gen

open Idealize.ShloMosaic
open Idealize.ShloMosaic.TcCoe
open Idealize.SL.Sem

/-! ### What the exchange makes of the devices' parts -/

set_option backward.proofsInPublic true in
/-- The step that is the `k`-th of part `t`. -/
def stp (k : ℕ) (t : Fin 3) : Fin 18 := ⟨(3 * k + t.val) % 18, Nat.mod_lt _ (by decide)⟩

/-- How many rows of part `t` a device knows after `k` of the part's steps, and the first of them. -/
def rl (t : Fin 3) (k : ℕ) : ℕ := (![![352, 352, 176, 88, 176, 352, 704], ![352, 352, 176, 88, 176, 352, 704], ![320, 320, 160, 80, 160, 320, 640]] : Fin 3 → Fin 7 → ℕ) t (Fin.ofNat 7 k)
def rs (t : Fin 3) (c : Dev nD) (k : ℕ) : ℕ :=
  (![ooff (stp 0 t) c 0, ooff (stp 0 t) c 0, ooff (stp 1 t) c 0, ooff (stp 2 t) c 0, min (ooff (stp 2 t) c 0) (ooff (stp 3 t) c 0),
    min (min (ooff (stp 2 t) c 0) (ooff (stp 3 t) c 0)) (ooff (stp 4 t) c 0), (![0, 704, 1408] : Fin 3 → ℕ) t] : Fin 7 → ℕ) (Fin.ofNat 7 k)

/-- How many of part `t`'s steps are among the first `n`. -/
def kk (t : Fin 3) (n : ℕ) : ℕ := (n + 2 - t.val) / 3

/-- The rows known. -/
def known (t : Fin 3) (c : Dev nD) (k i : ℕ) : Prop := rs t c k ≤ i ∧ i < rs t c k + rl t k

theorem ooff_col (p : Fin 18) (c : Dev nD) : ooff p c 1 = 0 := by revert p c; decide +kernel
theorem soff_col (p : Fin 18) (c : Dev nD) : soff p c 1 = 0 := by revert p c; decide +kernel
/-- A device hears of the rows it accumulates. -/
theorem soff_par (p : Fin 18) (c : Dev nD) : soff p (par p c) 0 = ooff p c 0 := by revert p c; decide +kernel

theorem kk_self (p : Fin 18) : kk (tt p) p.val = p.val / 3 ∧ kk (tt p) (p.val + 1) = p.val / 3 + 1 := by revert p; decide
theorem stp_tt (p : Fin 18) : stp (p.val / 3) (tt p) = p := by revert p; decide
theorem three (t : Fin 3) : t = 0 ∨ t = 1 ∨ t = 2 := by revert t; decide
theorem kk_other (p : Fin 18) (t : Fin 3) (h : t ≠ tt p) : kk t (p.val + 1) = kk t p.val := by revert p t; decide
theorem kk_send (p : Fin 18) (h : 3 ≤ p.val) : kk (tt p) (p.val - 2) = p.val / 3 := by revert p; decide

theorem add_rows (p : Fin 18) (h : p.val < 9) (c : Dev nD) :
    (rs (tt p) c (p.val / 3 + 1) = ooff p c 0 ∧ rl (tt p) (p.val / 3 + 1) = nr p) ∧ rs (tt p) c (p.val / 3) ≤ ooff p c 0 ∧ ooff p c 0 + nr p ≤ rs (tt p) c (p.val / 3) + rl (tt p) (p.val / 3) := by
  revert p c; decide +kernel
theorem set_rows (p : Fin 18) (h : 9 ≤ p.val) (c : Dev nD) :
    (rs (tt p) c (p.val / 3 + 1) = rs (tt p) c (p.val / 3) ∧ rs (tt p) c (p.val / 3) + rl (tt p) (p.val / 3) = ooff p c 0
        ∨ rs (tt p) c (p.val / 3 + 1) = ooff p c 0 ∧ ooff p c 0 + nr p = rs (tt p) c (p.val / 3))
      ∧ rl (tt p) (p.val / 3 + 1) = rl (tt p) (p.val / 3) + nr p := by
  revert p c; decide +kernel
theorem other_rows (p : Fin 18) (c : Dev nD) (t : Fin 3) (h : t ≠ tt p) :
    rs t c (kk t p.val) + rl t (kk t p.val) ≤ ooff p c 0 ∨ ooff p c 0 + nr p ≤ rs t c (kk t p.val) := by
  revert p c t; decide +kernel
theorem send_rows (p : Fin 18) (h : 3 ≤ p.val) (c : Dev nD) :
    rs (tt p) c (p.val / 3) ≤ soff p c 0 ∧ soff p c 0 + nr p ≤ rs (tt p) c (p.val / 3) + rl (tt p) (p.val / 3) := by
  revert p c; decide +kernel
theorem init_rows (c : Dev nD) (t : Fin 3) : rs t c (kk t 0) = ooff (stp 0 t) c 0 ∧ rl t (kk t 0) = nr (stp 0 t) ∧ kk t 0 = 0 := by
  revert c t; decide +kernel
theorem init_apart (c : Dev nD) : ooff 0 c 0 + nr 0 ≤ ooff 1 c 0 ∧ ooff 1 c 0 + nr 1 ≤ ooff 2 c 0 := by revert c; decide +kernel
theorem last_rows (c : Dev nD) (t : Fin 3) : rs t c (kk t 18) = (![0, 704, 1408] : Fin 3 → ℕ) t ∧ rl t (kk t 18) = (![704, 704, 640] : Fin 3 → ℕ) t ∧ kk t 18 = 6 := by
  revert c t; decide +kernel

section Sums

variable (S : Dev nD → Fin 2048 → Fin 1024 → EReal)

/-- What a device has of a row of part `t` after `k` of the part's adding steps. -/
def acc (t : Fin 3) : ℕ → Dev nD → Fin 2048 → Fin 1024 → EReal
  | 0, c, i, h => S c i h
  | k + 1, c, i, h => acc t k c i h + acc t k (par (stp k t) c) i h

theorem all_devices (t : Fin 3) (c : Dev nD) :
    List.Perm [c, par (stp 0 t) c, par (stp 1 t) c, par (stp 0 t) (par (stp 1 t) c), par (stp 2 t) c, par (stp 0 t) (par (stp 2 t) c),
      par (stp 1 t) (par (stp 2 t) c), par (stp 0 t) (par (stp 1 t) (par (stp 2 t) c))] (List.finRange 8) := by
  revert t c; decide

/-- Three steps add all the devices' parts. -/
theorem acc_three (t : Fin 3) (c : Dev nD) (i : Fin 2048) (h : Fin 1024) : acc S t 3 c i h = ∑ d : Dev nD, S d i h := by
  have e : ∑ d : Dev nD, S d i h = ((List.finRange 8).map fun d : Dev nD => S d i h).sum := Fin.sum_univ_def _
  rw [e, ← ((all_devices t c).map fun d : Dev nD => S d i h).sum_eq]
  simp only [acc, List.map_cons, List.map_nil, List.sum_cons, List.sum_nil, add_zero, add_assoc]

/-- What step `p` of device `c` may send. -/
def SentR (p : Fin 18) (c : Dev nD) (v : FVec Ideal (shp p) .bf16) : Prop :=
  ∀ (i : Fin (nr p)) (h : Fin 1024) (hi : soff p c 0 + i.val < 2048), (v (ix2 i h) : EReal) = acc S (tt p) (min (p.val / 3) 3) c ⟨soff p c 0 + i.val, hi⟩ h

/-- What device `c`'s result may hold after `n` steps. -/
def OutR (n : ℕ) (c : Dev nD) (f : Vec Ideal S2048x1024 .f32) : Prop :=
  ∀ (t : Fin 3) (i : Fin 2048) (h : Fin 1024), known t c (kk t n) i.val → (f (ix2 i h) : EReal) = acc S t (min (kk t n) 3) c i h

theorem put_at {N n K : ℕ} {α : Type} (f : (⟨2, ![N, K]⟩ : Shape).Idx → α) (w : (⟨2, ![n, K]⟩ : Shape).Idx → α) (off : Fin 2 → ℕ) (h1 : off 1 = 0)
    (h : (⟨2, ![N, K]⟩ : Shape).Slices off ⟨2, ![n, K]⟩) (i : Fin N) (q : Fin K) :
    updateSlice f w off h (ix2 i q) = if h : off 0 ≤ i.val ∧ i.val < off 0 + n then w (ix2 ⟨i.val - off 0, by omega⟩ q) else f (ix2 i q) := by
  obtain ⟨o, rfl⟩ : ∃ o, off = ![o, 0] := ⟨off 0, by funext a; revert a; rw [Fin.forall_fin_two]; exact ⟨rfl, h1⟩⟩
  exact put_rows f w h i q

theorem get_at {N n K : ℕ} {α : Type} (f : (⟨2, ![N, K]⟩ : Shape).Idx → α) (off : Fin 2 → ℕ) (h1 : off 1 = 0)
    (h : (⟨2, ![N, K]⟩ : Shape).Slices off ⟨2, ![n, K]⟩) (i : Fin n) (q : Fin K) (hb : off 0 + i.val < N) :
    extractStridedSlice ⟨2, ![n, K]⟩ off f h (ix2 i q) = f (ix2 ⟨off 0 + i.val, hb⟩ q) := by
  obtain ⟨o, rfl⟩ : ∃ o, off = ![o, 0] := ⟨off 0, by funext a; revert a; rw [Fin.forall_fin_two]; exact ⟨rfl, h1⟩⟩
  exact get_rows f h i q hb

theorem out_put (p : Fin 18) (c : Dev nD) (f : Vec Ideal S2048x1024 .f32) (w : FVec Ideal (shp p) .f32) (i : Fin 2048) (h : Fin 1024) :
    (outM.access (orect p c)).write (Elt Ideal) f w Finset.univ (ix2 i h)
      = if h' : ooff p c 0 ≤ i.val ∧ i.val < ooff p c 0 + nr p then w (ix2 ⟨i.val - ooff p c 0, by omega⟩ h) else f (ix2 i h) :=
  (congrFun (View.write_whole_slice_unit cc0_stg3_0 (ooff p c) (shp p).size (ooff_inb p c) f w) _).trans
    (put_at (N := 2048) (n := nr p) (K := 1024) f w _ (ooff_col p c) ⟨rfl, ooff_inb p c⟩ i h)

theorem ld_o {α : EltTy → Type} {e : EltTy} (p : Fin 18) (c : Dev nD) (f : S2048x1024.Idx → α e) (i : Fin (nr p)) (h : Fin 1024) (hb : ooff p c 0 + i.val < 2048) :
    View.ld (Val := α) (e' := e) f (orect p c) (ix2 i h) = f (ix2 ⟨ooff p c 0 + i.val, hb⟩ h) :=
  (congrFun (View.ld_unit f (ooff p c) (shp p).size (ooff_inb p c)) _).trans (get_at (N := 2048) (n := nr p) (K := 1024) f _ (ooff_col p c) ⟨rfl, ooff_inb p c⟩ i h hb)

theorem ld_s {α : EltTy → Type} {e : EltTy} (p : Fin 18) (c : Dev nD) (f : S2048x1024.Idx → α e) (i : Fin (nr p)) (h : Fin 1024) (hb : soff p c 0 + i.val < 2048) :
    View.ld (Val := α) (e' := e) f (srect p c) (ix2 i h) = f (ix2 ⟨soff p c 0 + i.val, hb⟩ h) :=
  (congrFun (View.ld_unit f (soff p c) (shp p).size (soff_inb p c)) _).trans (get_at (N := 2048) (n := nr p) (K := 1024) f _ (soff_col p c) ⟨rfl, soff_inb p c⟩ i h hb)

/-- The products that take rows back. -/
theorem pay43_eq (r : Vec Ideal S352x1024 .bf16) (w : Vec Ideal S1024x1024 .bf16) (i : Fin 352) (h : Fin 1024) : (k0_pay43 (F := Ideal) r w (ix2 i h) : EReal) = ∑ q, r (ix2 i q) * w (ix2 q h) := by
  pointwise [k0_pay43]
theorem pay45_eq (r : Vec Ideal S352x1024 .bf16) (w : Vec Ideal S1024x1024 .bf16) (i : Fin 352) (h : Fin 1024) : (k0_pay45 (k0_pay44 (F := Ideal) r w) (ix2 i h) : EReal) = ∑ q, r (ix2 i q) * w (ix2 q h) := by
  pointwise [k0_pay45, k0_pay44]
theorem pay46_eq (r : Vec Ideal S320x1024 .bf16) (w : Vec Ideal S1024x1024 .bf16) (i : Fin 320) (h : Fin 1024) : (k0_pay46 (F := Ideal) r w (ix2 i h) : EReal) = ∑ q, r (ix2 i q) * w (ix2 q h) := by
  pointwise [k0_pay46]
theorem pay47_eq (r : Vec Ideal S352x1024 .bf16) (w : Vec Ideal S1024x1024 .bf16) (i : Fin 352) (h : Fin 1024) : (k0_pay47 (F := Ideal) r w (ix2 i h) : EReal) = ∑ q, r (ix2 i q) * w (ix2 q h) := by
  pointwise [k0_pay47]
theorem pay48_eq (r : Vec Ideal S352x1024 .bf16) (w : Vec Ideal S1024x1024 .bf16) (i : Fin 352) (h : Fin 1024) : (k0_pay48 (F := Ideal) r w (ix2 i h) : EReal) = ∑ q, r (ix2 i q) * w (ix2 q h) := by
  pointwise [k0_pay48]
theorem pay49_eq (r : Vec Ideal S320x1024 .bf16) (w : Vec Ideal S1024x1024 .bf16) (i : Fin 320) (h : Fin 1024) : (k0_pay49 (F := Ideal) r w (ix2 i h) : EReal) = ∑ q, r (ix2 i q) * w (ix2 q h) := by
  pointwise [k0_pay49]

/-- Rows taken back at the rows a step sends. -/
theorem take_s (p : Fin 18) (c : Dev nD) (fo fh) (i : Fin (nr p)) (h : Fin 1024) (hb : soff p c 0 + i.val < 2048) :
    (∑ q : Fin 1024, (View.ld (Val := Elt Ideal) (e' := .bf16) fo (srect p c) (ix2 i q) * fh (ix2 q h) : EReal)) = take fo fh ⟨soff p c 0 + i.val, hb⟩ h :=
  Finset.sum_congr rfl fun q _ => by rw [ld_s p c fo i q hb]
theorem take_o (p : Fin 18) (c : Dev nD) (fo fh) (i : Fin (nr p)) (h : Fin 1024) (hb : ooff p c 0 + i.val < 2048) :
    (∑ q : Fin 1024, (View.ld (Val := Elt Ideal) (e' := .bf16) fo (orect p c) (ix2 i q) * fh (ix2 q h) : EReal)) = take fo fh ⟨ooff p c 0 + i.val, hb⟩ h :=
  Finset.sum_congr rfl fun q _ => by rw [ld_o p c fo i q hb]

variable {S}

theorem add_step (p : Fin 18) (hp : p.val < 9) (c : Dev nD) (f v) (hf : OutR S p.val c f) (hv : SentR S p (par p c) v) :
    OutR S (p.val + 1) c ((outM.access (orect p c)).write (Elt Ideal) f (accAdd (F := Ideal) p v (outM.view.readAt (Elt Ideal) (orect p c).toLoadRect f)) Finset.univ) := by
  intro t i h hk
  obtain ⟨⟨e1, e2⟩, e3, e4⟩ := add_rows p hp c
  obtain ⟨k1, k2⟩ := kk_self p
  rw [out_put]
  by_cases ht : t = tt p
  · subst ht
    rw [k2] at hk ⊢
    unfold known at hk
    rw [e1, e2] at hk
    rw [dif_pos hk]
    have hfi := hf (tt p) i h ⟨by rw [k1]; omega, by rw [k1]; omega⟩
    have hvi := hv ⟨i.val - ooff p c 0, by omega⟩ h (by rw [soff_par]; have := i.isLt; simp only; omega)
    have hi : (⟨soff p (par p c) 0 + (i.val - ooff p c 0), by rw [soff_par]; have := i.isLt; omega⟩ : Fin 2048) = i := Fin.ext (by simp only [soff_par]; omega)
    simp only [hi] at hvi
    have hr : outM.view.readAt (Elt Ideal) (orect p c).toLoadRect f (ix2 ⟨i.val - ooff p c 0, by omega⟩ h) = f (ix2 i h) := by
      refine (ld_o p c f _ h (by have := i.isLt; simp only; omega)).trans ?_
      congr 2; exact Fin.ext (by simp only; omega)
    unfold accAdd
    rw [shapeCast_id]
    refine (congr (congrArg (HAdd.hAdd : EReal → EReal → EReal) (hr.trans hfi)) hvi).trans ?_
    rw [k1]
    have hm : p.val / 3 < 3 := by omega
    rw [min_eq_left hm.le, min_eq_left (by omega), acc, stp_tt]
  · rw [kk_other p t ht] at hk ⊢
    have := other_rows p c t ht
    rw [dif_neg (by unfold known at hk; omega)]
    exact hf t i h hk

theorem set_step (p : Fin 18) (hp : 9 ≤ p.val) (c : Dev nD) (f v) (hf : OutR S p.val c f) (hv : SentR S p (par p c) v) :
    OutR S (p.val + 1) c ((outM.access (orect p c)).write (Elt Ideal) f (accSet (F := Ideal) p v) Finset.univ) := by
  intro t i h hk
  obtain ⟨e1, e2⟩ := set_rows p hp c
  obtain ⟨k1, k2⟩ := kk_self p
  rw [out_put]
  by_cases ht : t = tt p
  · subst ht
    rw [k2] at hk ⊢
    have hm : 3 ≤ p.val / 3 := by omega
    rw [min_eq_right (by omega)]
    unfold known at hk
    split_ifs with hin
    · have hvi := hv ⟨i.val - ooff p c 0, by omega⟩ h (by rw [soff_par]; have := i.isLt; simp only; omega)
      have hi : (⟨soff p (par p c) 0 + (i.val - ooff p c 0), by rw [soff_par]; have := i.isLt; omega⟩ : Fin 2048) = i := Fin.ext (by simp only [soff_par]; omega)
      simp only [hi] at hvi
      refine Eq.trans hvi ?_
      rw [min_eq_right hm, acc_three, acc_three]
    · have hfi := hf (tt p) i h ⟨by rw [k1]; omega, by rw [k1]; omega⟩
      rw [k1, min_eq_right hm] at hfi
      exact hfi
  · rw [kk_other p t ht] at hk ⊢
    have := other_rows p c t ht
    rw [dif_neg (by unfold known at hk; omega)]
    exact hf t i h hk

theorem relay_step (p : Fin 18) (hp : 3 ≤ p.val) (c : Dev nD) (f) (hf : OutR S (p.val - 2) c f) :
    SentR S p c (sendV (F := Ideal) p (outM.view.readAt (Elt Ideal) (srect p c).toLoadRect f)) := by
  intro i h hi
  have hr := ld_s (α := Elt Ideal) (e := .f32) p c f i h hi
  obtain ⟨e1, e2⟩ := send_rows p hp c
  have hk := kk_send p hp
  have hfi := hf (tt p) ⟨soff p c 0 + i.val, hi⟩ h ⟨by rw [hk]; simp only; omega, by rw [hk]; have := i.isLt; simp only; omega⟩
  rw [hk] at hfi
  unfold sendV
  rw [shapeCast_id, shapeCast_id]
  exact hr.trans hfi

theorem out_all (c : Dev nD) (f) (hf : OutR S 18 c f) (i : Fin 2048) (h : Fin 1024) : (f (ix2 i h) : EReal) = ∑ d : Dev nD, S d i h := by
  have g (t : Fin 3) (hh : (![0, 704, 1408] : Fin 3 → ℕ) t ≤ i.val ∧ i.val < (![0, 704, 1408] : Fin 3 → ℕ) t + (![704, 704, 640] : Fin 3 → ℕ) t) : (f (ix2 i h) : EReal) = ∑ d : Dev nD, S d i h := by
    obtain ⟨l1, l2, l3⟩ := last_rows c t
    have := hf t i h (by unfold known; rw [l1, l2]; exact hh)
    rw [l3] at this
    exact this.trans (acc_three S t c i h)
  have := i.isLt
  by_cases h0 : i.val < 704
  · exact g 0 ⟨Nat.zero_le _, by simpa using h0⟩
  by_cases h1 : i.val < 1408
  · exact g 1 ⟨by simpa using h0, by simpa using h1⟩
  · exact g 2 ⟨by simpa using h1, by simpa using this⟩

end Sums

section Spec

variable (m : (ℓ : Loc nD τ sig) → Buf (Elt Ideal) ℓ)

/-- The weights fit their places and are nonnegative real numbers, on each device. -/
def Good : Prop := ∀ c : Dev nD, Fits (m ((c : Thread nD τ).loc main_arg0)) (m ((c : Thread nD τ).loc main_arg1)) (m ((c : Thread nD τ).loc main_arg2))
  ∧ Tame (m ((c : Thread nD τ).loc main_arg0)) (m ((c : Thread nD τ).loc main_arg1)) (m ((c : Thread nD τ).loc main_arg2))

/-- What device `c` adds to the result. -/
def partM (c : Dev nD) (i : Fin 2048) (h : Fin 1024) : EReal :=
  part c (m ((c : Thread nD τ).loc main_arg0)) (m ((c : Thread nD τ).loc main_arg1)) (m ((c : Thread nD τ).loc main_arg2)) (m ((c : Thread nD τ).loc main_arg3)) i h

variable {m}

theorem init_step (c : Dev nD) (fo fh f) (ht : ∀ i h, take fo fh i h = partM m c i h) :
    OutR (partM m) 0 c ((outM.access (orect 2 c)).write (Elt Ideal) ((outM.access (orect 1 c)).write (Elt Ideal) ((outM.access (orect 0 c)).write (Elt Ideal) f
      (k0_pay47 (F := Ideal) (ohuM.view.readAt (Elt Ideal) (orect 0 c).toLoadRect fo) fh) Finset.univ)
      (k0_pay48 (F := Ideal) (ohuM.view.readAt (Elt Ideal) (orect 1 c).toLoadRect fo) fh) Finset.univ)
      (k0_pay49 (F := Ideal) (ohuM.view.readAt (Elt Ideal) (orect 2 c).toLoadRect fo) fh) Finset.univ) := by
  intro t i h hk
  obtain ⟨e1, e2, e3⟩ := init_rows c t
  obtain ⟨a1, a2⟩ := init_apart c
  unfold known at hk
  rw [e1, e2] at hk
  rw [e3]
  refine Eq.trans ?_ (ht i h)
  have hi := i.isLt
  have eqI (p : Fin 18) (hp : ooff p c 0 ≤ i.val) : (⟨ooff p c 0 + (i.val - ooff p c 0), by omega⟩ : Fin 2048) = i := Fin.ext (by simp only; omega)
  have g (p : Fin 18) (hp : ooff p c 0 ≤ i.val ∧ i.val < ooff p c 0 + nr p) : (∑ q : Fin 1024, (View.ld (Val := Elt Ideal) (e' := .bf16) fo (orect p c) (ix2 ⟨i.val - ooff p c 0, by omega⟩ q) * fh (ix2 q h) : EReal)) = take fo fh i h := by
    rw [take_o p c fo fh ⟨i.val - ooff p c 0, by omega⟩ h (by simp only; omega)]
    simp only [eqI p hp.1]
  refine (out_put 2 c _ _ i h).trans ?_
  rcases three t with rfl | rfl | rfl
  · have hk' : ooff 0 c 0 ≤ i.val ∧ i.val < ooff 0 c 0 + nr 0 := hk
    rw [dif_neg (by omega)]
    refine (out_put 1 c _ _ i h).trans ?_
    rw [dif_neg (by omega)]
    refine (out_put 0 c _ _ i h).trans ?_
    rw [dif_pos hk']
    exact (pay47_eq ..).trans (g 0 hk')
  · have hk' : ooff 1 c 0 ≤ i.val ∧ i.val < ooff 1 c 0 + nr 1 := hk
    rw [dif_neg (by omega)]
    refine (out_put 1 c _ _ i h).trans ?_
    rw [dif_pos hk']
    exact (pay48_eq ..).trans (g 1 hk')
  · have hk' : ooff 2 c 0 ≤ i.val ∧ i.val < ooff 2 c 0 + nr 2 := hk
    rw [dif_pos hk']
    exact (pay49_eq ..).trans (g 2 hk')

/-- The relation the exchange keeps: what is sent and accumulated are the sums of the devices' parts. -/
def sumSpec (hm : Good m) : Spec m where
  Sent := SentR (partM m)
  Out := OutR (partM m)
  sent0 c fo fh hl i h hi := (pay43_eq ..).trans ((take_s 0 c fo fh i h hi).trans (take_eq c _ (hm c).1 (hm c).2 hl _ h))
  sent1 c fo fh hl i h hi := (pay45_eq ..).trans ((take_s 1 c fo fh i h hi).trans (take_eq c _ (hm c).1 (hm c).2 hl _ h))
  sent2 c fo fh hl i h hi := (pay46_eq ..).trans ((take_s 2 c fo fh i h hi).trans (take_eq c _ (hm c).1 (hm c).2 hl _ h))
  init c fo fh f hl := init_step c fo fh f fun i h => take_eq c _ (hm c).1 (hm c).2 hl i h
  add p hp c f v hf hv := add_step p hp c f v hf hv
  set p hp c f v hf hv := set_step p hp c f v hf hv
  send p hp c f hf := relay_step p hp c f hf

end Spec

end Cert.KernelIdeal.Moe
end
-- ==== Proof.KernelIdealReference.lean ====
module

public import proofs.«01_k».proof.Proof.KernelIdealExchange
public import proofs.«01_k».proof.Pre_admitted_KernelIdeal
public import proofs.«01_k».proof.Proof.Gen.ReferenceIdeal.Run

@[expose] public section

set_option maxRecDepth 16384

noncomputable section

namespace Cert.KernelIdeal.Moe

open Idealize.ShloMosaic
open Idealize.ShloMosaic.TcCoe
open Idealize.SL.Sem

/-! ### What the precondition says -/

instance preFacts : Cert.Pre_admitted_KernelIdeal.Facts where
  bcast_S64_S1x64_1 := by decide
  slices_S2048x2_S2048x1_0_0 := by decide
  bcast_S2048x1_S2048x64_0_1 := by decide
  bcast_S1x64_S2048x64_0_1 := by decide
  slices_S2048x2_S2048x1_0_1 := by decide
  natLt_1_32 := by decide
  reducesTo_S2048x64_S64_d0 := by decide
  h_S_ := by decide
  bcast_S_S64 := by decide
  bcast_S_S2048x1024 := by decide
  bcast_S_S1024x64 := by decide

theorem posInf : Ideal.ofBits .f32 0x7F800000#32 = (⊤ : EReal) := by simp [Ideal.ofBits, Ideal.ieee]

theorem negInf : Ideal.ofBits .f32 0xFF800000#32 = (⊥ : EReal) := by simp [Ideal.ofBits, Ideal.ieee]

/-- A number whose magnitude is below infinity is real. -/
theorem real_of_lt (x : EReal) (h : BitVec.ofBool (decide (max x (-x) < Ideal.ofBits .f32 0x7F800000#32)) = 1#1) : ∃ r : ℝ, x = r := by
  have h' : max x (-x) < ⊤ := by
    rw [posInf] at h
    by_contra hn
    rw [decide_eq_false hn] at h
    exact absurd h (by decide)
  induction x using EReal.rec with
  | bot => simp at h'
  | top => simp at h'
  | coe r => exact ⟨r, rfl⟩

theorem two (k : Fin 2) : k = 0 ∨ k = 1 := by revert k; decide

theorem bit_cases (v : BitVec 1) : v = 0#1 ∨ v = 1#1 := by revert v; decide

/-- A sum of bits, as words, counts the places whose bit is set. -/
theorem fold_count {ι : Type} [DecidableEq ι] (s : Finset ι) (b : ι → BitVec 1) :
    Finset.fold IntOp.addi 0#32 (fun x => BitVec.setWidth 32 (b x)) s = BitVec.ofNat 32 (s.filter fun x => b x = 1#1).card := by
  induction s using Finset.induction_on with
  | empty => rfl
  | insert a s ha ih =>
    rw [Finset.fold_insert ha, ih, Finset.filter_insert]
    rcases bit_cases (b a) with h | h
    · rw [h, if_neg (by decide)]
      exact BitVec.zero_add _
    · rw [h, if_pos rfl, Finset.card_insert_of_notMem (fun hh => ha (Finset.mem_filter.1 hh).1), BitVec.ofNat_add]
      exact BitVec.add_comm _ _

section Pre

variable {X : XB Ideal} {R : RB Ideal} {I : IB Ideal} {W : WB Ideal}

/-- Each entry of an array is a real number. -/
def Real2 {a b : ℕ} (f : Fin a → Fin b → EReal) : Prop := ∃ r : Fin a → Fin b → ℝ, ∀ i j, f i j = r i j

theorem pre_x (h : (Cert.Pre_admitted_KernelIdeal.fn (F := Ideal) X R I W).2.1 = fun _ => 1#1) : Real2 fun i d => (X (ix2 i d) : EReal) := by
  have hx (i : Fin 2048) (d : Fin 1024) : ∃ r : ℝ, (X (ix2 i d) : EReal) = r := by
    have := congrFun h (ix2 i d)
    revert this
    pointwise [Cert.Pre_admitted_KernelIdeal.fn, Cert.Pre_admitted_KernelIdeal.fn_part1]
    exact real_of_lt _
  choose r hr using hx
  exact ⟨r, hr⟩

theorem pre_r (h : (Cert.Pre_admitted_KernelIdeal.fn (F := Ideal) X R I W).2.2 = fun _ => 1#1) : Real2 fun d e => (R (ix2 d e) : EReal) := by
  have hx (i : Fin 1024) (d : Fin 64) : ∃ r : ℝ, (R (ix2 i d) : EReal) = r := by
    have := congrFun h (ix2 i d)
    revert this
    pointwise [Cert.Pre_admitted_KernelIdeal.fn, Cert.Pre_admitted_KernelIdeal.fn_part1]
    exact real_of_lt _
  choose r hr using hx
  exact ⟨r, hr⟩

theorem gt_pos_chosen (e : Fin 64) (i : Fin 2048) (h : 0 < gt X R I e i) : BitVec.ofNat 32 e.val = I (ix2 i 0) ∨ BitVec.ofNat 32 e.val = I (ix2 i 1) := by
  by_contra hn
  rw [not_or] at hn
  rw [gt, if_neg hn.1, if_neg hn.2, add_zero] at h
  exact lt_irrefl _ h

theorem or_bit (a b : BitVec 1) : IntOp.ori a b = 1#1 ↔ a = 1#1 ∨ b = 1#1 := by revert a b; decide

theorem sle_count (n : ℕ) (hn : n ≤ 2048) (h : IntOp.cmpi .sle (BitVec.ofNat 32 n) 128#32 = 1#1) : n ≤ 128 := by
  by_contra hlt
  have h1 : (BitVec.ofNat 32 n).sle 128#32 = true := by
    revert h
    unfold IntOp.cmpi
    simp only
    cases (BitVec.ofNat 32 n).sle 128#32 <;> simp
  rw [BitVec.sle_iff_toInt_le, BitVec.toInt_ofNat'] at h1
  have : Int.bmod (n : ℤ) (2 ^ 32) = n := by
    rw [Int.bmod_eq_of_le] <;> omega
  have h2 : (128#32 : BitVec 32).toInt = 128 := by decide
  norm_num at this h1
  omega

theorem pre_fits (h : (Cert.Pre_admitted_KernelIdeal.fn (F := Ideal) X R I W).1 = fun _ => 1#1) : Fits X R I := by
  intro e
  have := congrFun h (ix1 e)
  revert this
  pointwise [Cert.Pre_admitted_KernelIdeal.fn, Cert.Pre_admitted_KernelIdeal.fn_part1]
  rw [fold_count]
  intro h'
  refine le_trans (Finset.card_le_card fun i hi => ?_) (sle_count _ ?_ h')
  · refine Finset.mem_filter.2 ⟨Finset.mem_univ _, (or_bit _ _).2 ?_⟩
    rw [StableHlo.Predicate.cmpi_eq_iff, StableHlo.Predicate.cmpi_eq_iff, eq_comm, eq_comm (a := I (ix2 i 1))]
    exact gt_pos_chosen e i (Finset.mem_filter.1 hi).2
  · exact (Finset.card_filter_le _ _).trans (by simp)

end Pre

/-! ### The weights are real -/

theorem fold_real {ι : Type} [DecidableEq ι] (s : Finset ι) (f : ι → ℝ) (hs : s.Nonempty) : ∃ r : ℝ, Finset.fold max (⊥ : EReal) (fun x => (f x : EReal)) s = r := by
  induction s using Finset.induction_on with
  | empty => exact absurd hs (by simp)
  | insert a s ha ih =>
    rw [Finset.fold_insert ha]
    rcases s.eq_empty_or_nonempty with rfl | h
    · exact ⟨f a, by simp⟩
    · obtain ⟨r, hr⟩ := ih h
      exact ⟨max (f a) r, by rw [hr]; exact (EReal.coe_strictMono.monotone.map_max).symm⟩

section Weights

variable {X : XB Ideal} {R : RB Ideal} (I : IB Ideal)

theorem pr_real (hX : Real2 fun i d => (X (ix2 i d) : EReal)) (hR : Real2 fun d e => (R (ix2 d e) : EReal)) (i : Fin 2048) :
    ∃ p : Fin 64 → ℝ, ∀ e, 0 < p e ∧ pr X R i e = p e := by
  obtain ⟨x, hx⟩ := hX
  obtain ⟨w, hw⟩ := hR
  have hs (e : Fin 64) : score X R i e = ((∑ d, x i d * w d e : ℝ) : EReal) := by
    rw [score, coe_sum]
    refine Finset.sum_congr rfl fun d _ => ?_
    rw [EReal.coe_mul, ← hx, ← hw]
  obtain ⟨M, hM⟩ := fold_real (Finset.univ : Finset (Fin 64)) (fun e => ∑ d, x i d * w d e) ⟨0, Finset.mem_univ _⟩
  refine ⟨fun e => Real.exp ((∑ d, x i d * w d e) - M), fun e => ⟨Real.exp_pos _, ?_⟩⟩
  have hf : Finset.fold max (Ideal.ofBits .f32 0xFF800000#32 : EReal) (fun e => score X R i e) Finset.univ = M := by
    rw [negInf, ← hM]
    exact congrArg (fun f => Finset.fold max (⊥ : EReal) f Finset.univ) (funext hs)
  rw [pr, hf, hs, ← EReal.coe_sub, Ideal.exp_coe]

/-- What a token's two choices have of it: two nonnegative real numbers, positive where the choice is an expert. -/
theorem pk_real {i : Fin 2048} {p : Fin 64 → ℝ} (hp : ∀ e, 0 < p e ∧ pr X R i e = p e) (k : Fin 2) :
    ∃ q : ℝ, 0 ≤ q ∧ pk X R I k i = q ∧ q = (∑ e : Fin 64, if BitVec.ofNat 32 e.val = I (ix2 i k) then p e else 0) ∧
      ∀ e : Fin 64, BitVec.ofNat 32 e.val = I (ix2 i k) → 0 < q := by
  have h0 (e : Fin 64) : 0 ≤ (if BitVec.ofNat 32 e.val = I (ix2 i k) then p e else 0) := by
    split
    · exact (hp e).1.le
    · exact le_rfl
  refine ⟨_, Finset.sum_nonneg fun e _ => h0 e, ?_, rfl, fun e he => Finset.sum_pos' (fun e _ => h0 e) ⟨e, Finset.mem_univ _, ?_⟩⟩
  · rw [pk, coe_sum]
    refine Finset.sum_congr rfl fun e _ => ?_
    split
    · exact (hp e).2
    · rfl
  · rw [if_pos he]; exact (hp e).1

theorem wk_real {i : Fin 2048} {p : Fin 64 → ℝ} (hp : ∀ e, 0 < p e ∧ pr X R i e = p e) (k : Fin 2) (e : Fin 64) :
    ∃ r : ℝ, 0 ≤ r ∧ (if BitVec.ofNat 32 e.val = I (ix2 i k) then wk X R I k i else 0) = (r : EReal) := by
  by_cases he : BitVec.ofNat 32 e.val = I (ix2 i k)
  · obtain ⟨q0, n0, h0, _, p0⟩ := pk_real I hp 0
    obtain ⟨q1, n1, h1, _, p1⟩ := pk_real I hp 1
    obtain ⟨q, n, h, _, pq⟩ := pk_real I hp k
    have hs : 0 < q0 + q1 := by
      rcases two k with rfl | rfl
      · have := p0 e he; linarith
      · have := p1 e he; linarith
    refine ⟨q * (1 / (q0 + q1)), by positivity, ?_⟩
    rw [if_pos he, wk, h, h0, h1, ← EReal.coe_add, Ideal.div_coe hs.ne', EReal.coe_mul]
  · exact ⟨0, le_rfl, by rw [if_neg he]; rfl⟩

theorem tame (hX : Real2 fun i d => (X (ix2 i d) : EReal)) (hR : Real2 fun d e => (R (ix2 d e) : EReal)) : Tame X R I := by
  intro e i
  obtain ⟨p, hp⟩ := pr_real hX hR i
  obtain ⟨r0, n0, h0⟩ := wk_real I hp 0 e
  obtain ⟨r1, n1, h1⟩ := wk_real I hp 1 e
  exact ⟨r0 + r1, by positivity, by rw [gt, h0, h1, EReal.coe_add]⟩

/-- One weight times the one expert it belongs to, as a sum over the experts. -/
theorem one_choice (a : BitVec 32) (w : EReal) (y : Fin 64 → EReal) :
    (∑ e : Fin 64, (if BitVec.ofNat 32 e.val = a then w else 0) * y e) = w * ∑ e : Fin 64, if BitVec.ofNat 32 e.val = a then y e else 0 := by
  by_cases h : ∃ e : Fin 64, BitVec.ofNat 32 e.val = a
  · obtain ⟨e, rfl⟩ := h
    have hne (b : Fin 64) (hb : b ≠ e) : ¬ BitVec.ofNat 32 b.val = BitVec.ofNat 32 e.val := fun hh => hb (Fin.ext (by
      have := congrArg BitVec.toNat hh
      simp only [BitVec.toNat_ofNat] at this
      omega))
    rw [Finset.sum_eq_single e, Finset.sum_eq_single e, if_pos rfl, if_pos rfl]
    · exact fun b _ hb => if_neg (hne b hb)
    · exact fun hh => absurd (Finset.mem_univ _) hh
    · intro b _ hb; rw [if_neg (hne b hb), zero_mul]
    · exact fun hh => absurd (Finset.mem_univ _) hh
  · have hn (e : Fin 64) : ¬ BitVec.ofNat 32 e.val = a := fun hh => h ⟨e, hh⟩
    simp only [hn, if_false, zero_mul, Finset.sum_const_zero, mul_zero]

/-- The two choices' weighted results are the sum over all experts of what each adds. -/
theorem two_choices {i : Fin 2048} {p : Fin 64 → ℝ} (hp : ∀ e, 0 < p e ∧ pr X R i e = p e) (y : Fin 64 → EReal) :
    (∑ e : Fin 64, gt X R I e i * y e) = wk X R I 0 i * (∑ e : Fin 64, if BitVec.ofNat 32 e.val = I (ix2 i 0) then y e else 0)
      + wk X R I 1 i * (∑ e : Fin 64, if BitVec.ofNat 32 e.val = I (ix2 i 1) then y e else 0) := by
  rw [← one_choice, ← one_choice, ← Finset.sum_add_distrib]
  refine Finset.sum_congr rfl fun e _ => ?_
  obtain ⟨r0, n0, h0⟩ := wk_real I hp 0 e
  obtain ⟨r1, n1, h1⟩ := wk_real I hp 1 e
  rw [gt, EReal.right_distrib_of_nonneg]
  · rw [h0]; exact_mod_cast n0
  · rw [h1]; exact_mod_cast n1

/-- What a token's `k`-th choice has of it once its row is divided by the row's sum. -/
def qk (X : XB Ideal) (R : RB Ideal) (I : IB Ideal) (k : Fin 2) (i : Fin 2048) : EReal :=
  ∑ e : Fin 64, if BitVec.ofNat 32 e.val = I (ix2 i k) then Ideal.div (pr X R i e) (∑ e, pr X R i e) else 0

/-- Dividing a row by its sum first does not change the weights. -/
theorem weights_eq {i : Fin 2048} {p : Fin 64 → ℝ} (hp : ∀ e, 0 < p e ∧ pr X R i e = p e) (k : Fin 2) :
    Ideal.div (qk X R I k i) (qk X R I 0 i + qk X R I 1 i) = wk X R I k i := by
  have hz : (0 : ℝ) < ∑ e : Fin 64, p e := Finset.sum_pos (fun e _ => (hp e).1) ⟨(0 : Fin 64), Finset.mem_univ _⟩
  have hZ : (∑ e, pr X R i e) = ((∑ e, p e : ℝ) : EReal) := by
    rw [coe_sum]; exact Finset.sum_congr rfl fun e _ => (hp e).2
  have hq (k : Fin 2) (q : ℝ) (h : q = ∑ e : Fin 64, if BitVec.ofNat 32 e.val = I (ix2 i k) then p e else 0) : qk X R I k i = ((q * (1 / ∑ e, p e) : ℝ) : EReal) := by
    rw [qk, hZ, h, Finset.sum_mul]
    refine Eq.trans ?_ (coe_sum _ _).symm
    refine Finset.sum_congr rfl fun e _ => ?_
    split
    · rw [(hp e).2, Ideal.div_coe hz.ne', EReal.coe_mul]
    · rw [zero_mul]; rfl
  obtain ⟨q0, n0, h0, e0, _⟩ := pk_real I hp 0
  obtain ⟨q1, n1, h1, e1, _⟩ := pk_real I hp 1
  obtain ⟨q, n, h, e, _⟩ := pk_real I hp k
  rw [hq 0 q0 e0, hq 1 q1 e1, hq k q e, wk, h, h0, h1]
  rcases (add_nonneg n0 n1).eq_or_lt with hs | hs
  · have a0 : q0 = 0 := by linarith
    have a1 : q1 = 0 := by linarith
    have aq : q = 0 := by
      rcases two k with rfl | rfl
      · rw [e, ← e0, a0]
      · rw [e, ← e1, a1]
    simp only [a0, a1, aq, zero_mul]
  · have hd : q0 * (1 / ∑ e, p e) + q1 * (1 / ∑ e, p e) ≠ 0 := by
      rw [← add_mul]; positivity
    rw [← EReal.coe_add, ← EReal.coe_add, Ideal.div_coe hd, Ideal.div_coe hs.ne', ← EReal.coe_mul, ← EReal.coe_mul]
    refine congrArg _ ?_
    have := hz.ne'
    have := hs.ne'
    field_simp

end Weights

/-! ### What the reference computes -/

section Ref

variable (m : (ℓ : Loc Cert.ReferenceIdeal.nD Cert.ReferenceIdeal.τ Cert.ReferenceIdeal.sig) → Buf (Elt Ideal) ℓ) (c : Dev Cert.ReferenceIdeal.nD)

/-- The reference's result in its own order of operations. -/
theorem ref_raw (X : XB Ideal) (R : RB Ideal) (I : IB Ideal) (W : Vec Ideal ⟨3, ![64, 1024, 1024]⟩ .f32)
    (hX : m ((c.tc : Thread _ _).loc Cert.ReferenceIdeal.main_arg0) = X) (hR : m ((c.tc : Thread _ _).loc Cert.ReferenceIdeal.main_arg1) = R)
    (hI : m ((c.tc : Thread _ _).loc Cert.ReferenceIdeal.main_arg2) = I) (hW : m ((c.tc : Thread _ _).loc Cert.ReferenceIdeal.main_arg3) = W)
    (i : Fin 2048) (h : Fin 1024) :
    Cert.ReferenceIdeal.Value.res_main_v46 m c (ix2 i h) =
      (Ideal.div (qk X R I 0 i) (qk X R I 0 i + qk X R I 1 i) * (∑ e : Fin 64, if BitVec.ofNat 32 e.val = I (ix2 i 0) then ∑ d : Fin 1024, X (ix2 i d) * W (ix3 e d h) else 0)
      + Ideal.div (qk X R I 1 i) (qk X R I 0 i + qk X R I 1 i) * (∑ e : Fin 64, if BitVec.ofNat 32 e.val = I (ix2 i 1) then ∑ d : Fin 1024, X (ix2 i d) * W (ix3 e d h) else 0) : EReal) := by
  unfold Cert.ReferenceIdeal.Value.res_main_v46
  rw [hX, hR, hI, hW]
  pointwise [id]
  simp only [sel_eq]
  rfl

end Ref

/-! ### The devices' parts together -/

open Cert.KernelIdeal Cert.KernelIdeal.Gen

/-- A sum over the experts, device by device. -/
theorem sum_experts (f : Fin 64 → EReal) : ∑ e, f e = ∑ c : Dev nD, ∑ j : Fin 8, f (ex c j) := by
  rw [← Fintype.sum_prod_type', ← (finProdFinEquiv (m := 8) (n := 8)).sum_comp f]
  exact Finset.sum_congr rfl fun x _ => congrArg f (Fin.ext (by simp [finProdFinEquiv, ex]; omega))

/-- Device `c`'s `j`-th matrix is the array's matrix of its `j`-th expert. -/
theorem block_at (W : Vec Ideal ⟨3, ![64, 1024, 1024]⟩ .f32) (c : Dev nD) (j : Fin 8) (d h : Fin 1024) :
    (Layout.block ⟨3, ![8, 1024, 1024]⟩ ⟨3, ![64, 1024, 1024]⟩ 0 8 c W : WB Ideal) (ix3 j d h) = W (ix3 (ex c j) d h) := by
  rw [Layout.block_apply]
  refine congrArg W ?_
  funext a
  refine Fin.ext ?_
  rw [Layout.Tiles.idx_val]
  fin_cases a
  · simp [ex, ix3]; omega
  · rfl
  · rfl

section Total

variable (m : (ℓ : Loc nD τ sig) → Buf (Elt Ideal) ℓ) (X : XB Ideal) (R : RB Ideal) (I : IB Ideal) (W : Vec Ideal ⟨3, ![64, 1024, 1024]⟩ .f32)

/-- Every device holds the same tokens, router and choices, and its own eight matrices of `W`. -/
def Holds : Prop := ∀ c : Dev nD, m ((c.tc : Thread nD τ).loc main_arg0) = X ∧ m ((c.tc : Thread nD τ).loc main_arg1) = R
  ∧ m ((c.tc : Thread nD τ).loc main_arg2) = I ∧ m ((c.tc : Thread nD τ).loc main_arg3) = Layout.block ⟨3, ![8, 1024, 1024]⟩ ⟨3, ![64, 1024, 1024]⟩ 0 8 c W

variable {m X R I W}

theorem good (hh : Holds m X R I W) (hf : Fits X R I) (ht : Tame X R I) : Good m := fun c => by
  obtain ⟨h0, h1, h2, _⟩ := hh c
  rw [h0, h1, h2]
  exact ⟨hf, ht⟩

theorem total (hh : Holds m X R I W) (i : Fin 2048) (h : Fin 1024) :
    (∑ c : Dev nD, partM m c i h) = ∑ e : Fin 64, gt X R I e i * ∑ d : Fin 1024, X (ix2 i d) * W (ix3 e d h) := by
  rw [sum_experts]
  refine Finset.sum_congr rfl fun c _ => ?_
  obtain ⟨h0, h1, h2, h3⟩ := hh c
  unfold partM part
  rw [h0, h1, h2, h3]
  refine Finset.sum_congr rfl fun j _ => ?_
  exact congrArg (fun z : EReal => gt X R I (ex c j) i * z)
    (Finset.sum_congr rfl fun d _ => congrArg (fun z : EReal => X (ix2 i d) * z) (block_at W c j d h))

end Total

/-- On admitted arguments, what every device of the kernel ends with is the reference's result. -/
theorem out_eq_ref {m : (ℓ : Loc nD τ sig) → Buf (Elt Ideal) ℓ} {m' : (ℓ : Loc Cert.ReferenceIdeal.nD Cert.ReferenceIdeal.τ Cert.ReferenceIdeal.sig) → Buf (Elt Ideal) ℓ}
    {c' : Dev Cert.ReferenceIdeal.nD} {X : XB Ideal} {R : RB Ideal} {I : IB Ideal} {W : Vec Ideal ⟨3, ![64, 1024, 1024]⟩ .f32}
    (hX : m' ((c'.tc : Thread _ _).loc Cert.ReferenceIdeal.main_arg0) = X) (hR : m' ((c'.tc : Thread _ _).loc Cert.ReferenceIdeal.main_arg1) = R)
    (hI : m' ((c'.tc : Thread _ _).loc Cert.ReferenceIdeal.main_arg2) = I) (hW : m' ((c'.tc : Thread _ _).loc Cert.ReferenceIdeal.main_arg3) = W)
    (hh : Holds m X R I W) (rx : Real2 fun i d => (X (ix2 i d) : EReal)) (rr : Real2 fun d e => (R (ix2 d e) : EReal))
    (c : Dev nD) (f : Vec Ideal S2048x1024 .f32) (hf : OutR (partM m) 18 c f) : f = Cert.ReferenceIdeal.Value.res_main_v46 m' c' := by
  funext q
  obtain ⟨i, h, rfl⟩ : ∃ i h, q = ix2 i h := ⟨q 0, q 1, eq_ix2 q⟩
  obtain ⟨p, hp⟩ := pr_real rx rr i
  refine (out_all c f hf i h).trans ((total hh i h).trans ((two_choices I hp _).trans ?_))
  refine Eq.trans ?_ (ref_raw m' c' X R I W hX hR hI hW i h).symm
  rw [weights_eq I hp 0, weights_eq I hp 1]

end Cert.KernelIdeal.Moe
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealReference
public import Idealize.ShloMosaic.Adequacy
public import Idealize.ShloMosaic.Init

@[expose] public section

noncomputable section

namespace Cert.Proof

open Idealize.ShloMosaic Idealize.SL.Sem Cert.Kernel

/-- The kernel at machine floats: from any memory every fair execution ends, with the four arguments unchanged on every
    device and every counter back at zero. -/
theorem frame_Kernel : Cert.quiescent_Kernel (hKernel := Cert.Kernel.Gen.facts) := fun m g _ =>
  (θ_run Cert.Kernel.defs _ _).mono (fun _ h => ⟨fun c => ⟨(h.1 c).1, (h.1 c).2.1, (h.1 c).2.2.1, (h.1 c).2.2.2.1⟩, h.2⟩)
    (Cert.Kernel.Moe.run_main (F := Bits) (Cert.Kernel.Moe.Spec.any m) g)

/-- The same of the kernel at extended reals. -/
theorem frame_KernelIdeal : Cert.quiescent_KernelIdeal (hKernelIdeal := Cert.KernelIdeal.Gen.facts) := fun m g _ =>
  (θ_run Cert.KernelIdeal.defs _ _).mono (fun _ h => ⟨fun c => ⟨(h.1 c).1, (h.1 c).2.1, (h.1 c).2.2.1, (h.1 c).2.2.2.1⟩, h.2⟩)
    (Cert.KernelIdeal.Moe.run_main (F := Ideal) (Cert.KernelIdeal.Moe.Spec.any m) g)

/-- The reference is a straight line of host operations that writes no argument and declares no counter. -/
theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The side conditions of the precondition, read of the reference's arguments. -/
instance preFacts : Cert.Pre_admitted_ReferenceIdeal.Facts where
  bcast_S64_S1x64_1 := by decide
  slices_S2048x2_S2048x1_0_0 := by decide
  bcast_S2048x1_S2048x64_0_1 := by decide
  bcast_S1x64_S2048x64_0_1 := by decide
  slices_S2048x2_S2048x1_0_1 := by decide
  natLt_1_32 := by decide
  reducesTo_S2048x64_S64_d0 := by decide
  h_S_ := by decide
  bcast_S_S64 := by decide
  bcast_S_S2048x1024 := by decide
  bcast_S_S1024x64 := by decide

/-- On admitted arguments every device of the kernel ends with the reference's result, on extended reals. -/
theorem algebraic : Cert.algebraic_KernelIdeal_ReferenceIdeal_pre_admitted_KernelIdeal (hKernelIdeal := Cert.KernelIdeal.Gen.facts)
    (hReferenceIdeal := Cert.ReferenceIdeal.Gen.facts) (hPre_admitted_KernelIdeal := Cert.KernelIdeal.Moe.preFacts) := by
  intro m g m' g' hpre hargs
  obtain ⟨p0, p1, p2⟩ := hpre 0
  obtain ⟨a0, a1, a2, _⟩ := hargs 0
  rw [a0, a1, a2] at p0 p1 p2
  have rx := Cert.KernelIdeal.Moe.pre_x p1
  have rr := Cert.KernelIdeal.Moe.pre_r p2
  have hh : Cert.KernelIdeal.Moe.Holds m _ _ _ _ := hargs
  have hg := Cert.KernelIdeal.Moe.good hh (Cert.KernelIdeal.Moe.pre_fits p0) (Cert.KernelIdeal.Moe.tame _ rx rr)
  refine ⟨Cert.ReferenceIdeal.Value.res_main_v46 m' 0, ?_, ?_⟩
  · refine (θ_run Cert.KernelIdeal.defs _ _).mono (fun r h c => ?_) (Cert.KernelIdeal.Moe.run_main (F := Ideal) (Cert.KernelIdeal.Moe.sumSpec hg) g)
    obtain ⟨u0, u1, u2, u3, ho⟩ := h.1 c
    exact ⟨Cert.KernelIdeal.Moe.out_eq_ref rfl rfl rfl rfl hh rx rr c _ ho, u0, u1, u2, u3⟩
  · exact (θ_run Cert.ReferenceIdeal.defs _ _).mono (fun r h => h 0) (Cert.ReferenceIdeal.Value.run (F := Ideal) m' g')

theorem claim : Cert.Claim :=
  ⟨Cert.Kernel.Gen.facts, Cert.KernelIdeal.Gen.facts, Cert.ReferenceIdeal.Gen.facts, Cert.KernelIdeal.Moe.preFacts, preFacts,
    frame_Kernel, frame_KernelIdeal, fun m g _ => frame_KernelIdeal m g trivial, frame_ReferenceIdeal,
    fun m g _ => frame_ReferenceIdeal m g trivial, trivial, algebraic⟩

end Cert.Proof

end
